-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v8)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v19)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v19) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v62) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v63_0)) (v1 : (c : Dev Cert.Kernel4Ideal.nD) → Buf (Elt Ideal) ((c.tc : Thread Cert.Kernel4Ideal.nD Cert.Kernel4Ideal.τ).loc Cert.Kernel4Ideal.main_v63_1)) (v2 : (c : Dev Cert.Kernel4Ideal.nD) → Buf (Elt Ideal) ((c.tc : Thread Cert.Kernel4Ideal.nD Cert.Kernel4Ideal.τ).loc Cert.Kernel4Ideal.main_v63_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v63_0) = v0 c
          ∧ r.2.mem ((c.tc : Thread Cert.Kernel4Ideal.nD Cert.Kernel4Ideal.τ).loc Cert.Kernel4Ideal.main_v63_1) = v1 c
          ∧ r.2.mem ((c.tc : Thread Cert.Kernel4Ideal.nD Cert.Kernel4Ideal.τ).loc Cert.Kernel4Ideal.main_v63_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v216) = v0 c
          ∧ r.2.mem ((c.tc : Thread Cert.Reference4Ideal.nD Cert.Reference4Ideal.τ).loc Cert.Reference4Ideal.main_v217) = v1 c
          ∧ r.2.mem ((c.tc : Thread Cert.Reference4Ideal.nD Cert.Reference4Ideal.τ).loc Cert.Reference4Ideal.main_v218) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_v27) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v18)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v18) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v22) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v62_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v62_1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v51) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Pre_finite.lean ====
abbrev S4x2048x8x256 : Shape := ⟨4, ![4, 2048, 8, 256]⟩
abbrev S4x2048x8x64 : Shape := ⟨4, ![4, 2048, 8, 64]⟩
abbrev S4x2048x256 : Shape := ⟨3, ![4, 2048, 256]⟩
abbrev S4x2048x64 : Shape := ⟨3, ![4, 2048, 64]⟩
abbrev S_ : Shape := ⟨0, ![]⟩

class Facts : Prop where
  bcast_S_S4x2048x8x256 : S_.BroadcastsInDim S4x2048x8x256 (![] : Fin 0 → Fin S4x2048x8x256.rank)
  reducesTo_S4x2048x8x256_S_d0_1_2_3 : S4x2048x8x256.ReducesTo [0, 1, 2, 3] S_
  h_S_ : 0 < S_.numel
  bcast_S_S4x2048x8x64 : S_.BroadcastsInDim S4x2048x8x64 (![] : Fin 0 → Fin S4x2048x8x64.rank)
  reducesTo_S4x2048x8x64_S_d0_1_2_3 : S4x2048x8x64.ReducesTo [0, 1, 2, 3] S_
  bcast_S_S4x2048x256 : S_.BroadcastsInDim S4x2048x256 (![] : Fin 0 → Fin S4x2048x256.rank)
  reducesTo_S4x2048x256_S_d0_1_2 : S4x2048x256.ReducesTo [0, 1, 2] S_
  bcast_S_S4x2048x64 : S_.BroadcastsInDim S4x2048x64 (![] : Fin 0 → Fin S4x2048x64.rank)
  reducesTo_S4x2048x64_S_d0_1_2 : S4x2048x64.ReducesTo [0, 1, 2] S_

variable [Facts]

def fn_part1 {F : FTy → Type} [FloatOps F] (main_v13 : IVec S_ 1) (main_v16 : IVec S4x2048x64 1) : IVec S_ 1 :=
  let main_c_5 : IVec S_ 1 := constantI S_ 1 1#1
  let main_v17 : IVec S_ 1 := (fun x v => Host.reduce IntOp.andi x v reducesTo_S4x2048x64_S_d0_1_2 h_S_) main_v16 main_c_5
  let main_v18 : IVec S_ 1 := andi main_v13 main_v17
  main_v18

def fn {F : FTy → Type} [FloatOps F] (main_arg0 : FVec F S4x2048x8x256 .f32) (main_arg1 : FVec F S4x2048x8x64 .f32) (main_arg2 : FVec F S4x2048x256 .f32) (main_arg3 : FVec F S4x2048x64 .f32) : IVec S_ 1 :=
  let main_v0 : FVec F S4x2048x8x256 .f32 := Host.absf main_arg0
  let main_cst : FVec F S_ .f32 := constant S_ .f32 0x7F800000#32
  let main_v1 : FVec F S4x2048x8x256 .f32 := broadcastInDim S4x2048x8x256 ![] bcast_S_S4x2048x8x256 main_cst
  let main_v2 : IVec S4x2048x8x256 1 := cmpf .olt main_v0 main_v1
  let main_c : IVec S_ 1 := constantI S_ 1 1#1
  let main_v3 : IVec S_ 1 := (fun x v => Host.reduce IntOp.andi x v reducesTo_S4x2048x8x256_S_d0_1_2_3 h_S_) main_v2 main_c
  let main_v4 : FVec F S4x2048x8x64 .f32 := Host.absf main_arg1
  let main_cst_0 : FVec F S_ .f32 := constant S_ .f32 0x7F800000#32
  let main_v5 : FVec F S4x2048x8x64 .f32 := broadcastInDim S4x2048x8x64 ![] bcast_S_S4x2048x8x64 main_cst_0
  let main_v6 : IVec S4x2048x8x64 1 := cmpf .olt main_v4 main_v5
  let main_c_1 : IVec S_ 1 := constantI S_ 1 1#1
  let main_v7 : IVec S_ 1 := (fun x v => Host.reduce IntOp.andi x v reducesTo_S4x2048x8x64_S_d0_1_2_3 h_S_) main_v6 main_c_1
  let main_v8 : IVec S_ 1 := andi main_v3 main_v7
  let main_v9 : FVec F S4x2048x256 .f32 := Host.absf main_arg2
  let main_cst_2 : FVec F S_ .f32 := constant S_ .f32 0x7F800000#32
  let main_v10 : FVec F S4x2048x256 .f32 := broadcastInDim S4x2048x256 ![] bcast_S_S4x2048x256 main_cst_2
  let main_v11 : IVec S4x2048x256 1 := cmpf .olt main_v9 main_v10
  let main_c_3 : IVec S_ 1 := constantI S_ 1 1#1
  let main_v12 : IVec S_ 1 := (fun x v => Host.reduce IntOp.andi x v reducesTo_S4x2048x256_S_d0_1_2 h_S_) main_v11 main_c_3
  let main_v13 : IVec S_ 1 := andi main_v8 main_v12
  let main_v14 : FVec F S4x2048x64 .f32 := Host.absf main_arg3
  let main_cst_4 : FVec F S_ .f32 := constant S_ .f32 0x7F800000#32
  let main_v15 : FVec F S4x2048x64 .f32 := broadcastInDim S4x2048x64 ![] bcast_S_S4x2048x64 main_cst_4
  let main_v16 : IVec S4x2048x64 1 := cmpf .olt main_v14 main_v15
  fn_part1 (F := F) main_v13 main_v16
-- ==== Kernel.lean ====
abbrev S4x2048x8x256 : Shape := ⟨4, ![4, 2048, 8, 256]⟩
abbrev S4x2048x8x64 : Shape := ⟨4, ![4, 2048, 8, 64]⟩
abbrev S4x2048x256 : Shape := ⟨3, ![4, 2048, 256]⟩
abbrev S4x2048x64 : Shape := ⟨3, ![4, 2048, 64]⟩
abbrev S_ : Shape := ⟨0, ![]⟩
abbrev S4x2048x8x384 : Shape := ⟨4, ![4, 2048, 8, 384]⟩
abbrev S4x2048x384 : Shape := ⟨3, ![4, 2048, 384]⟩
abbrev S8192x3072 : Shape := ⟨2, ![8192, 3072]⟩
abbrev S8704x3072 : Shape := ⟨2, ![8704, 3072]⟩
abbrev S8192x384 : Shape := ⟨2, ![8192, 384]⟩
abbrev S8704x384 : Shape := ⟨2, ![8704, 384]⟩
abbrev S8192x2048 : Shape := ⟨2, ![8192, 2048]⟩
abbrev S256x3072 : Shape := ⟨2, ![256, 3072]⟩
abbrev S2048x384 : Shape := ⟨2, ![2048, 384]⟩
abbrev S256x2048 : Shape := ⟨2, ![256, 2048]⟩
abbrev S384x2048 : Shape := ⟨2, ![384, 2048]⟩
abbrev S1x2048 : Shape := ⟨2, ![1, 2048]⟩
abbrev S256x384 : Shape := ⟨2, ![256, 384]⟩
abbrev S384x256 : Shape := ⟨2, ![384, 256]⟩
abbrev S2048 : Shape := ⟨1, ![2048]⟩
abbrev S256x256 : Shape := ⟨2, ![256, 256]⟩

abbrev nBuf : Space → Nat
  | .hbm => 28
  | .vmem => 10
  | .smem => 0
  | _ => 0

abbrev bufTy : (tb : Table) → Fin (tcTables nBuf tb) → BufTy
  | .hbm, ⟨0, _⟩ => ⟨S4x2048x8x256, .f32⟩
  | .hbm, ⟨1, _⟩ => ⟨S4x2048x8x64, .f32⟩
  | .hbm, ⟨2, _⟩ => ⟨S4x2048x256, .f32⟩
  | .hbm, ⟨3, _⟩ => ⟨S4x2048x64, .f32⟩
  | .hbm, ⟨4, _⟩ => ⟨S_, .f32⟩
  | .hbm, ⟨5, _⟩ => ⟨S4x2048x8x64, .f32⟩
  | .hbm, ⟨6, _⟩ => ⟨S4x2048x8x64, .i32⟩
  | .hbm, ⟨7, _⟩ => ⟨S_, .i32⟩
  | .hbm, ⟨8, _⟩ => ⟨S4x2048x8x64, .i32⟩
  | .hbm, ⟨9, _⟩ => ⟨S4x2048x8x64, .i32⟩
  | .hbm, ⟨10, _⟩ => ⟨S_, .i32⟩
  | .hbm, ⟨11, _⟩ => ⟨S4x2048x8x64, .i32⟩
  | .hbm, ⟨12, _⟩ => ⟨S4x2048x8x64, .i1⟩
  | .hbm, ⟨13, _⟩ => ⟨S4x2048x8x64, .f32⟩
  | .hbm, ⟨14, _⟩ => ⟨S4x2048x8x64, .f32⟩
  | .hbm, ⟨15, _⟩ => ⟨S4x2048x8x384, .f32⟩
  | .hbm, ⟨16, _⟩ => ⟨S4x2048x384, .f32⟩
  | .hbm, ⟨17, _⟩ => ⟨S8192x3072, .f32⟩
  | .hbm, ⟨18, _⟩ => ⟨S_, .i32⟩
  | .hbm, ⟨19, _⟩ => ⟨S_, .f32⟩
  | .hbm, ⟨20, _⟩ => ⟨S8704x3072, .f32⟩
  | .hbm, ⟨21, _⟩ => ⟨S8704x3072, .bf16⟩
  | .hbm, ⟨22, _⟩ => ⟨S8192x384, .f32⟩
  | .hbm, ⟨23, _⟩ => ⟨S_, .i32⟩
  | .hbm, ⟨24, _⟩ => ⟨S_, .f32⟩
  | .hbm, ⟨25, _⟩ => ⟨S8704x384, .f32⟩
  | .hbm, ⟨26, _⟩ => ⟨S8704x384, .bf16⟩
  | .hbm, ⟨27, _⟩ => ⟨S8192x2048, .bf16⟩
  | .local _ .vmem, ⟨0, _⟩ => ⟨S256x3072, .bf16⟩
  | .local _ .vmem, ⟨1, _⟩ => ⟨S256x3072, .bf16⟩
  | .local _ .vmem, ⟨2, _⟩ => ⟨S2048x384, .bf16⟩
  | .local _ .vmem, ⟨3, _⟩ => ⟨S2048x384, .bf16⟩
  | .local _ .vmem, ⟨4, _⟩ => ⟨S256x2048, .bf16⟩
  | .local _ .vmem, ⟨5, _⟩ => ⟨S256x2048, .bf16⟩
  | .local _ .vmem, ⟨6, _⟩ => ⟨S384x2048, .bf16⟩
  | .local _ .vmem, ⟨7, _⟩ => ⟨S1x2048, .f32⟩
  | .local _ .vmem, ⟨8, _⟩ => ⟨S1x2048, .f32⟩
  | .local _ .vmem, ⟨9, _⟩ => ⟨S256x2048, .f32⟩
  | _, _ => ⟨S4x2048x8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_1 : Ref sig .tc := ⟨.hbm, 18, rfl⟩
abbrev main_call2_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_c_2 : Ref sig .tc := ⟨.hbm, 23, rfl⟩
abbrev main_call3_v0 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

@[reducible] def k0_t1_loop (i : grid0.Coords) : Scf.Loop 32 :=
  let c0_i32_27 : BitVec 32 := 0#32
  let arg1 : BitVec 32 := BitVec.ofNat 32 (i 1).val
  let v76 : BitVec 32 := Scalar.subi arg1 c0_i32_27
  let c1_i32 : BitVec 32 := 1#32
  let v78 : BitVec 32 := Scalar.divsi v76 c1_i32
  let v79 : BitVec 32 := Scalar.muli v78 c1_i32
  let v80 : BitVec 32 := Scalar.addi c0_i32_27 v79
  let c1_i32_28 : BitVec 32 := 1#32
  ⟨c0_i32_27, v80, c1_i32_28⟩
def k0_mult1 (i : grid0.Coords) (k0_t1 : Fin (k0_t1_loop i).trips) : BitVec 32 :=
  let c0_i32_27 : BitVec 32 := 0#32
  let c1_i32_28 : BitVec 32 := 1#32
  let arg9 : BitVec 32 := Scf.iv c0_i32_27 c1_i32_28 k0_t1
  let c256_i32_71 : BitVec 32 := 256#32
  let v166 : BitVec 32 := Scalar.muli arg9 c256_i32_71
  v166
def k0_off1 (i : grid0.Coords) (k0_t1 : Fin (k0_t1_loop i).trips) : Fin 2 → Nat :=
  let c0_i32_27 : BitVec 32 := 0#32
  let c1_i32_28 : BitVec 32 := 1#32
  let arg9 : BitVec 32 := Scf.iv c0_i32_27 c1_i32_28 k0_t1
  let c256_i32_71 : BitVec 32 := 256#32
  let v166 : BitVec 32 := Scalar.muli arg9 c256_i32_71
  let v167 : BitVec 32 := v166
  let v168 : Index := Scalar.indexCast v167
  let c0_72 : Index := 0#32
  ![v168.toNat, 0]
@[reducible] def k0_t2_loop (i : grid0.Coords) : Scf.Loop 32 :=
  let c0_i32_27 : BitVec 32 := 0#32
  let arg1 : BitVec 32 := BitVec.ofNat 32 (i 1).val
  let v76 : BitVec 32 := Scalar.subi arg1 c0_i32_27
  let c1_i32 : BitVec 32 := 1#32
  let v78 : BitVec 32 := Scalar.divsi v76 c1_i32
  let v79 : BitVec 32 := Scalar.muli v78 c1_i32
  let v80 : BitVec 32 := Scalar.addi c0_i32_27 v79
  let v77 : BitVec 32 := Scalar.addi c0_i32_27 v76
  let c1_i32_29 : BitVec 32 := 1#32
  ⟨v80, v77, c1_i32_29⟩
def k0_mult2 (i : grid0.Coords) (k0_t2 : Fin (k0_t2_loop i).trips) : BitVec 32 :=
  let c0_i32_27 : BitVec 32 := 0#32
  let arg1 : BitVec 32 := BitVec.ofNat 32 (i 1).val
  let v76 : BitVec 32 := Scalar.subi arg1 c0_i32_27
  let c1_i32 : BitVec 32 := 1#32
  let v78 : BitVec 32 := Scalar.divsi v76 c1_i32
  let v79 : BitVec 32 := Scalar.muli v78 c1_i32
  let v80 : BitVec 32 := Scalar.addi c0_i32_27 v79
  let c1_i32_29 : BitVec 32 := 1#32
  let arg9 : BitVec 32 := Scf.iv v80 c1_i32_29 k0_t2
  let c256_i32_71 : BitVec 32 := 256#32
  let v166 : BitVec 32 := Scalar.muli arg9 c256_i32_71
  v166
def k0_off2 (i : grid0.Coords) (k0_t2 : Fin (k0_t2_loop i).trips) : Fin 2 → Nat :=
  let c0_i32_27 : BitVec 32 := 0#32
  let arg1 : BitVec 32 := BitVec.ofNat 32 (i 1).val
  let v76 : BitVec 32 := Scalar.subi arg1 c0_i32_27
  let c1_i32 : BitVec 32 := 1#32
  let v78 : BitVec 32 := Scalar.divsi v76 c1_i32
  let v79 : BitVec 32 := Scalar.muli v78 c1_i32
  let v80 : BitVec 32 := Scalar.addi c0_i32_27 v79
  let c1_i32_29 : BitVec 32 := 1#32
  let arg9 : BitVec 32 := Scf.iv v80 c1_i32_29 k0_t2
  let c256_i32_71 : BitVec 32 := 256#32
  let v166 : BitVec 32 := Scalar.muli arg9 c256_i32_71
  let v167 : BitVec 32 := v166
  let v168 : Index := Scalar.indexCast v167
  let c0_72 : Index := 0#32
  ![v168.toNat, 0]
def k0_mult3 (i : grid0.Coords) : BitVec 32 :=
  let arg1 : BitVec 32 := BitVec.ofNat 32 (i 1).val
  let c256_i32 : BitVec 32 := 256#32
  let v81 : BitVec 32 := Scalar.muli arg1 c256_i32
  v81
def k0_off3 (i : grid0.Coords) : Fin 2 → Nat :=
  let arg1 : BitVec 32 := BitVec.ofNat 32 (i 1).val
  let c256_i32 : BitVec 32 := 256#32
  let v81 : BitVec 32 := Scalar.muli arg1 c256_i32
  let v82 : BitVec 32 := v81
  let v83 : Index := Scalar.indexCast v82
  let c0_30 : Index := 0#32
  ![v83.toNat, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x2048x8x256 : Shape := ⟨4, ![4, 2048, 8, 256]⟩
abbrev S4x2048x8x64 : Shape := ⟨4, ![4, 2048, 8, 64]⟩
abbrev S4x2048x256 : Shape := ⟨3, ![4, 2048, 256]⟩
abbrev S4x2048x64 : Shape := ⟨3, ![4, 2048, 64]⟩
abbrev S4x2048x2048x8 : Shape := ⟨4, ![4, 2048, 2048, 8]⟩
abbrev S4x8x2048x2048 : Shape := ⟨4, ![4, 8, 2048, 2048]⟩
abbrev S_ : Shape := ⟨0, ![]⟩
abbrev S2048 : Shape := ⟨1, ![2048]⟩
abbrev S1x1x1x2048 : Shape := ⟨4, ![1, 1, 1, 2048]⟩
abbrev S1x1x2048x1 : Shape := ⟨4, ![1, 1, 2048, 1]⟩
abbrev S1x1x2048x2048 : Shape := ⟨4, ![1, 1, 2048, 2048]⟩
abbrev S4x8x2048 : Shape := ⟨3, ![4, 8, 2048]⟩
abbrev S4x8x2048x1 : Shape := ⟨4, ![4, 8, 2048, 1]⟩
abbrev S4x256x8x2048 : Shape := ⟨4, ![4, 256, 8, 2048]⟩
abbrev S8192x2048 : Shape := ⟨2, ![8192, 2048]⟩

abbrev nBuf : Space → Nat
  | .hbm => 41
  | .vmem => 0
  | .smem => 0
  | _ => 0

abbrev bufTy : (tb : Table) → Fin (tcTables nBuf tb) → BufTy
  | .hbm, ⟨0, _⟩ => ⟨S4x2048x8x256, .f32⟩
  | .hbm, ⟨1, _⟩ => ⟨S4x2048x8x64, .f32⟩
  | .hbm, ⟨2, _⟩ => ⟨S4x2048x256, .f32⟩
  | .hbm, ⟨3, _⟩ => ⟨S4x2048x64, .f32⟩
  | .hbm, ⟨4, _⟩ => ⟨S4x2048x2048x8, .f32⟩
  | .hbm, ⟨5, _⟩ => ⟨S4x8x2048x2048, .f32⟩
  | .hbm, ⟨6, _⟩ => ⟨S4x2048x2048x8, .f32⟩
  | .hbm, ⟨7, _⟩ => ⟨S4x8x2048x2048, .f32⟩
  | .hbm, ⟨8, _⟩ => ⟨S4x8x2048x2048, .f32⟩
  | .hbm, ⟨9, _⟩ => ⟨S_, .f32⟩
  | .hbm, ⟨10, _⟩ => ⟨S4x8x2048x2048, .f32⟩
  | .hbm, ⟨11, _⟩ => ⟨S4x8x2048x2048, .f32⟩
  | .hbm, ⟨12, _⟩ => ⟨S2048, .i32⟩
  | .hbm, ⟨13, _⟩ => ⟨S1x1x1x2048, .i32⟩
  | .hbm, ⟨14, _⟩ => ⟨S1x1x2048x1, .i32⟩
  | .hbm, ⟨15, _⟩ => ⟨S1x1x2048x2048, .i32⟩
  | .hbm, ⟨16, _⟩ => ⟨S1x1x2048x2048, .i32⟩
  | .hbm, ⟨17, _⟩ => ⟨S1x1x2048x2048, .i1⟩
  | .hbm, ⟨18, _⟩ => ⟨S_, .f32⟩
  | .hbm, ⟨19, _⟩ => ⟨S_, .f32⟩
  | .hbm, ⟨20, _⟩ => ⟨S4x8x2048x2048, .i1⟩
  | .hbm, ⟨21, _⟩ => ⟨S4x8x2048x2048, .f32⟩
  | .hbm, ⟨22, _⟩ => ⟨S4x8x2048x2048, .f32⟩
  | .hbm, ⟨23, _⟩ => ⟨S_, .f32⟩
  | .hbm, ⟨24, _⟩ => ⟨S4x8x2048, .f32⟩
  | .hbm, ⟨25, _⟩ => ⟨S_, .f32⟩
  | .hbm, ⟨26, _⟩ => ⟨S4x8x2048, .f32⟩
  | .hbm, ⟨27, _⟩ => ⟨S4x8x2048, .f32⟩
  | .hbm, ⟨28, _⟩ => ⟨S4x8x2048x1, .f32⟩
  | .hbm, ⟨29, _⟩ => ⟨S4x8x2048x2048, .f32⟩
  | .hbm, ⟨30, _⟩ => ⟨S4x8x2048x2048, .f32⟩
  | .hbm, ⟨31, _⟩ => ⟨S4x8x2048x2048, .f32⟩
  | .hbm, ⟨32, _⟩ => ⟨S_, .f32⟩
  | .hbm, ⟨33, _⟩ => ⟨S4x8x2048, .f32⟩
  | .hbm, ⟨34, _⟩ => ⟨S4x8x2048x1, .f32⟩
  | .hbm, ⟨35, _⟩ => ⟨S4x8x2048x2048, .f32⟩
  | .hbm, ⟨36, _⟩ => ⟨S4x8x2048x2048, .f32⟩
  | .hbm, ⟨37, _⟩ => ⟨S4x256x8x2048, .f32⟩
  | .hbm, ⟨38, _⟩ => ⟨S4x2048x8x256, .f32⟩
  | .hbm, ⟨39, _⟩ => ⟨S8192x2048, .f32⟩
  | .hbm, ⟨40, _⟩ => ⟨S8192x2048, .bf16⟩
  | _, _ => ⟨S4x2048x8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel2.lean ====
abbrev S4x2048x2048 : Shape := ⟨3, ![4, 2048, 2048]⟩
abbrev S128x4x2048 : Shape := ⟨3, ![128, 4, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S8192x2048 : Shape := ⟨2, ![8192, 2048]⟩
abbrev S512x2048 : Shape := ⟨2, ![512, 2048]⟩
abbrev S8704x2048 : Shape := ⟨2, ![8704, 2048]⟩
abbrev S1x2048 : Shape := ⟨2, ![1, 2048]⟩
abbrev S2048 : Shape := ⟨1, ![2048]⟩
abbrev S1088x2048 : Shape := ⟨2, ![1088, 2048]⟩
abbrev S1x2048x1024 : Shape := ⟨3, ![1, 2048, 1024]⟩
abbrev S1x1024x2048 : Shape := ⟨3, ![1, 1024, 2048]⟩
abbrev S1088 : Shape := ⟨1, ![1088]⟩
abbrev S1088x1 : Shape := ⟨2, ![1088, 1]⟩
abbrev S2048x1024 : Shape := ⟨2, ![2048, 1024]⟩
abbrev S1088x1024 : Shape := ⟨2, ![1088, 1024]⟩
abbrev S1024x2048 : Shape := ⟨2, ![1024, 2048]⟩

abbrev nBuf : Space → Nat
  | .hbm => 14
  | .vmem => 9
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S4x2048, .f32⟩
  | .hbm, ⟨3, _⟩ => ⟨S4x2048x8192, .f32⟩
  | .hbm, ⟨4, _⟩ => ⟨S4x8192x2048, .f32⟩
  | .hbm, ⟨5, _⟩ => ⟨S8192x2048, .f32⟩
  | .hbm, ⟨6, _⟩ => ⟨S512x2048, .f32⟩
  | .hbm, ⟨7, _⟩ => ⟨S8704x2048, .f32⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S4x2048x8192, .bf16⟩
  | .hbm, ⟨12, _⟩ => ⟨S4x8192x2048, .bf16⟩
  | .hbm, ⟨13, _⟩ => ⟨S8704x2048, .f32⟩
  | .local _ .vmem, ⟨0, _⟩ => ⟨S1088x2048, .f32⟩
  | .local _ .vmem, ⟨1, _⟩ => ⟨S1088x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1x1024x2048, .bf16⟩
  | .local _ .vmem, ⟨6, _⟩ => ⟨S1x1024x2048, .bf16⟩
  | .local _ .vmem, ⟨7, _⟩ => ⟨S1088x2048, .f32⟩
  | .local _ .vmem, ⟨8, _⟩ => ⟨S1088x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1088x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference2Ideal.lean ====
abbrev S4x2048x2048 : Shape := ⟨3, ![4, 2048, 2048]⟩
abbrev S128x4x2048 : Shape := ⟨3, ![128, 4, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S128x4 : Shape := ⟨2, ![128, 4]⟩
abbrev S128x4x1 : Shape := ⟨3, ![128, 4, 1]⟩
abbrev S128x4x8192 : Shape := ⟨3, ![128, 4, 8192]⟩
abbrev S512x2048 : Shape := ⟨2, ![512, 2048]⟩
abbrev S8704x2048 : Shape := ⟨2, ![8704, 2048]⟩

abbrev nBuf : Space → Nat
  | .hbm => 66
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S4x2048, .f32⟩
  | .hbm, ⟨3, _⟩ => ⟨S4x2048x8192, .f32⟩
  | .hbm, ⟨4, _⟩ => ⟨S4x8192x2048, .f32⟩
  | .hbm, ⟨5, _⟩ => ⟨S1x2048, .f32⟩
  | .hbm, ⟨6, _⟩ => ⟨S2048, .f32⟩
  | .hbm, ⟨7, _⟩ => ⟨S4x2048x2048, .f32⟩
  | .hbm, ⟨8, _⟩ => ⟨S_, .f32⟩
  | .hbm, ⟨9, _⟩ => ⟨S4x2048, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S_, .f32⟩
  | .hbm, ⟨15, _⟩ => ⟨S4x2048x1, .f32⟩
  | .hbm, ⟨16, _⟩ => ⟨S4x2048x1, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S1x2048x8192, .f32⟩
  | .hbm, ⟨24, _⟩ => ⟨S2048x8192, .f32⟩
  | .hbm, ⟨25, _⟩ => ⟨S1x8192x2048, .f32⟩
  | .hbm, ⟨26, _⟩ => ⟨S8192x2048, .f32⟩
  | .hbm, ⟨27, _⟩ => ⟨S4x2048x8192, .f32⟩
  | .hbm, ⟨28, _⟩ => ⟨S_, .f32⟩
  | .hbm, ⟨29, _⟩ => ⟨S4x2048x8192, .f32⟩
  | .hbm, ⟨30, _⟩ => ⟨S4x2048x8192, .f32⟩
  | .hbm, ⟨31, _⟩ => ⟨S4x2048x8192, .f32⟩
  | .hbm, ⟨32, _⟩ => ⟨S4x2048x2048, .f32⟩
  | .hbm, ⟨33, _⟩ => ⟨S4x2048x2048, .f32⟩
  | .hbm, ⟨34, _⟩ => ⟨S1x2048, .f32⟩
  | .hbm, ⟨35, _⟩ => ⟨S2048, .f32⟩
  | .hbm, ⟨36, _⟩ => ⟨S128x4x2048, .f32⟩
  | .hbm, ⟨37, _⟩ => ⟨S_, .f32⟩
  | .hbm, ⟨38, _⟩ => ⟨S128x4, .f32⟩
  | .hbm, ⟨39, _⟩ => ⟨S128x4x1, .f32⟩
  | .hbm, ⟨40, _⟩ => ⟨S_, .f32⟩
  | .hbm, ⟨41, _⟩ => ⟨S128x4x1, .f32⟩
  | .hbm, ⟨42, _⟩ => ⟨S128x4x1, .f32⟩
  | .hbm, ⟨43, _⟩ => ⟨S_, .f32⟩
  | .hbm, ⟨44, _⟩ => ⟨S128x4x1, .f32⟩
  | .hbm, ⟨45, _⟩ => ⟨S128x4x1, .f32⟩
  | .hbm, ⟨46, _⟩ => ⟨S128x4x1, .f32⟩
  | .hbm, ⟨47, _⟩ => ⟨S128x4x2048, .f32⟩
  | .hbm, ⟨48, _⟩ => ⟨S128x4x2048, .f32⟩
  | .hbm, ⟨49, _⟩ => ⟨S1x1x2048, .f32⟩
  | .hbm, ⟨50, _⟩ => ⟨S128x4x2048, .f32⟩
  | .hbm, ⟨51, _⟩ => ⟨S128x4x2048, .f32⟩
  | .hbm, ⟨52, _⟩ => ⟨S1x2048x8192, .f32⟩
  | .hbm, ⟨53, _⟩ => ⟨S2048x8192, .f32⟩
  | .hbm, ⟨54, _⟩ => ⟨S1x8192x2048, .f32⟩
  | .hbm, ⟨55, _⟩ => ⟨S8192x2048, .f32⟩
  | .hbm, ⟨56, _⟩ => ⟨S128x4x8192, .f32⟩
  | .hbm, ⟨57, _⟩ => ⟨S_, .f32⟩
  | .hbm, ⟨58, _⟩ => ⟨S128x4x8192, .f32⟩
  | .hbm, ⟨59, _⟩ => ⟨S128x4x8192, .f32⟩
  | .hbm, ⟨60, _⟩ => ⟨S128x4x8192, .f32⟩
  | .hbm, ⟨61, _⟩ => ⟨S128x4x2048, .f32⟩
  | .hbm, ⟨62, _⟩ => ⟨S128x4x2048, .f32⟩
  | .hbm, ⟨63, _⟩ => ⟨S8192x2048, .f32⟩
  | .hbm, ⟨64, _⟩ => ⟨S512x2048, .f32⟩
  | .hbm, ⟨65, _⟩ => ⟨S8704x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_call0_cst : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_call1_cst : Ref sig .tc := ⟨.hbm, 57, rfl⟩
abbrev main_call1_v0 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩

abbrev nD : Nat := 1
abbrev τ : Topo := Topo.v7x

variable {F : FTy → Type} [FloatOps F]
-- ==== Kernel3.lean ====
abbrev S4x2048x2048 : Shape := ⟨3, ![4, 2048, 2048]⟩
abbrev S128x4x2048 : Shape := ⟨3, ![128, 4, 2048]⟩
abbrev S4x2048 : Shape := ⟨2, ![4, 2048]⟩
abbrev S4x2048x5960 : Shape := ⟨3, ![4, 2048, 5960]⟩
abbrev S8192x2048 : Shape := ⟨2, ![8192, 2048]⟩
abbrev S512x2048 : Shape := ⟨2, ![512, 2048]⟩
abbrev S8704x2048 : Shape := ⟨2, ![8704, 2048]⟩
abbrev S1x2048 : Shape := ⟨2, ![1, 2048]⟩
abbrev S2048 : Shape := ⟨1, ![2048]⟩
abbrev S4x2048x8 : Shape := ⟨3, ![4, 2048, 8]⟩
abbrev S4x2048x1536 : Shape := ⟨3, ![4, 2048, 1536]⟩
abbrev S4x2048x8x192 : Shape := ⟨4, ![4, 2048, 8, 192]⟩
abbrev S4x2048x8x128 : Shape := ⟨4, ![4, 2048, 8, 128]⟩
abbrev S4x2048x1024 : Shape := ⟨3, ![4, 2048, 1024]⟩
abbrev S4x2048x8x64 : Shape := ⟨4, ![4, 2048, 8, 64]⟩
abbrev S4x2048x512 : Shape := ⟨3, ![4, 2048, 512]⟩
abbrev S4x2048x320 : Shape := ⟨3, ![4, 2048, 320]⟩
abbrev S4x2048x4096 : Shape := ⟨3, ![4, 2048, 4096]⟩
abbrev S_ : Shape := ⟨0, ![]⟩
abbrev S4x2048x120 : Shape := ⟨3, ![4, 2048, 120]⟩
abbrev S4x2048x64 : Shape := ⟨3, ![4, 2048, 64]⟩
abbrev S4x2048x6144 : Shape := ⟨3, ![4, 2048, 6144]⟩
abbrev S8704x6144 : Shape := ⟨2, ![8704, 6144]⟩
abbrev S1088x2048 : Shape := ⟨2, ![1088, 2048]⟩
abbrev S1x2048x1024 : Shape := ⟨3, ![1, 2048, 1024]⟩
abbrev S1088x1024 : Shape := ⟨2, ![1088, 1024]⟩
abbrev S1088 : Shape := ⟨1, ![1088]⟩
abbrev S1088x1 : Shape := ⟨2, ![1088, 1]⟩
abbrev S2048x1024 : Shape := ⟨2, ![2048, 1024]⟩

abbrev nBuf : Space → Nat
  | .hbm => 26
  | .vmem => 8
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S4x2048, .f32⟩
  | .hbm, ⟨3, _⟩ => ⟨S4x2048x5960, .f32⟩
  | .hbm, ⟨4, _⟩ => ⟨S8192x2048, .f32⟩
  | .hbm, ⟨5, _⟩ => ⟨S512x2048, .f32⟩
  | .hbm, ⟨6, _⟩ => ⟨S8704x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S4x2048x5960, .bf16⟩
  | .hbm, ⟨11, _⟩ => ⟨S4x2048x8, .bf16⟩
  | .hbm, ⟨12, _⟩ => ⟨S4x2048x1536, .bf16⟩
  | .hbm, ⟨13, _⟩ => ⟨S4x2048x8x192, .bf16⟩
  | .hbm, ⟨14, _⟩ => ⟨S4x2048x8x128, .bf16⟩
  | .hbm, ⟨15, _⟩ => ⟨S4x2048x1024, .bf16⟩
  | .hbm, ⟨16, _⟩ => ⟨S4x2048x8x64, .bf16⟩
  | .hbm, ⟨17, _⟩ => ⟨S4x2048x512, .bf16⟩
  | .hbm, ⟨18, _⟩ => ⟨S4x2048x320, .bf16⟩
  | .hbm, ⟨19, _⟩ => ⟨S4x2048x4096, .bf16⟩
  | .hbm, ⟨20, _⟩ => ⟨S_, .bf16⟩
  | .hbm, ⟨21, _⟩ => ⟨S4x2048x120, .bf16⟩
  | .hbm, ⟨22, _⟩ => ⟨S_, .bf16⟩
  | .hbm, ⟨23, _⟩ => ⟨S4x2048x64, .bf16⟩
  | .hbm, ⟨24, _⟩ => ⟨S4x2048x6144, .bf16⟩
  | .hbm, ⟨25, _⟩ => ⟨S8704x6144, .f32⟩
  | .local _ .vmem, ⟨0, _⟩ => ⟨S1088x2048, .f32⟩
  | .local _ .vmem, ⟨1, _⟩ => ⟨S1088x2048, .f32⟩
  | .local _ .vmem, ⟨2, _⟩ => ⟨S1x2048, .f32⟩
  | .local _ .vmem, ⟨3, _⟩ => ⟨S1x2048x1024, .bf16⟩
  | .local _ .vmem, ⟨4, _⟩ => ⟨S1x2048x1024, .bf16⟩
  | .local _ .vmem, ⟨5, _⟩ => ⟨S1088x1024, .f32⟩
  | .local _ .vmem, ⟨6, _⟩ => ⟨S1088x1024, .f32⟩
  | .local _ .vmem, ⟨7, _⟩ => ⟨S1088x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1088x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S4x2048x2048 : Shape := ⟨3, ![4, 2048, 2048]⟩
abbrev S128x4x2048 : Shape := ⟨3, ![128, 4, 2048]⟩
abbrev S4x2048 : Shape := ⟨2, ![4, 2048]⟩
abbrev S4x2048x5960 : Shape := ⟨3, ![4, 2048, 5960]⟩
abbrev S1x2048 : Shape := ⟨2, ![1, 2048]⟩
abbrev S2048 : Shape := ⟨1, ![2048]⟩
abbrev S_ : Shape := ⟨0, ![]⟩
abbrev S4x2048x1 : Shape := ⟨3, ![4, 2048, 1]⟩
abbrev S1x1x2048 : Shape := ⟨3, ![1, 1, 2048]⟩
abbrev S1x2048x5960 : Shape := ⟨3, ![1, 2048, 5960]⟩
abbrev S2048x5960 : Shape := ⟨2, ![2048, 5960]⟩
abbrev S4x2048x4096 : Shape := ⟨3, ![4, 2048, 4096]⟩
abbrev S4x2048x8 : Shape := ⟨3, ![4, 2048, 8]⟩
abbrev S4x2048x1536 : Shape := ⟨3, ![4, 2048, 1536]⟩
abbrev S4x2048x320 : Shape := ⟨3, ![4, 2048, 320]⟩
abbrev S4x2048x8x192 : Shape := ⟨4, ![4, 2048, 8, 192]⟩
abbrev S4x2048x8x128 : Shape := ⟨4, ![4, 2048, 8, 128]⟩
abbrev S4x2048x1024 : Shape := ⟨3, ![4, 2048, 1024]⟩
abbrev S4x2048x8x64 : Shape := ⟨4, ![4, 2048, 8, 64]⟩
abbrev S4x2048x512 : Shape := ⟨3, ![4, 2048, 512]⟩
abbrev S4x2048x120 : Shape := ⟨3, ![4, 2048, 120]⟩
abbrev S4x2048x64 : Shape := ⟨3, ![4, 2048, 64]⟩
abbrev S4x2048x6144 : Shape := ⟨3, ![4, 2048, 6144]⟩
abbrev S8192x6144 : Shape := ⟨2, ![8192, 6144]⟩
abbrev S128x4 : Shape := ⟨2, ![128, 4]⟩
abbrev S128x4x1 : Shape := ⟨3, ![128, 4, 1]⟩
abbrev S128x4x5960 : Shape := ⟨3, ![128, 4, 5960]⟩
abbrev S128x4x4096 : Shape := ⟨3, ![128, 4, 4096]⟩
abbrev S128x4x8 : Shape := ⟨3, ![128, 4, 8]⟩
abbrev S128x4x1536 : Shape := ⟨3, ![128, 4, 1536]⟩
abbrev S128x4x320 : Shape := ⟨3, ![128, 4, 320]⟩
abbrev S128x4x8x192 : Shape := ⟨4, ![128, 4, 8, 192]⟩
abbrev S128x4x8x128 : Shape := ⟨4, ![128, 4, 8, 128]⟩
abbrev S128x4x1024 : Shape := ⟨3, ![128, 4, 1024]⟩
abbrev S128x4x8x64 : Shape := ⟨4, ![128, 4, 8, 64]⟩
abbrev S128x4x512 : Shape := ⟨3, ![128, 4, 512]⟩
abbrev S128x4x120 : Shape := ⟨3, ![128, 4, 120]⟩
abbrev S128x4x64 : Shape := ⟨3, ![128, 4, 64]⟩
abbrev S128x4x6144 : Shape := ⟨3, ![128, 4, 6144]⟩
abbrev S512x6144 : Shape := ⟨2, ![512, 6144]⟩
abbrev S8704x6144 : Shape := ⟨2, ![8704, 6144]⟩

abbrev nBuf : Space → Nat
  | .hbm => 77
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S4x2048, .f32⟩
  | .hbm, ⟨3, _⟩ => ⟨S4x2048x5960, .f32⟩
  | .hbm, ⟨4, _⟩ => ⟨S1x2048, .f32⟩
  | .hbm, ⟨5, _⟩ => ⟨S2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S1x2048x5960, .f32⟩
  | .hbm, ⟨23, _⟩ => ⟨S2048x5960, .f32⟩
  | .hbm, ⟨24, _⟩ => ⟨S4x2048x5960, .f32⟩
  | .hbm, ⟨25, _⟩ => ⟨S4x2048x4096, .f32⟩
  | .hbm, ⟨26, _⟩ => ⟨S4x2048x8, .f32⟩
  | .hbm, ⟨27, _⟩ => ⟨S4x2048x1536, .f32⟩
  | .hbm, ⟨28, _⟩ => ⟨S4x2048x320, .f32⟩
  | .hbm, ⟨29, _⟩ => ⟨S4x2048x8x192, .f32⟩
  | .hbm, ⟨30, _⟩ => ⟨S4x2048x8x128, .f32⟩
  | .hbm, ⟨31, _⟩ => ⟨S4x2048x1024, .f32⟩
  | .hbm, ⟨32, _⟩ => ⟨S4x2048x8x64, .f32⟩
  | .hbm, ⟨33, _⟩ => ⟨S4x2048x512, .f32⟩
  | .hbm, ⟨34, _⟩ => ⟨S_, .f32⟩
  | .hbm, ⟨35, _⟩ => ⟨S4x2048x120, .f32⟩
  | .hbm, ⟨36, _⟩ => ⟨S_, .f32⟩
  | .hbm, ⟨37, _⟩ => ⟨S4x2048x64, .f32⟩
  | .hbm, ⟨38, _⟩ => ⟨S4x2048x6144, .f32⟩
  | .hbm, ⟨39, _⟩ => ⟨S8192x6144, .f32⟩
  | .hbm, ⟨40, _⟩ => ⟨S1x2048, .f32⟩
  | .hbm, ⟨41, _⟩ => ⟨S2048, .f32⟩
  | .hbm, ⟨42, _⟩ => ⟨S128x4x2048, .f32⟩
  | .hbm, ⟨43, _⟩ => ⟨S_, .f32⟩
  | .hbm, ⟨44, _⟩ => ⟨S128x4, .f32⟩
  | .hbm, ⟨45, _⟩ => ⟨S128x4x1, .f32⟩
  | .hbm, ⟨46, _⟩ => ⟨S_, .f32⟩
  | .hbm, ⟨47, _⟩ => ⟨S128x4x1, .f32⟩
  | .hbm, ⟨48, _⟩ => ⟨S128x4x1, .f32⟩
  | .hbm, ⟨49, _⟩ => ⟨S_, .f32⟩
  | .hbm, ⟨50, _⟩ => ⟨S128x4x1, .f32⟩
  | .hbm, ⟨51, _⟩ => ⟨S128x4x1, .f32⟩
  | .hbm, ⟨52, _⟩ => ⟨S128x4x1, .f32⟩
  | .hbm, ⟨53, _⟩ => ⟨S128x4x2048, .f32⟩
  | .hbm, ⟨54, _⟩ => ⟨S128x4x2048, .f32⟩
  | .hbm, ⟨55, _⟩ => ⟨S1x1x2048, .f32⟩
  | .hbm, ⟨56, _⟩ => ⟨S128x4x2048, .f32⟩
  | .hbm, ⟨57, _⟩ => ⟨S128x4x2048, .f32⟩
  | .hbm, ⟨58, _⟩ => ⟨S1x2048x5960, .f32⟩
  | .hbm, ⟨59, _⟩ => ⟨S2048x5960, .f32⟩
  | .hbm, ⟨60, _⟩ => ⟨S128x4x5960, .f32⟩
  | .hbm, ⟨61, _⟩ => ⟨S128x4x4096, .f32⟩
  | .hbm, ⟨62, _⟩ => ⟨S128x4x8, .f32⟩
  | .hbm, ⟨63, _⟩ => ⟨S128x4x1536, .f32⟩
  | .hbm, ⟨64, _⟩ => ⟨S128x4x320, .f32⟩
  | .hbm, ⟨65, _⟩ => ⟨S128x4x8x192, .f32⟩
  | .hbm, ⟨66, _⟩ => ⟨S128x4x8x128, .f32⟩
  | .hbm, ⟨67, _⟩ => ⟨S128x4x1024, .f32⟩
  | .hbm, ⟨68, _⟩ => ⟨S128x4x8x64, .f32⟩
  | .hbm, ⟨69, _⟩ => ⟨S128x4x512, .f32⟩
  | .hbm, ⟨70, _⟩ => ⟨S_, .f32⟩
  | .hbm, ⟨71, _⟩ => ⟨S128x4x120, .f32⟩
  | .hbm, ⟨72, _⟩ => ⟨S_, .f32⟩
  | .hbm, ⟨73, _⟩ => ⟨S128x4x64, .f32⟩
  | .hbm, ⟨74, _⟩ => ⟨S128x4x6144, .f32⟩
  | .hbm, ⟨75, _⟩ => ⟨S512x6144, .f32⟩
  | .hbm, ⟨76, _⟩ => ⟨S8704x6144, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_2 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_4 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_cst_6 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_7 : Ref sig .tc := ⟨.hbm, 70, rfl⟩
abbrev main_v58 : Ref sig .tc := ⟨.hbm, 71, rfl⟩
abbrev main_cst_8 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩

abbrev nD : Nat := 1
abbrev τ : Topo := Topo.v7x

variable {F : FTy → Type} [FloatOps F]
-- ==== Kernel4.lean ====
abbrev S4x2048x1536 : Shape := ⟨3, ![4, 2048, 1536]⟩
abbrev S4x2048x320 : Shape := ⟨3, ![4, 2048, 320]⟩
abbrev S128x4x1536 : Shape := ⟨3, ![128, 4, 1536]⟩
abbrev S128x4x320 : Shape := ⟨3, ![128, 4, 320]⟩
abbrev S4x256 : Shape := ⟨2, ![4, 256]⟩
abbrev S4x256x8x128 : Shape := ⟨4, ![4, 256, 8, 128]⟩
abbrev S8192x8x192 : Shape := ⟨3, ![8192, 8, 192]⟩
abbrev S_ : Shape := ⟨0, ![]⟩
abbrev S8192x4096 : Shape := ⟨2, ![8192, 4096]⟩
abbrev S8192x8x128 : Shape := ⟨3, ![8192, 8, 128]⟩
abbrev S8192x1024 : Shape := ⟨2, ![8192, 1024]⟩
abbrev S8192x8x64 : Shape := ⟨3, ![8192, 8, 64]⟩
abbrev S8192x512 : Shape := ⟨2, ![8192, 512]⟩
abbrev S8192x128 : Shape := ⟨2, ![8192, 128]⟩
abbrev S8192x320 : Shape := ⟨2, ![8192, 320]⟩
abbrev S8192x64 : Shape := ⟨2, ![8192, 64]⟩
abbrev S8192x6144 : Shape := ⟨2, ![8192, 6144]⟩
abbrev S512x8x192 : Shape := ⟨3, ![512, 8, 192]⟩
abbrev S512x4096 : Shape := ⟨2, ![512, 4096]⟩
abbrev S512x8x128 : Shape := ⟨3, ![512, 8, 128]⟩
abbrev S512x1024 : Shape := ⟨2, ![512, 1024]⟩
abbrev S512x8x64 : Shape := ⟨3, ![512, 8, 64]⟩
abbrev S512x512 : Shape := ⟨2, ![512, 512]⟩
abbrev S512x128 : Shape := ⟨2, ![512, 128]⟩
abbrev S512x320 : Shape := ⟨2, ![512, 320]⟩
abbrev S512x64 : Shape := ⟨2, ![512, 64]⟩
abbrev S512x6144 : Shape := ⟨2, ![512, 6144]⟩
abbrev S8704x6144 : Shape := ⟨2, ![8704, 6144]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S4 : Shape := ⟨1, ![4]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S32 : Shape := ⟨1, ![32]⟩
abbrev S8704x1 : Shape := ⟨2, ![8704, 1]⟩
abbrev S1x32 : Shape := ⟨2, ![1, 32]⟩
abbrev S8704x32 : Shape := ⟨2, ![8704, 32]⟩
abbrev S8704x128 : Shape := ⟨2, ![8704, 128]⟩
abbrev S4x8x128x256 : Shape := ⟨4, ![4, 8, 128, 256]⟩
abbrev S1x256 : Shape := ⟨2, ![1, 256]⟩
abbrev S256 : Shape := ⟨1, ![256]⟩
abbrev S1x8x128x256 : Shape := ⟨4, ![1, 8, 128, 256]⟩
abbrev S8x128x256 : Shape := ⟨3, ![8, 128, 256]⟩
abbrev S8704x384 : Shape := ⟨2, ![8704, 384]⟩
abbrev S8704x3072 : Shape := ⟨2, ![8704, 3072]⟩
abbrev S272x1024 : Shape := ⟨2, ![272, 1024]⟩
abbrev S272x512 : Shape := ⟨2, ![272, 512]⟩
abbrev S272x384 : Shape := ⟨2, ![272, 384]⟩
abbrev S272x128 : Shape := ⟨2, ![272, 128]⟩
abbrev S272x3072 : Shape := ⟨2, ![272, 3072]⟩
abbrev S272x256 : Shape := ⟨2, ![272, 256]⟩
abbrev S272 : Shape := ⟨1, ![272]⟩
abbrev S272x1 : Shape := ⟨2, ![272, 1]⟩
abbrev S1x128x256 : Shape := ⟨3, ![1, 128, 256]⟩
abbrev S128x256 : Shape := ⟨2, ![128, 256]⟩

abbrev nBuf : Space → Nat
  | .hbm => 84
  | .vmem => 20
  | .smem => 0
  | _ => 0

abbrev bufTy : (tb : Table) → Fin (tcTables nBuf tb) → BufTy
  | .hbm, ⟨0, _⟩ => ⟨S4x2048x1536, .f32⟩
  | .hbm, ⟨1, _⟩ => ⟨S4x2048x320, .f32⟩
  | .hbm, ⟨2, _⟩ => ⟨S128x4x1536, .f32⟩
  | .hbm, ⟨3, _⟩ => ⟨S128x4x320, .f32⟩
  | .hbm, ⟨4, _⟩ => ⟨S4x256, .f32⟩
  | .hbm, ⟨5, _⟩ => ⟨S4x256x8x128, .f32⟩
  | .hbm, ⟨6, _⟩ => ⟨S8192x8x192, .f32⟩
  | .hbm, ⟨7, _⟩ => ⟨S_, .f32⟩
  | .hbm, ⟨8, _⟩ => ⟨S8192x4096, .f32⟩
  | .hbm, ⟨9, _⟩ => ⟨S8192x8x128, .f32⟩
  | .hbm, ⟨10, _⟩ => ⟨S8192x1024, .f32⟩
  | .hbm, ⟨11, _⟩ => ⟨S8192x8x64, .f32⟩
  | .hbm, ⟨12, _⟩ => ⟨S8192x512, .f32⟩
  | .hbm, ⟨13, _⟩ => ⟨S_, .f32⟩
  | .hbm, ⟨14, _⟩ => ⟨S8192x128, .f32⟩
  | .hbm, ⟨15, _⟩ => ⟨S8192x320, .f32⟩
  | .hbm, ⟨16, _⟩ => ⟨S_, .f32⟩
  | .hbm, ⟨17, _⟩ => ⟨S8192x64, .f32⟩
  | .hbm, ⟨18, _⟩ => ⟨S8192x6144, .f32⟩
  | .hbm, ⟨19, _⟩ => ⟨S512x8x192, .f32⟩
  | .hbm, ⟨20, _⟩ => ⟨S_, .f32⟩
  | .hbm, ⟨21, _⟩ => ⟨S512x4096, .f32⟩
  | .hbm, ⟨22, _⟩ => ⟨S512x8x128, .f32⟩
  | .hbm, ⟨23, _⟩ => ⟨S512x1024, .f32⟩
  | .hbm, ⟨24, _⟩ => ⟨S512x8x64, .f32⟩
  | .hbm, ⟨25, _⟩ => ⟨S512x512, .f32⟩
  | .hbm, ⟨26, _⟩ => ⟨S_, .f32⟩
  | .hbm, ⟨27, _⟩ => ⟨S512x128, .f32⟩
  | .hbm, ⟨28, _⟩ => ⟨S512x320, .f32⟩
  | .hbm, ⟨29, _⟩ => ⟨S_, .f32⟩
  | .hbm, ⟨30, _⟩ => ⟨S512x64, .f32⟩
  | .hbm, ⟨31, _⟩ => ⟨S512x6144, .f32⟩
  | .hbm, ⟨32, _⟩ => ⟨S8704x6144, .f32⟩
  | .hbm, ⟨33, _⟩ => ⟨S2048, .i32⟩
  | .hbm, ⟨34, _⟩ => ⟨S1x2048, .i32⟩
  | .hbm, ⟨35, _⟩ => ⟨S4x2048, .i32⟩
  | .hbm, ⟨36, _⟩ => ⟨S8192, .i32⟩
  | .hbm, ⟨37, _⟩ => ⟨S4, .i32⟩
  | .hbm, ⟨38, _⟩ => ⟨S_, .i32⟩
  | .hbm, ⟨39, _⟩ => ⟨S4, .i32⟩
  | .hbm, ⟨40, _⟩ => ⟨S4, .i32⟩
  | .hbm, ⟨41, _⟩ => ⟨S1x4, .i32⟩
  | .hbm, ⟨42, _⟩ => ⟨S128x4, .i32⟩
  | .hbm, ⟨43, _⟩ => ⟨S512, .i32⟩
  | .hbm, ⟨44, _⟩ => ⟨S8704, .i32⟩
  | .hbm, ⟨45, _⟩ => ⟨S32, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S32, .f32⟩
  | .hbm, ⟨53, _⟩ => ⟨S_, .f32⟩
  | .hbm, ⟨54, _⟩ => ⟨S32, .f32⟩
  | .hbm, ⟨55, _⟩ => ⟨S32, .f32⟩
  | .hbm, ⟨56, _⟩ => ⟨S_, .f32⟩
  | .hbm, ⟨57, _⟩ => ⟨S32, .f32⟩
  | .hbm, ⟨58, _⟩ => ⟨S32, .f32⟩
  | .hbm, ⟨59, _⟩ => ⟨S8704, .f32⟩
  | .hbm, ⟨60, _⟩ => ⟨S8704x1, .f32⟩
  | .hbm, ⟨61, _⟩ => ⟨S1x32, .f32⟩
  | .hbm, ⟨62, _⟩ => ⟨S8704x32, .f32⟩
  | .hbm, ⟨63, _⟩ => ⟨S8704x32, .f32⟩
  | .hbm, ⟨64, _⟩ => ⟨S8704x32, .f32⟩
  | .hbm, ⟨65, _⟩ => ⟨S8704x32, .f32⟩
  | .hbm, ⟨66, _⟩ => ⟨S8704x32, .f32⟩
  | .hbm, ⟨67, _⟩ => ⟨S_, .f32⟩
  | .hbm, ⟨68, _⟩ => ⟨S8704x32, .f32⟩
  | .hbm, ⟨69, _⟩ => ⟨S8704x128, .f32⟩
  | .hbm, ⟨70, _⟩ => ⟨S8704x32, .f32⟩
  | .hbm, ⟨71, _⟩ => ⟨S8704x32, .f32⟩
  | .hbm, ⟨72, _⟩ => ⟨S8704x128, .f32⟩
  | .hbm, ⟨73, _⟩ => ⟨S8704x128, .f32⟩
  | .hbm, ⟨74, _⟩ => ⟨S4x8x128x256, .f32⟩
  | .hbm, ⟨75, _⟩ => ⟨S4x8x128x256, .bf16⟩
  | .hbm, ⟨76, _⟩ => ⟨S1x256, .f32⟩
  | .hbm, ⟨77, _⟩ => ⟨S256, .f32⟩
  | .hbm, ⟨78, _⟩ => ⟨S1x256, .f32⟩
  | .hbm, ⟨79, _⟩ => ⟨S1x8x128x256, .bf16⟩
  | .hbm, ⟨80, _⟩ => ⟨S8x128x256, .bf16⟩
  | .hbm, ⟨81, _⟩ => ⟨S8704x384, .f32⟩
  | .hbm, ⟨82, _⟩ => ⟨S8704x384, .bf16⟩
  | .hbm, ⟨83, _⟩ => ⟨S8704x3072, .bf16⟩
  | .local _ .vmem, ⟨0, _⟩ => ⟨S272x1024, .f32⟩
  | .local _ .vmem, ⟨1, _⟩ => ⟨S272x1024, .f32⟩
  | .local _ .vmem, ⟨2, _⟩ => ⟨S272x512, .f32⟩
  | .local _ .vmem, ⟨3, _⟩ => ⟨S272x512, .f32⟩
  | .local _ .vmem, ⟨4, _⟩ => ⟨S272x384, .f32⟩
  | .local _ .vmem, ⟨5, _⟩ => ⟨S272x384, .f32⟩
  | .local _ .vmem, ⟨6, _⟩ => ⟨S272x128, .f32⟩
  | .local _ .vmem, ⟨7, _⟩ => ⟨S272x128, .f32⟩
  | .local _ .vmem, ⟨8, _⟩ => ⟨S272x128, .f32⟩
  | .local _ .vmem, ⟨9, _⟩ => ⟨S272x128, .f32⟩
  | .local _ .vmem, ⟨10, _⟩ => ⟨S272x128, .f32⟩
  | .local _ .vmem, ⟨11, _⟩ => ⟨S272x128, .f32⟩
  | .local _ .vmem, ⟨12, _⟩ => ⟨S1x256, .f32⟩
  | .local _ .vmem, ⟨13, _⟩ => ⟨S8x128x256, .bf16⟩
  | .local _ .vmem, ⟨14, _⟩ => ⟨S272x384, .f32⟩
  | .local _ .vmem, ⟨15, _⟩ => ⟨S272x384, .f32⟩
  | .local _ .vmem, ⟨16, _⟩ => ⟨S272x384, .bf16⟩
  | .local _ .vmem, ⟨17, _⟩ => ⟨S272x384, .bf16⟩
  | .local _ .vmem, ⟨18, _⟩ => ⟨S272x3072, .bf16⟩
  | .local _ .vmem, ⟨19, _⟩ => ⟨S272x3072, .bf16⟩
  | _, _ => ⟨S4x2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_cst_6 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63_0 : Ref sig .tc := ⟨.hbm, 81, rfl⟩
abbrev main_v63_1 : Ref sig .tc := ⟨.hbm, 82, rfl⟩
abbrev main_v63_2 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S272x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S272x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S272x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S272x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S272x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S272x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x128x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S272x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S272x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S272x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S4x2048x1536 : Shape := ⟨3, ![4, 2048, 1536]⟩
abbrev S4x2048x320 : Shape := ⟨3, ![4, 2048, 320]⟩
abbrev S128x4x1536 : Shape := ⟨3, ![128, 4, 1536]⟩
abbrev S128x4x320 : Shape := ⟨3, ![128, 4, 320]⟩
abbrev S4x256 : Shape := ⟨2, ![4, 256]⟩
abbrev S4x256x8x128 : Shape := ⟨4, ![4, 256, 8, 128]⟩
abbrev S2048 : Shape := ⟨1, ![2048]⟩
abbrev S4x2048x8x192 : Shape := ⟨4, ![4, 2048, 8, 192]⟩
abbrev S4x2048x8x64 : Shape := ⟨4, ![4, 2048, 8, 64]⟩
abbrev S32 : Shape := ⟨1, ![32]⟩
abbrev S_ : Shape := ⟨0, ![]⟩
abbrev S2048x1 : Shape := ⟨2, ![2048, 1]⟩
abbrev S1x32 : Shape := ⟨2, ![1, 32]⟩
abbrev S2048x32 : Shape := ⟨2, ![2048, 32]⟩
abbrev S1x2048x1x32 : Shape := ⟨4, ![1, 2048, 1, 32]⟩
abbrev S4x2048x8x32 : Shape := ⟨4, ![4, 2048, 8, 32]⟩
abbrev S4x2048x256 : Shape := ⟨3, ![4, 2048, 256]⟩
abbrev S1x256 : Shape := ⟨2, ![1, 256]⟩
abbrev S256 : Shape := ⟨1, ![256]⟩
abbrev S4x2048 : Shape := ⟨2, ![4, 2048]⟩
abbrev S4x2048x1 : Shape := ⟨3, ![4, 2048, 1]⟩
abbrev S1x1x256 : Shape := ⟨3, ![1, 1, 256]⟩
abbrev S4x2048x64 : Shape := ⟨3, ![4, 2048, 64]⟩
abbrev S1x2048x32 : Shape := ⟨3, ![1, 2048, 32]⟩
abbrev S4x2048x32 : Shape := ⟨3, ![4, 2048, 32]⟩
abbrev S4x2048x8x128 : Shape := ⟨4, ![4, 2048, 8, 128]⟩
abbrev S1x256x8x128 : Shape := ⟨4, ![1, 256, 8, 128]⟩
abbrev S256x8x128 : Shape := ⟨3, ![256, 8, 128]⟩
abbrev S8x256x4x2048 : Shape := ⟨4, ![8, 256, 4, 2048]⟩
abbrev S4x2048x8x256 : Shape := ⟨4, ![4, 2048, 8, 256]⟩
abbrev S4x2048x384 : Shape := ⟨3, ![4, 2048, 384]⟩
abbrev S4x2048x8x384 : Shape := ⟨4, ![4, 2048, 8, 384]⟩
abbrev S8192x384 : Shape := ⟨2, ![8192, 384]⟩
abbrev S8192x3072 : Shape := ⟨2, ![8192, 3072]⟩
abbrev S4 : Shape := ⟨1, ![4]⟩
abbrev S128x4x8x192 : Shape := ⟨4, ![128, 4, 8, 192]⟩
abbrev S128x4x8x64 : Shape := ⟨4, ![128, 4, 8, 64]⟩
abbrev S4x1 : Shape := ⟨2, ![4, 1]⟩
abbrev S4x32 : Shape := ⟨2, ![4, 32]⟩
abbrev S1x4x1x32 : Shape := ⟨4, ![1, 4, 1, 32]⟩
abbrev S128x4x8x32 : Shape := ⟨4, ![128, 4, 8, 32]⟩
abbrev S128x4x256 : Shape := ⟨3, ![128, 4, 256]⟩
abbrev S128x4 : Shape := ⟨2, ![128, 4]⟩
abbrev S128x4x1 : Shape := ⟨3, ![128, 4, 1]⟩
abbrev S128x4x64 : Shape := ⟨3, ![128, 4, 64]⟩
abbrev S1x4x32 : Shape := ⟨3, ![1, 4, 32]⟩
abbrev S128x4x32 : Shape := ⟨3, ![128, 4, 32]⟩
abbrev S128x4x8x128 : Shape := ⟨4, ![128, 4, 8, 128]⟩
abbrev S8x256x128x4 : Shape := ⟨4, ![8, 256, 128, 4]⟩
abbrev S128x4x8x256 : Shape := ⟨4, ![128, 4, 8, 256]⟩
abbrev S128x4x384 : Shape := ⟨3, ![128, 4, 384]⟩
abbrev S128x4x8x384 : Shape := ⟨4, ![128, 4, 8, 384]⟩
abbrev S512x384 : Shape := ⟨2, ![512, 384]⟩
abbrev S512x3072 : Shape := ⟨2, ![512, 3072]⟩
abbrev S8704x384 : Shape := ⟨2, ![8704, 384]⟩
abbrev S8704x3072 : Shape := ⟨2, ![8704, 3072]⟩

abbrev nBuf : Space → Nat
  | .hbm => 266
  | .vmem => 0
  | .smem => 0
  | _ => 0

abbrev hbmTy0_0 (i : Nat) : BufTy := match i % 128 with
  | 0 => ⟨S4x2048x1536, .f32⟩
  | 1 => ⟨S4x2048x320, .f32⟩
  | 2 => ⟨S128x4x1536, .f32⟩
  | 3 => ⟨S128x4x320, .f32⟩
  | 4 => ⟨S4x256, .f32⟩
  | 5 => ⟨S4x256x8x128, .f32⟩
  | 6 => ⟨S2048, .i32⟩
  | 7 => ⟨S4x2048x8x192, .f32⟩
  | 8 => ⟨S4x2048x8x64, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S2048, .f32⟩
  | 24 => ⟨S2048x1, .f32⟩
  | 25 => ⟨S1x32, .f32⟩
  | 26 => ⟨S2048x32, .f32⟩
  | 27 => ⟨S2048x32, .f32⟩
  | 28 => ⟨S2048x32, .f32⟩
  | 29 => ⟨S2048x32, .f32⟩
  | 30 => ⟨S1x2048x1x32, .f32⟩
  | 31 => ⟨S2048x32, .f32⟩
  | 32 => ⟨S1x2048x1x32, .f32⟩
  | 33 => ⟨S4x2048x8x32, .f32⟩
  | 34 => ⟨S4x2048x8x32, .f32⟩
  | 35 => ⟨S4x2048x8x32, .f32⟩
  | 36 => ⟨S4x2048x8x32, .f32⟩
  | 37 => ⟨S4x2048x8x32, .f32⟩
  | 38 => ⟨S4x2048x8x32, .f32⟩
  | 39 => ⟨S4x2048x8x32, .f32⟩
  | 40 => ⟨S4x2048x8x32, .f32⟩
  | 41 => ⟨S4x2048x8x32, .f32⟩
  | 42 => ⟨S4x2048x8x32, .f32⟩
  | 43 => ⟨S4x2048x8x32, .f32⟩
  | 44 => ⟨S4x2048x8x32, .f32⟩
  | 45 => ⟨S4x2048x8x64, .f32⟩
  | 46 => ⟨S4x2048x256, .f32⟩
  | 47 => ⟨S1x256, .f32⟩
  | 48 => ⟨S256, .f32⟩
  | 49 => ⟨S4x2048x256, .f32⟩
  | 50 => ⟨S_, .f32⟩
  | 51 => ⟨S4x2048, .f32⟩
  | 52 => ⟨S4x2048x1, .f32⟩
  | 53 => ⟨S_, .f32⟩
  | 54 => ⟨S4x2048x1, .f32⟩
  | 55 => ⟨S4x2048x1, .f32⟩
  | 56 => ⟨S_, .f32⟩
  | 57 => ⟨S4x2048x1, .f32⟩
  | 58 => ⟨S4x2048x1, .f32⟩
  | 59 => ⟨S4x2048x1, .f32⟩
  | 60 => ⟨S4x2048x256, .f32⟩
  | 61 => ⟨S4x2048x256, .f32⟩
  | 62 => ⟨S1x1x256, .f32⟩
  | 63 => ⟨S4x2048x256, .f32⟩
  | 64 => ⟨S4x2048x256, .f32⟩
  | 65 => ⟨S4x2048x64, .f32⟩
  | 66 => ⟨S32, .f32⟩
  | 67 => ⟨S_, .f32⟩
  | 68 => ⟨S32, .f32⟩
  | 69 => ⟨S32, .f32⟩
  | 70 => ⟨S_, .f32⟩
  | 71 => ⟨S32, .f32⟩
  | 72 => ⟨S32, .f32⟩
  | 73 => ⟨S32, .f32⟩
  | 74 => ⟨S_, .f32⟩
  | 75 => ⟨S32, .f32⟩
  | 76 => ⟨S32, .f32⟩
  | 77 => ⟨S_, .f32⟩
  | 78 => ⟨S32, .f32⟩
  | 79 => ⟨S32, .f32⟩
  | 80 => ⟨S2048, .f32⟩
  | 81 => ⟨S2048x1, .f32⟩
  | 82 => ⟨S1x32, .f32⟩
  | 83 => ⟨S2048x32, .f32⟩
  | 84 => ⟨S2048x32, .f32⟩
  | 85 => ⟨S2048x32, .f32⟩
  | 86 => ⟨S2048x32, .f32⟩
  | 87 => ⟨S1x2048x32, .f32⟩
  | 88 => ⟨S2048x32, .f32⟩
  | 89 => ⟨S1x2048x32, .f32⟩
  | 90 => ⟨S4x2048x32, .f32⟩
  | 91 => ⟨S4x2048x32, .f32⟩
  | 92 => ⟨S4x2048x32, .f32⟩
  | 93 => ⟨S4x2048x32, .f32⟩
  | 94 => ⟨S4x2048x32, .f32⟩
  | 95 => ⟨S4x2048x32, .f32⟩
  | 96 => ⟨S4x2048x32, .f32⟩
  | 97 => ⟨S4x2048x32, .f32⟩
  | 98 => ⟨S4x2048x32, .f32⟩
  | 99 => ⟨S4x2048x32, .f32⟩
  | 100 => ⟨S4x2048x32, .f32⟩
  | 101 => ⟨S4x2048x32, .f32⟩
  | 102 => ⟨S4x2048x64, .f32⟩
  | 103 => ⟨S4x2048x8x128, .f32⟩
  | 104 => ⟨S1x256x8x128, .f32⟩
  | 105 => ⟨S256x8x128, .f32⟩
  | 106 => ⟨S8x256x4x2048, .f32⟩
  | 107 => ⟨S4x2048x8x256, .f32⟩
  | 108 => ⟨S4x2048x8x64, .i32⟩
  | 109 => ⟨S_, .i32⟩
  | 110 => ⟨S4x2048x8x64, .i32⟩
  | 111 => ⟨S4x2048x8x64, .i32⟩
  | 112 => ⟨S_, .i32⟩
  | 113 => ⟨S4x2048x8x64, .i32⟩
  | 114 => ⟨S4x2048x8x64, .i1⟩
  | 115 => ⟨S_, .f32⟩
  | 116 => ⟨S4x2048x64, .f32⟩
  | 117 => ⟨S4x2048x384, .f32⟩
  | 118 => ⟨S4x2048x384, .f32⟩
  | 119 => ⟨S_, .f32⟩
  | 120 => ⟨S_, .f32⟩
  | 121 => ⟨S4x2048x8x64, .f32⟩
  | 122 => ⟨S4x2048x8x64, .f32⟩
  | 123 => ⟨S_, .f32⟩
  | 124 => ⟨S_, .f32⟩
  | 125 => ⟨S4x2048x8x64, .f32⟩
  | 126 => ⟨S4x2048x8x64, .f32⟩
  | 127 => ⟨S4x2048x8x384, .f32⟩
  | _ => ⟨S4x2048x1536, .f32⟩

abbrev hbmTy0_1 (i : Nat) : BufTy := match i % 128 with
  | 0 => ⟨S8192x384, .f32⟩
  | 1 => ⟨S8192x384, .f32⟩
  | 2 => ⟨S8192x384, .bf16⟩
  | 3 => ⟨S8192x3072, .f32⟩
  | 4 => ⟨S8192x3072, .bf16⟩
  | 5 => ⟨S4, .i32⟩
  | 6 => ⟨S_, .i32⟩
  | 7 => ⟨S4, .i32⟩
  | 8 => ⟨S4, .i32⟩
  | 9 => ⟨S128x4x8x192, .f32⟩
  | 10 => ⟨S128x4x8x64, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S4, .f32⟩
  | 26 => ⟨S4x1, .f32⟩
  | 27 => ⟨S1x32, .f32⟩
  | 28 => ⟨S4x32, .f32⟩
  | 29 => ⟨S4x32, .f32⟩
  | 30 => ⟨S4x32, .f32⟩
  | 31 => ⟨S4x32, .f32⟩
  | 32 => ⟨S1x4x1x32, .f32⟩
  | 33 => ⟨S4x32, .f32⟩
  | 34 => ⟨S1x4x1x32, .f32⟩
  | 35 => ⟨S128x4x8x32, .f32⟩
  | 36 => ⟨S128x4x8x32, .f32⟩
  | 37 => ⟨S128x4x8x32, .f32⟩
  | 38 => ⟨S128x4x8x32, .f32⟩
  | 39 => ⟨S128x4x8x32, .f32⟩
  | 40 => ⟨S128x4x8x32, .f32⟩
  | 41 => ⟨S128x4x8x32, .f32⟩
  | 42 => ⟨S128x4x8x32, .f32⟩
  | 43 => ⟨S128x4x8x32, .f32⟩
  | 44 => ⟨S128x4x8x32, .f32⟩
  | 45 => ⟨S128x4x8x32, .f32⟩
  | 46 => ⟨S128x4x8x32, .f32⟩
  | 47 => ⟨S128x4x8x64, .f32⟩
  | 48 => ⟨S128x4x256, .f32⟩
  | 49 => ⟨S1x256, .f32⟩
  | 50 => ⟨S256, .f32⟩
  | 51 => ⟨S128x4x256, .f32⟩
  | 52 => ⟨S_, .f32⟩
  | 53 => ⟨S128x4, .f32⟩
  | 54 => ⟨S128x4x1, .f32⟩
  | 55 => ⟨S_, .f32⟩
  | 56 => ⟨S128x4x1, .f32⟩
  | 57 => ⟨S128x4x1, .f32⟩
  | 58 => ⟨S_, .f32⟩
  | 59 => ⟨S128x4x1, .f32⟩
  | 60 => ⟨S128x4x1, .f32⟩
  | 61 => ⟨S128x4x1, .f32⟩
  | 62 => ⟨S128x4x256, .f32⟩
  | 63 => ⟨S128x4x256, .f32⟩
  | 64 => ⟨S1x1x256, .f32⟩
  | 65 => ⟨S128x4x256, .f32⟩
  | 66 => ⟨S128x4x256, .f32⟩
  | 67 => ⟨S128x4x64, .f32⟩
  | 68 => ⟨S32, .f32⟩
  | 69 => ⟨S_, .f32⟩
  | 70 => ⟨S32, .f32⟩
  | 71 => ⟨S32, .f32⟩
  | 72 => ⟨S_, .f32⟩
  | 73 => ⟨S32, .f32⟩
  | 74 => ⟨S32, .f32⟩
  | 75 => ⟨S32, .f32⟩
  | 76 => ⟨S_, .f32⟩
  | 77 => ⟨S32, .f32⟩
  | 78 => ⟨S32, .f32⟩
  | 79 => ⟨S_, .f32⟩
  | 80 => ⟨S32, .f32⟩
  | 81 => ⟨S32, .f32⟩
  | 82 => ⟨S4, .f32⟩
  | 83 => ⟨S4x1, .f32⟩
  | 84 => ⟨S1x32, .f32⟩
  | 85 => ⟨S4x32, .f32⟩
  | 86 => ⟨S4x32, .f32⟩
  | 87 => ⟨S4x32, .f32⟩
  | 88 => ⟨S4x32, .f32⟩
  | 89 => ⟨S1x4x32, .f32⟩
  | 90 => ⟨S4x32, .f32⟩
  | 91 => ⟨S1x4x32, .f32⟩
  | 92 => ⟨S128x4x32, .f32⟩
  | 93 => ⟨S128x4x32, .f32⟩
  | 94 => ⟨S128x4x32, .f32⟩
  | 95 => ⟨S128x4x32, .f32⟩
  | 96 => ⟨S128x4x32, .f32⟩
  | 97 => ⟨S128x4x32, .f32⟩
  | 98 => ⟨S128x4x32, .f32⟩
  | 99 => ⟨S128x4x32, .f32⟩
  | 100 => ⟨S128x4x32, .f32⟩
  | 101 => ⟨S128x4x32, .f32⟩
  | 102 => ⟨S128x4x32, .f32⟩
  | 103 => ⟨S128x4x32, .f32⟩
  | 104 => ⟨S128x4x64, .f32⟩
  | 105 => ⟨S128x4x8x128, .f32⟩
  | 106 => ⟨S1x256x8x128, .f32⟩
  | 107 => ⟨S256x8x128, .f32⟩
  | 108 => ⟨S8x256x128x4, .f32⟩
  | 109 => ⟨S128x4x8x256, .f32⟩
  | 110 => ⟨S128x4x8x64, .i32⟩
  | 111 => ⟨S_, .i32⟩
  | 112 => ⟨S128x4x8x64, .i32⟩
  | 113 => ⟨S128x4x8x64, .i32⟩
  | 114 => ⟨S_, .i32⟩
  | 115 => ⟨S128x4x8x64, .i32⟩
  | 116 => ⟨S128x4x8x64, .i1⟩
  | 117 => ⟨S_, .f32⟩
  | 118 => ⟨S128x4x64, .f32⟩
  | 119 => ⟨S128x4x384, .f32⟩
  | 120 => ⟨S128x4x384, .f32⟩
  | 121 => ⟨S_, .f32⟩
  | 122 => ⟨S_, .f32⟩
  | 123 => ⟨S128x4x8x64, .f32⟩
  | 124 => ⟨S128x4x8x64, .f32⟩
  | 125 => ⟨S_, .f32⟩
  | 126 => ⟨S_, .f32⟩
  | 127 => ⟨S128x4x8x64, .f32⟩
  | _ => ⟨S4x2048x1536, .f32⟩

abbrev hbmTy0_2 (i : Nat) : BufTy := match i % 128 with
  | 0 => ⟨S128x4x8x64, .f32⟩
  | 1 => ⟨S128x4x8x384, .f32⟩
  | 2 => ⟨S512x384, .f32⟩
  | 3 => ⟨S512x384, .f32⟩
  | 4 => ⟨S512x384, .bf16⟩
  | 5 => ⟨S512x3072, .f32⟩
  | 6 => ⟨S512x3072, .bf16⟩
  | 7 => ⟨S8704x384, .f32⟩
  | 8 => ⟨S8704x384, .bf16⟩
  | 9 => ⟨S8704x3072, .bf16⟩
  | _ => ⟨S4x2048x1536, .f32⟩

abbrev hbmTy (i : Nat) : BufTy := match i / 128 with
  | 0 => hbmTy0_0 i
  | 1 => hbmTy0_1 i
  | 2 => hbmTy0_2 i
  | _ => ⟨S4x2048x1536, .f32⟩

abbrev bufTy : (tb : Table) → Fin (tcTables nBuf tb) → BufTy
  | .hbm, ⟨i, _⟩ => hbmTy i
  | _, _ => ⟨S4x2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_cst_4 : Ref sig .tc := ⟨.hbm, 53, rfl⟩
abbrev main_v42 : Ref sig .tc := ⟨.hbm, 54, rfl⟩
abbrev main_v43 : Ref sig .tc := ⟨.hbm, 55, rfl⟩
abbrev main_cst_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_cst_6 : Ref sig .tc := ⟨.hbm, 67, rfl⟩
abbrev main_v54 : Ref sig .tc := ⟨.hbm, 68, rfl⟩
abbrev main_v55 : Ref sig .tc := ⟨.hbm, 69, rfl⟩
abbrev main_cst_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_cst_9 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_c : Ref sig .tc := ⟨.hbm, 109, rfl⟩
abbrev main_v92 : Ref sig .tc := ⟨.hbm, 110, rfl⟩
abbrev main_v93 : Ref sig .tc := ⟨.hbm, 111, rfl⟩
abbrev main_c_10 : Ref sig .tc := ⟨.hbm, 112, rfl⟩
abbrev main_v94 : Ref sig .tc := ⟨.hbm, 113, rfl⟩
abbrev main_v95 : Ref sig .tc := ⟨.hbm, 114, rfl⟩
abbrev main_cst_11 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_cst_12 : Ref sig .tc := ⟨.hbm, 119, rfl⟩
abbrev main_call0_v0 : Ref sig .tc := ⟨.hbm, 120, rfl⟩
abbrev main_call0_v1 : Ref sig .tc := ⟨.hbm, 121, rfl⟩
abbrev main_v99 : Ref sig .tc := ⟨.hbm, 122, rfl⟩
abbrev main_cst_13 : Ref sig .tc := ⟨.hbm, 123, rfl⟩
abbrev main_call1_v0 : Ref sig .tc := ⟨.hbm, 124, rfl⟩
abbrev main_call1_v1 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_c_14 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_cst_15 : Ref sig .tc := ⟨.hbm, 140, rfl⟩
abbrev main_v113 : Ref sig .tc := ⟨.hbm, 141, rfl⟩
abbrev main_v114 : Ref sig .tc := ⟨.hbm, 142, rfl⟩
abbrev main_cst_16 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_17 : Ref sig .tc := ⟨.hbm, 147, rfl⟩
abbrev main_v118 : Ref sig .tc := ⟨.hbm, 148, rfl⟩
abbrev main_v119 : Ref sig .tc := ⟨.hbm, 149, rfl⟩
abbrev main_cst_18 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_cst_19 : Ref sig .tc := ⟨.hbm, 180, rfl⟩
abbrev main_v149 : Ref sig .tc := ⟨.hbm, 181, rfl⟩
abbrev main_v150 : Ref sig .tc := ⟨.hbm, 182, rfl⟩
abbrev main_cst_20 : Ref sig .tc := ⟨.hbm, 183, rfl⟩
abbrev main_v151 : Ref sig .tc := ⟨.hbm, 184, rfl⟩
abbrev main_v152 : Ref sig .tc := ⟨.hbm, 185, rfl⟩
abbrev main_cst_21 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_cst_22 : Ref sig .tc := ⟨.hbm, 197, rfl⟩
abbrev main_v163 : Ref sig .tc := ⟨.hbm, 198, rfl⟩
abbrev main_v164 : Ref sig .tc := ⟨.hbm, 199, rfl⟩
abbrev main_cst_23 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_cst_24 : Ref sig .tc := ⟨.hbm, 204, rfl⟩
abbrev main_v168 : Ref sig .tc := ⟨.hbm, 205, rfl⟩
abbrev main_v169 : Ref sig .tc := ⟨.hbm, 206, rfl⟩
abbrev main_cst_25 : Ref sig .tc := ⟨.hbm, 207, rfl⟩
abbrev main_v170 : Ref sig .tc := ⟨.hbm, 208, rfl⟩
abbrev main_v171 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_c_26 : Ref sig .tc := ⟨.hbm, 239, rfl⟩
abbrev main_v201 : Ref sig .tc := ⟨.hbm, 240, rfl⟩
abbrev main_v202 : Ref sig .tc := ⟨.hbm, 241, rfl⟩
abbrev main_c_27 : Ref sig .tc := ⟨.hbm, 242, rfl⟩
abbrev main_v203 : Ref sig .tc := ⟨.hbm, 243, rfl⟩
abbrev main_v204 : Ref sig .tc := ⟨.hbm, 244, rfl⟩
abbrev main_cst_28 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_cst_29 : Ref sig .tc := ⟨.hbm, 249, rfl⟩
abbrev main_call2_v0 : Ref sig .tc := ⟨.hbm, 250, rfl⟩
abbrev main_call2_v1 : Ref sig .tc := ⟨.hbm, 251, rfl⟩
abbrev main_v208 : Ref sig .tc := ⟨.hbm, 252, rfl⟩
abbrev main_cst_30 : Ref sig .tc := ⟨.hbm, 253, rfl⟩
abbrev main_call3_v0 : Ref sig .tc := ⟨.hbm, 254, rfl⟩
abbrev main_call3_v1 : Ref sig .tc := ⟨.hbm, 255, rfl⟩
abbrev main_v209 : Ref sig .tc := ⟨.hbm, 256, rfl⟩
abbrev main_v210 : Ref sig .tc := ⟨.hbm, 257, rfl⟩
abbrev main_v211 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩

abbrev nD : Nat := 1
abbrev τ : Topo := Topo.v7x

variable {F : FTy → Type} [FloatOps F]
-- ==== Kernel5.lean ====
abbrev S4x2048x2048 : Shape := ⟨3, ![4, 2048, 2048]⟩
abbrev S128x4x2048 : Shape := ⟨3, ![128, 4, 2048]⟩
abbrev S2048 : Shape := ⟨1, ![2048]⟩
abbrev S8192x2048 : Shape := ⟨2, ![8192, 2048]⟩
abbrev S512x2048 : Shape := ⟨2, ![512, 2048]⟩
abbrev S8704x2048 : Shape := ⟨2, ![8704, 2048]⟩
abbrev S1x2048 : Shape := ⟨2, ![1, 2048]⟩
abbrev S512 : Shape := ⟨1, ![512]⟩
abbrev S512x1 : Shape := ⟨2, ![512, 1]⟩

abbrev nBuf : Space → Nat
  | .hbm => 9
  | .vmem => 7
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S2048, .f32⟩
  | .hbm, ⟨3, _⟩ => ⟨S8192x2048, .f32⟩
  | .hbm, ⟨4, _⟩ => ⟨S512x2048, .f32⟩
  | .hbm, ⟨5, _⟩ => ⟨S8704x2048, .f32⟩
  | .hbm, ⟨6, _⟩ => ⟨S1x2048, .f32⟩
  | .hbm, ⟨7, _⟩ => ⟨S8192x2048, .f32⟩
  | .hbm, ⟨8, _⟩ => ⟨S512x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c16_i32 : BitVec 32 := 16#32
  let v16 : BitVec 1 := Scalar.cmpi .slt arg0 c16_i32
  let v17 : BitVec 32 := Scalar.extui v16
  let c0_i32 : BitVec 32 := 0#32
  let v18 : BitVec 1 := Scalar.cmpi .ne v17 c0_i32
  v18

def k0_cond2 (i : grid0.Coords) : BitVec 1 :=
  let arg0 : BitVec 32 := BitVec.ofNat 32 (i 0).val
  let c16_i32_5 : BitVec 32 := 16#32
  let v19 : BitVec 1 := Scalar.cmpi .sge arg0 c16_i32_5
  let v20 : BitVec 32 := Scalar.extui v19
  let c0_i32_6 : BitVec 32 := 0#32
  let v21 : BitVec 1 := Scalar.cmpi .ne v20 c0_i32_6
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x2048x2048 : Shape := ⟨3, ![4, 2048, 2048]⟩
abbrev S128x4x2048 : Shape := ⟨3, ![128, 4, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩
abbrev S128x4 : Shape := ⟨2, ![128, 4]⟩
abbrev S128x4x1 : Shape := ⟨3, ![128, 4, 1]⟩
abbrev S512x2048 : Shape := ⟨2, ![512, 2048]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S2048, .f32⟩
  | .hbm, ⟨3, _⟩ => ⟨S4x2048x2048, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x2048, .f32⟩
  | .hbm, ⟨15, _⟩ => ⟨S4x2048x2048, .f32⟩
  | .hbm, ⟨16, _⟩ => ⟨S1x1x2048, .f32⟩
  | .hbm, ⟨17, _⟩ => ⟨S4x2048x2048, .f32⟩
  | .hbm, ⟨18, _⟩ => ⟨S4x2048x2048, .f32⟩
  | .hbm, ⟨19, _⟩ => ⟨S8192x2048, .f32⟩
  | .hbm, ⟨20, _⟩ => ⟨S128x4x2048, .f32⟩
  | .hbm, ⟨21, _⟩ => ⟨S_, .f32⟩
  | .hbm, ⟨22, _⟩ => ⟨S128x4, .f32⟩
  | .hbm, ⟨23, _⟩ => ⟨S128x4x1, .f32⟩
  | .hbm, ⟨24, _⟩ => ⟨S_, .f32⟩
  | .hbm, ⟨25, _⟩ => ⟨S128x4x1, .f32⟩
  | .hbm, ⟨26, _⟩ => ⟨S128x4x1, .f32⟩
  | .hbm, ⟨27, _⟩ => ⟨S_, .f32⟩
  | .hbm, ⟨28, _⟩ => ⟨S128x4x1, .f32⟩
  | .hbm, ⟨29, _⟩ => ⟨S128x4x1, .f32⟩
  | .hbm, ⟨30, _⟩ => ⟨S128x4x1, .f32⟩
  | .hbm, ⟨31, _⟩ => ⟨S128x4x2048, .f32⟩
  | .hbm, ⟨32, _⟩ => ⟨S128x4x2048, .f32⟩
  | .hbm, ⟨33, _⟩ => ⟨S1x1x2048, .f32⟩
  | .hbm, ⟨34, _⟩ => ⟨S128x4x2048, .f32⟩
  | .hbm, ⟨35, _⟩ => ⟨S128x4x2048, .f32⟩
  | .hbm, ⟨36, _⟩ => ⟨S512x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]
-- ==== Kernel6.lean ====
abbrev S4x2048x2048 : Shape := ⟨3, ![4, 2048, 2048]⟩
abbrev S128x4x2048 : Shape := ⟨3, ![128, 4, 2048]⟩
abbrev S4x2048x512 : Shape := ⟨3, ![4, 2048, 512]⟩
abbrev S128x4x512 : Shape := ⟨3, ![128, 4, 512]⟩
abbrev S4x2048x8x256 : Shape := ⟨4, ![4, 2048, 8, 256]⟩
abbrev S128x4x8x256 : Shape := ⟨4, ![128, 4, 8, 256]⟩
abbrev S4x256x8x128 : Shape := ⟨4, ![4, 256, 8, 128]⟩
abbrev S8192x2048 : Shape := ⟨2, ![8192, 2048]⟩
abbrev S512x2048 : Shape := ⟨2, ![512, 2048]⟩
abbrev S8704x2048 : Shape := ⟨2, ![8704, 2048]⟩
abbrev S8192x512 : Shape := ⟨2, ![8192, 512]⟩
abbrev S512x512 : Shape := ⟨2, ![512, 512]⟩
abbrev S4x8x256x128 : Shape := ⟨4, ![4, 8, 256, 128]⟩
abbrev S1x8x256x128 : Shape := ⟨4, ![1, 8, 256, 128]⟩
abbrev S1x2048x2048 : Shape := ⟨3, ![1, 2048, 2048]⟩
abbrev S512x1024 : Shape := ⟨2, ![512, 1024]⟩
abbrev S512x256 : Shape := ⟨2, ![512, 256]⟩
abbrev S1x1x256x128 : Shape := ⟨4, ![1, 1, 256, 128]⟩
abbrev S256x128 : Shape := ⟨2, ![256, 128]⟩
abbrev S512x128 : Shape := ⟨2, ![512, 128]⟩
abbrev S1x512x2048 : Shape := ⟨3, ![1, 512, 2048]⟩
abbrev S1x1024x2048 : Shape := ⟨3, ![1, 1024, 2048]⟩
abbrev S1024x2048 : Shape := ⟨2, ![1024, 2048]⟩

abbrev nBuf : Space → Nat
  | .hbm => 29
  | .vmem => 19
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S4x2048x512, .f32⟩
  | .hbm, ⟨3, _⟩ => ⟨S128x4x512, .f32⟩
  | .hbm, ⟨4, _⟩ => ⟨S4x2048x512, .f32⟩
  | .hbm, ⟨5, _⟩ => ⟨S128x4x512, .f32⟩
  | .hbm, ⟨6, _⟩ => ⟨S4x2048x8x256, .f32⟩
  | .hbm, ⟨7, _⟩ => ⟨S128x4x8x256, .f32⟩
  | .hbm, ⟨8, _⟩ => ⟨S4x256x8x128, .f32⟩
  | .hbm, ⟨9, _⟩ => ⟨S4x2048x2048, .f32⟩
  | .hbm, ⟨10, _⟩ => ⟨S8192x2048, .f32⟩
  | .hbm, ⟨11, _⟩ => ⟨S512x2048, .f32⟩
  | .hbm, ⟨12, _⟩ => ⟨S8704x2048, .f32⟩
  | .hbm, ⟨13, _⟩ => ⟨S8192x512, .f32⟩
  | .hbm, ⟨14, _⟩ => ⟨S8192x512, .bf16⟩
  | .hbm, ⟨15, _⟩ => ⟨S512x512, .f32⟩
  | .hbm, ⟨16, _⟩ => ⟨S512x512, .bf16⟩
  | .hbm, ⟨17, _⟩ => ⟨S8192x512, .f32⟩
  | .hbm, ⟨18, _⟩ => ⟨S8192x512, .bf16⟩
  | .hbm, ⟨19, _⟩ => ⟨S512x512, .f32⟩
  | .hbm, ⟨20, _⟩ => ⟨S512x512, .bf16⟩
  | .hbm, ⟨21, _⟩ => ⟨S8192x2048, .f32⟩
  | .hbm, ⟨22, _⟩ => ⟨S8192x2048, .bf16⟩
  | .hbm, ⟨23, _⟩ => ⟨S512x2048, .f32⟩
  | .hbm, ⟨24, _⟩ => ⟨S512x2048, .bf16⟩
  | .hbm, ⟨25, _⟩ => ⟨S4x8x256x128, .f32⟩
  | .hbm, ⟨26, _⟩ => ⟨S4x8x256x128, .bf16⟩
  | .hbm, ⟨27, _⟩ => ⟨S4x2048x2048, .bf16⟩
  | .hbm, ⟨28, _⟩ => ⟨S8704x2048, .f32⟩
  | .local _ .vmem, ⟨0, _⟩ => ⟨S512x2048, .f32⟩
  | .local _ .vmem, ⟨1, _⟩ => ⟨S512x2048, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x2048, .bf16⟩
  | .local _ .vmem, ⟨11, _⟩ => ⟨S512x2048, .bf16⟩
  | .local _ .vmem, ⟨12, _⟩ => ⟨S512x2048, .bf16⟩
  | .local _ .vmem, ⟨13, _⟩ => ⟨S512x2048, .bf16⟩
  | .local _ .vmem, ⟨14, _⟩ => ⟨S1x8x256x128, .bf16⟩
  | .local _ .vmem, ⟨15, _⟩ => ⟨S1x2048x2048, .bf16⟩
  | .local _ .vmem, ⟨16, _⟩ => ⟨S512x2048, .f32⟩
  | .local _ .vmem, ⟨17, _⟩ => ⟨S512x2048, .f32⟩
  | .local _ .vmem, ⟨18, _⟩ => ⟨S512x1024, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![17], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x8x256x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference6Ideal.lean ====
abbrev S4x2048x2048 : Shape := ⟨3, ![4, 2048, 2048]⟩
abbrev S128x4x2048 : Shape := ⟨3, ![128, 4, 2048]⟩
abbrev S4x2048x512 : Shape := ⟨3, ![4, 2048, 512]⟩
abbrev S128x4x512 : Shape := ⟨3, ![128, 4, 512]⟩
abbrev S4x2048x8x256 : Shape := ⟨4, ![4, 2048, 8, 256]⟩
abbrev S128x4x8x256 : Shape := ⟨4, ![128, 4, 8, 256]⟩
abbrev S4x256x8x128 : Shape := ⟨4, ![4, 256, 8, 128]⟩
abbrev S1x256x8x128 : Shape := ⟨4, ![1, 256, 8, 128]⟩
abbrev S256x8x128 : Shape := ⟨3, ![256, 8, 128]⟩
abbrev S8x128x4x2048 : Shape := ⟨4, ![8, 128, 4, 2048]⟩
abbrev S4x2048x8x128 : Shape := ⟨4, ![4, 2048, 8, 128]⟩
abbrev S4x2048x1024 : Shape := ⟨3, ![4, 2048, 1024]⟩
abbrev S1x2048x2048 : Shape := ⟨3, ![1, 2048, 2048]⟩
abbrev S2048x2048 : Shape := ⟨2, ![2048, 2048]⟩
abbrev S8192x2048 : Shape := ⟨2, ![8192, 2048]⟩
abbrev S8x128x128x4 : Shape := ⟨4, ![8, 128, 128, 4]⟩
abbrev S128x4x8x128 : Shape := ⟨4, ![128, 4, 8, 128]⟩
abbrev S128x4x1024 : Shape := ⟨3, ![128, 4, 1024]⟩
abbrev S512x2048 : Shape := ⟨2, ![512, 2048]⟩
abbrev S8704x2048 : Shape := ⟨2, ![8704, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S128x4x2048, .f32⟩
  | .hbm, ⟨2, _⟩ => ⟨S4x2048x512, .f32⟩
  | .hbm, ⟨3, _⟩ => ⟨S128x4x512, .f32⟩
  | .hbm, ⟨4, _⟩ => ⟨S4x2048x512, .f32⟩
  | .hbm, ⟨5, _⟩ => ⟨S128x4x512, .f32⟩
  | .hbm, ⟨6, _⟩ => ⟨S4x2048x8x256, .f32⟩
  | .hbm, ⟨7, _⟩ => ⟨S128x4x8x256, .f32⟩
  | .hbm, ⟨8, _⟩ => ⟨S4x256x8x128, .f32⟩
  | .hbm, ⟨9, _⟩ => ⟨S4x2048x2048, .f32⟩
  | .hbm, ⟨10, _⟩ => ⟨S1x256x8x128, .f32⟩
  | .hbm, ⟨11, _⟩ => ⟨S256x8x128, .f32⟩
  | .hbm, ⟨12, _⟩ => ⟨S8x128x4x2048, .f32⟩
  | .hbm, ⟨13, _⟩ => ⟨S4x2048x8x128, .f32⟩
  | .hbm, ⟨14, _⟩ => ⟨S4x2048x1024, .f32⟩
  | .hbm, ⟨15, _⟩ => ⟨S4x2048x2048, .f32⟩
  | .hbm, ⟨16, _⟩ => ⟨S1x2048x2048, .f32⟩
  | .hbm, ⟨17, _⟩ => ⟨S2048x2048, .f32⟩
  | .hbm, ⟨18, _⟩ => ⟨S4x2048x2048, .f32⟩
  | .hbm, ⟨19, _⟩ => ⟨S4x2048x2048, .f32⟩
  | .hbm, ⟨20, _⟩ => ⟨S8192x2048, .f32⟩
  | .hbm, ⟨21, _⟩ => ⟨S1x256x8x128, .f32⟩
  | .hbm, ⟨22, _⟩ => ⟨S256x8x128, .f32⟩
  | .hbm, ⟨23, _⟩ => ⟨S8x128x128x4, .f32⟩
  | .hbm, ⟨24, _⟩ => ⟨S128x4x8x128, .f32⟩
  | .hbm, ⟨25, _⟩ => ⟨S128x4x1024, .f32⟩
  | .hbm, ⟨26, _⟩ => ⟨S128x4x2048, .f32⟩
  | .hbm, ⟨27, _⟩ => ⟨S1x2048x2048, .f32⟩
  | .hbm, ⟨28, _⟩ => ⟨S2048x2048, .f32⟩
  | .hbm, ⟨29, _⟩ => ⟨S128x4x2048, .f32⟩
  | .hbm, ⟨30, _⟩ => ⟨S128x4x2048, .f32⟩
  | .hbm, ⟨31, _⟩ => ⟨S512x2048, .f32⟩
  | .hbm, ⟨32, _⟩ => ⟨S8704x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Kernel7.lean ====
abbrev S128x4x2048 : Shape := ⟨3, ![128, 4, 2048]⟩
abbrev S4x128x4x128x128 : Shape := ⟨5, ![4, 128, 4, 128, 128]⟩
abbrev S4x512 : Shape := ⟨2, ![4, 512]⟩
abbrev S4x4x4 : Shape := ⟨3, ![4, 4, 4]⟩
abbrev S4x4 : Shape := ⟨2, ![4, 4]⟩
abbrev S512x2048 : Shape := ⟨2, ![512, 2048]⟩
abbrev S_ : Shape := ⟨0, ![]⟩
abbrev S512x4096 : Shape := ⟨2, ![512, 4096]⟩
abbrev S512x6144 : Shape := ⟨2, ![512, 6144]⟩
abbrev S8192x6144 : Shape := ⟨2, ![8192, 6144]⟩
abbrev S8704x6144 : Shape := ⟨2, ![8704, 6144]⟩
abbrev S2048 : Shape := ⟨1, ![2048]⟩
abbrev S1x2048 : Shape := ⟨2, ![1, 2048]⟩
abbrev S4x2048 : Shape := ⟨2, ![4, 2048]⟩
abbrev S8192 : Shape := ⟨1, ![8192]⟩
abbrev S4 : Shape := ⟨1, ![4]⟩
abbrev S1x4 : Shape := ⟨2, ![1, 4]⟩
abbrev S128x4 : Shape := ⟨2, ![128, 4]⟩
abbrev S512 : Shape := ⟨1, ![512]⟩
abbrev S8704 : Shape := ⟨1, ![8704]⟩
abbrev S64 : Shape := ⟨1, ![64]⟩
abbrev S8704x1 : Shape := ⟨2, ![8704, 1]⟩
abbrev S1x64 : Shape := ⟨2, ![1, 64]⟩
abbrev S8704x64 : Shape := ⟨2, ![8704, 64]⟩
abbrev S8704x128 : Shape := ⟨2, ![8704, 128]⟩
abbrev S1x512 : Shape := ⟨2, ![1, 512]⟩
abbrev S8x8 : Shape := ⟨2, ![8, 8]⟩
abbrev S1x8x1x8x1 : Shape := ⟨5, ![1, 8, 1, 8, 1]⟩
abbrev S4x1x4x1x4 : Shape := ⟨5, ![4, 1, 4, 1, 4]⟩
abbrev S4x8x4x8x4 : Shape := ⟨5, ![4, 8, 4, 8, 4]⟩
abbrev S4x32x32 : Shape := ⟨3, ![4, 32, 32]⟩
abbrev S1x4x4x1 : Shape := ⟨4, ![1, 4, 4, 1]⟩
abbrev S8x4x4x128 : Shape := ⟨4, ![8, 4, 4, 128]⟩
abbrev S32x512 : Shape := ⟨2, ![32, 512]⟩
abbrev S8 : Shape := ⟨1, ![8]⟩
abbrev S8x1x1 : Shape := ⟨3, ![8, 1, 1]⟩
abbrev S8x4x128 : Shape := ⟨3, ![8, 4, 128]⟩
abbrev S32x128 : Shape := ⟨2, ![32, 128]⟩
abbrev S512x512 : Shape := ⟨2, ![512, 512]⟩
abbrev S128x4x128x128 : Shape := ⟨4, ![128, 4, 128, 128]⟩
abbrev S1x8x4x128x128 : Shape := ⟨5, ![1, 8, 4, 128, 128]⟩
abbrev S8x4x128x128 : Shape := ⟨4, ![8, 4, 128, 128]⟩
abbrev S32x32 : Shape := ⟨2, ![32, 32]⟩
abbrev S1x32x32 : Shape := ⟨3, ![1, 32, 32]⟩
abbrev S1x1x1x128x128 : Shape := ⟨5, ![1, 1, 1, 128, 128]⟩
abbrev S128x128 : Shape := ⟨2, ![128, 128]⟩
abbrev S1x1x128x128 : Shape := ⟨4, ![1, 1, 128, 128]⟩
abbrev S1x128 : Shape := ⟨2, ![1, 128]⟩
abbrev S32 : Shape := ⟨1, ![32]⟩
abbrev S32x1 : Shape := ⟨2, ![32, 1]⟩

abbrev nBuf : Space → Nat
  | .hbm => 78
  | .vmem => 23
  | .smem => 0
  | _ => 0

abbrev bufTy : (tb : Table) → Fin (tcTables nBuf tb) → BufTy
  | .hbm, ⟨0, _⟩ => ⟨S128x4x2048, .f32⟩
  | .hbm, ⟨1, _⟩ => ⟨S4x128x4x128x128, .f32⟩
  | .hbm, ⟨2, _⟩ => ⟨S4x512, .f32⟩
  | .hbm, ⟨3, _⟩ => ⟨S4x4x4, .f32⟩
  | .hbm, ⟨4, _⟩ => ⟨S4x4, .f32⟩
  | .hbm, ⟨5, _⟩ => ⟨S4x4, .f32⟩
  | .hbm, ⟨6, _⟩ => ⟨S512x2048, .f32⟩
  | .hbm, ⟨7, _⟩ => ⟨S_, .f32⟩
  | .hbm, ⟨8, _⟩ => ⟨S512x4096, .f32⟩
  | .hbm, ⟨9, _⟩ => ⟨S512x6144, .f32⟩
  | .hbm, ⟨10, _⟩ => ⟨S_, .f32⟩
  | .hbm, ⟨11, _⟩ => ⟨S8192x6144, .f32⟩
  | .hbm, ⟨12, _⟩ => ⟨S8704x6144, .f32⟩
  | .hbm, ⟨13, _⟩ => ⟨S2048, .i32⟩
  | .hbm, ⟨14, _⟩ => ⟨S1x2048, .i32⟩
  | .hbm, ⟨15, _⟩ => ⟨S4x2048, .i32⟩
  | .hbm, ⟨16, _⟩ => ⟨S8192, .i32⟩
  | .hbm, ⟨17, _⟩ => ⟨S4, .i32⟩
  | .hbm, ⟨18, _⟩ => ⟨S_, .i32⟩
  | .hbm, ⟨19, _⟩ => ⟨S4, .i32⟩
  | .hbm, ⟨20, _⟩ => ⟨S4, .i32⟩
  | .hbm, ⟨21, _⟩ => ⟨S1x4, .i32⟩
  | .hbm, ⟨22, _⟩ => ⟨S128x4, .i32⟩
  | .hbm, ⟨23, _⟩ => ⟨S512, .i32⟩
  | .hbm, ⟨24, _⟩ => ⟨S8704, .i32⟩
  | .hbm, ⟨25, _⟩ => ⟨S64, .f32⟩
  | .hbm, ⟨26, _⟩ => ⟨S_, .f32⟩
  | .hbm, ⟨27, _⟩ => ⟨S64, .f32⟩
  | .hbm, ⟨28, _⟩ => ⟨S64, .f32⟩
  | .hbm, ⟨29, _⟩ => ⟨S_, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S_, .f32⟩
  | .hbm, ⟨37, _⟩ => ⟨S64, .f32⟩
  | .hbm, ⟨38, _⟩ => ⟨S64, .f32⟩
  | .hbm, ⟨39, _⟩ => ⟨S8704, .f32⟩
  | .hbm, ⟨40, _⟩ => ⟨S8704x1, .f32⟩
  | .hbm, ⟨41, _⟩ => ⟨S1x64, .f32⟩
  | .hbm, ⟨42, _⟩ => ⟨S8704x64, .f32⟩
  | .hbm, ⟨43, _⟩ => ⟨S8704x64, .f32⟩
  | .hbm, ⟨44, _⟩ => ⟨S8704x64, .f32⟩
  | .hbm, ⟨45, _⟩ => ⟨S8704x64, .f32⟩
  | .hbm, ⟨46, _⟩ => ⟨S8704x64, .f32⟩
  | .hbm, ⟨47, _⟩ => ⟨S8704x128, .f32⟩
  | .hbm, ⟨48, _⟩ => ⟨S8704x64, .f32⟩
  | .hbm, ⟨49, _⟩ => ⟨S8704x128, .f32⟩
  | .hbm, ⟨50, _⟩ => ⟨S1x512, .f32⟩
  | .hbm, ⟨51, _⟩ => ⟨S512, .f32⟩
  | .hbm, ⟨52, _⟩ => ⟨S1x512, .f32⟩
  | .hbm, ⟨53, _⟩ => ⟨S8x8, .i32⟩
  | .hbm, ⟨54, _⟩ => ⟨S8x8, .i32⟩
  | .hbm, ⟨55, _⟩ => ⟨S_, .i32⟩
  | .hbm, ⟨56, _⟩ => ⟨S8x8, .i32⟩
  | .hbm, ⟨57, _⟩ => ⟨S8x8, .i32⟩
  | .hbm, ⟨58, _⟩ => ⟨S8x8, .i1⟩
  | .hbm, ⟨59, _⟩ => ⟨S8x8, .f32⟩
  | .hbm, ⟨60, _⟩ => ⟨S1x8x1x8x1, .f32⟩
  | .hbm, ⟨61, _⟩ => ⟨S4x1x4x1x4, .f32⟩
  | .hbm, ⟨62, _⟩ => ⟨S4x8x4x8x4, .f32⟩
  | .hbm, ⟨63, _⟩ => ⟨S4x8x4x8x4, .f32⟩
  | .hbm, ⟨64, _⟩ => ⟨S4x8x4x8x4, .f32⟩
  | .hbm, ⟨65, _⟩ => ⟨S4x32x32, .f32⟩
  | .hbm, ⟨66, _⟩ => ⟨S1x4x4x1, .f32⟩
  | .hbm, ⟨67, _⟩ => ⟨S8x4x4x128, .f32⟩
  | .hbm, ⟨68, _⟩ => ⟨S32x512, .f32⟩
  | .hbm, ⟨69, _⟩ => ⟨S1x4x4x1, .f32⟩
  | .hbm, ⟨70, _⟩ => ⟨S8x4x4x128, .f32⟩
  | .hbm, ⟨71, _⟩ => ⟨S32x512, .f32⟩
  | .hbm, ⟨72, _⟩ => ⟨S8, .f32⟩
  | .hbm, ⟨73, _⟩ => ⟨S8x1x1, .f32⟩
  | .hbm, ⟨74, _⟩ => ⟨S8x4x128, .f32⟩
  | .hbm, ⟨75, _⟩ => ⟨S32x128, .f32⟩
  | .hbm, ⟨76, _⟩ => ⟨S512x512, .bf16⟩
  | .hbm, ⟨77, _⟩ => ⟨S128x4x128x128, .f32⟩
  | .local _ .vmem, ⟨0, _⟩ => ⟨S32x512, .f32⟩
  | .local _ .vmem, ⟨1, _⟩ => ⟨S32x512, .f32⟩
  | .local _ .vmem, ⟨2, _⟩ => ⟨S32x512, .f32⟩
  | .local _ .vmem, ⟨3, _⟩ => ⟨S32x512, .f32⟩
  | .local _ .vmem, ⟨4, _⟩ => ⟨S32x512, .f32⟩
  | .local _ .vmem, ⟨5, _⟩ => ⟨S32x512, .f32⟩
  | .local _ .vmem, ⟨6, _⟩ => ⟨S32x512, .f32⟩
  | .local _ .vmem, ⟨7, _⟩ => ⟨S32x512, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S4x32x32, .f32⟩
  | .local _ .vmem, ⟨13, _⟩ => ⟨S32x512, .f32⟩
  | .local _ .vmem, ⟨14, _⟩ => ⟨S32x512, .f32⟩
  | .local _ .vmem, ⟨15, _⟩ => ⟨S1x512, .f32⟩
  | .local _ .vmem, ⟨16, _⟩ => ⟨S32x128, .f32⟩
  | .local _ .vmem, ⟨17, _⟩ => ⟨S1x8x4x128x128, .f32⟩
  | .local _ .vmem, ⟨18, _⟩ => ⟨S1x8x4x128x128, .f32⟩
  | .local _ .vmem, ⟨19, _⟩ => ⟨S32x512, .bf16⟩
  | .local _ .vmem, ⟨20, _⟩ => ⟨S32x512, .bf16⟩
  | .local _ .vmem, ⟨21, _⟩ => ⟨S8x4x128x128, .f32⟩
  | .local _ .vmem, ⟨22, _⟩ => ⟨S8x4x128x128, .f32⟩
  | _, _ => ⟨S128x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_cst_1 : Ref sig .tc := ⟨.hbm, 5, rfl⟩
abbrev main_v0 : Ref sig .tc := ⟨.hbm, 6, rfl⟩
abbrev main_cst_2 : Ref sig .tc := ⟨.hbm, 7, rfl⟩
abbrev main_v1 : Ref sig .tc := ⟨.hbm, 8, rfl⟩
abbrev main_v2 : Ref sig .tc := ⟨.hbm, 9, rfl⟩
abbrev main_cst_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_c_8 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62_0 : Ref sig .tc := ⟨.hbm, 76, rfl⟩
abbrev main_v62_1 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c256_i32 : BitVec 32 := 256#32
  let v0 : BitVec 32 := Scalar.addi c256_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c256_i32 : BitVec 32 := 256#32
  let v0 : BitVec 32 := Scalar.addi c256_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c256_i32 : BitVec 32 := 256#32
  let v0 : BitVec 32 := Scalar.addi c256_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x32x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x8x4x128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S8x4x128x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference7Ideal.lean ====
abbrev S128x4x2048 : Shape := ⟨3, ![128, 4, 2048]⟩
abbrev S4x128x4x128x128 : Shape := ⟨5, ![4, 128, 4, 128, 128]⟩
abbrev S4x512 : Shape := ⟨2, ![4, 512]⟩
abbrev S4x4 : Shape := ⟨2, ![4, 4]⟩
abbrev S4 : Shape := ⟨1, ![4]⟩
abbrev S128x4x512 : Shape := ⟨3, ![128, 4, 512]⟩
abbrev S128x4x4x128 : Shape := ⟨4, ![128, 4, 4, 128]⟩
abbrev S_ : Shape := ⟨0, ![]⟩
abbrev S64 : Shape := ⟨1, ![64]⟩
abbrev S4x1 : Shape := ⟨2, ![4, 1]⟩
abbrev S1x64 : Shape := ⟨2, ![1, 64]⟩
abbrev S4x64 : Shape := ⟨2, ![4, 64]⟩
abbrev S1x4x1x64 : Shape := ⟨4, ![1, 4, 1, 64]⟩
abbrev S128x4x4x64 : Shape := ⟨4, ![128, 4, 4, 64]⟩
abbrev S1x128x4x128x128 : Shape := ⟨5, ![1, 128, 4, 128, 128]⟩
abbrev S128x4x128x128 : Shape := ⟨4, ![128, 4, 128, 128]⟩
abbrev S1x4x1x1 : Shape := ⟨4, ![1, 4, 1, 1]⟩
abbrev S1x4x4x1 : Shape := ⟨4, ![1, 4, 4, 1]⟩

abbrev nBuf : Space → Nat
  | .hbm => 63
  | .vmem => 0
  | .smem => 0
  | _ => 0

abbrev bufTy : (tb : Table) → Fin (tcTables nBuf tb) → BufTy
  | .hbm, ⟨0, _⟩ => ⟨S128x4x2048, .f32⟩
  | .hbm, ⟨1, _⟩ => ⟨S4x128x4x128x128, .f32⟩
  | .hbm, ⟨2, _⟩ => ⟨S4x512, .f32⟩
  | .hbm, ⟨3, _⟩ => ⟨S4x4, .f32⟩
  | .hbm, ⟨4, _⟩ => ⟨S4, .f32⟩
  | .hbm, ⟨5, _⟩ => ⟨S128x4x512, .f32⟩
  | .hbm, ⟨6, _⟩ => ⟨S128x4x4x128, .f32⟩
  | .hbm, ⟨7, _⟩ => ⟨S4, .i32⟩
  | .hbm, ⟨8, _⟩ => ⟨S_, .i32⟩
  | .hbm, ⟨9, _⟩ => ⟨S4, .i32⟩
  | .hbm, ⟨10, _⟩ => ⟨S4, .i32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S4, .f32⟩
  | .hbm, ⟨26, _⟩ => ⟨S4x1, .f32⟩
  | .hbm, ⟨27, _⟩ => ⟨S1x64, .f32⟩
  | .hbm, ⟨28, _⟩ => ⟨S4x64, .f32⟩
  | .hbm, ⟨29, _⟩ => ⟨S4x64, .f32⟩
  | .hbm, ⟨30, _⟩ => ⟨S4x64, .f32⟩
  | .hbm, ⟨31, _⟩ => ⟨S4x64, .f32⟩
  | .hbm, ⟨32, _⟩ => ⟨S1x4x1x64, .f32⟩
  | .hbm, ⟨33, _⟩ => ⟨S4x64, .f32⟩
  | .hbm, ⟨34, _⟩ => ⟨S1x4x1x64, .f32⟩
  | .hbm, ⟨35, _⟩ => ⟨S128x4x4x64, .f32⟩
  | .hbm, ⟨36, _⟩ => ⟨S128x4x4x64, .f32⟩
  | .hbm, ⟨37, _⟩ => ⟨S128x4x4x64, .f32⟩
  | .hbm, ⟨38, _⟩ => ⟨S128x4x4x64, .f32⟩
  | .hbm, ⟨39, _⟩ => ⟨S128x4x4x64, .f32⟩
  | .hbm, ⟨40, _⟩ => ⟨S128x4x4x64, .f32⟩
  | .hbm, ⟨41, _⟩ => ⟨S128x4x4x64, .f32⟩
  | .hbm, ⟨42, _⟩ => ⟨S128x4x4x64, .f32⟩
  | .hbm, ⟨43, _⟩ => ⟨S128x4x4x64, .f32⟩
  | .hbm, ⟨44, _⟩ => ⟨S128x4x4x64, .f32⟩
  | .hbm, ⟨45, _⟩ => ⟨S128x4x4x64, .f32⟩
  | .hbm, ⟨46, _⟩ => ⟨S128x4x4x64, .f32⟩
  | .hbm, ⟨47, _⟩ => ⟨S128x4x4x128, .f32⟩
  | .hbm, ⟨48, _⟩ => ⟨S_, .f32⟩
  | .hbm, ⟨49, _⟩ => ⟨S128x4x4x128, .f32⟩
  | .hbm, ⟨50, _⟩ => ⟨S128x4x4x128, .f32⟩
  | .hbm, ⟨51, _⟩ => ⟨S128x4x512, .f32⟩
  | .hbm, ⟨52, _⟩ => ⟨S128x4x4x128, .f32⟩
  | .hbm, ⟨53, _⟩ => ⟨S1x128x4x128x128, .f32⟩
  | .hbm, ⟨54, _⟩ => ⟨S128x4x128x128, .f32⟩
  | .hbm, ⟨55, _⟩ => ⟨S1x4x1x1, .f32⟩
  | .hbm, ⟨56, _⟩ => ⟨S128x4x128x128, .f32⟩
  | .hbm, ⟨57, _⟩ => ⟨S128x4x128x128, .f32⟩
  | .hbm, ⟨58, _⟩ => ⟨S1x4x4x1, .f32⟩
  | .hbm, ⟨59, _⟩ => ⟨S128x4x4x128, .f32⟩
  | .hbm, ⟨60, _⟩ => ⟨S128x4x4x128, .f32⟩
  | .hbm, ⟨61, _⟩ => ⟨S128x4x128x128, .f32⟩
  | .hbm, ⟨62, _⟩ => ⟨S128x4x128x128, .f32⟩
  | _, _ => ⟨S128x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_5 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩

abbrev nD : Nat := 1
abbrev τ : Topo := Topo.v7x

variable {F : FTy → Type} [FloatOps F]
-- ==== Proof.Row.lean ====
/- One row of the activations through the norm and the squared-ReLU layer. -/
module

public import Idealize.ShloMosaic.PureOps.Ideal
public import Idealize.ShloMosaic.Lib.Pointwise
public import Mathlib.Algebra.BigOperators.Fin
public import Mathlib.Data.EReal.Operations

@[expose] public section

noncomputable section

namespace Layer

open Idealize.ShloMosaic

/-- Entry `k` of the row `x` divided by its root mean square and scaled by `g`. -/
def norm (x g : Fin 2048 → EReal) (k : Fin 2048) : EReal :=
  x k * Ideal.rsqrt (Ideal.div (∑ j : Fin 2048, x j * x j) (Ideal.ofBits .f32 0x45000000#32) + Ideal.ofBits .f32 0x358637BD#32) * g k

/-- The row `n` against one column of the first weights, after the rectifier. -/
def wide (n u : Fin 2048 → EReal) : EReal := max (∑ j : Fin 2048, n j * u j) 0

/-- The squared row against one column of the second weights. -/
def narrow (w d : Fin 8192 → EReal) : EReal := ∑ q : Fin 8192, w q * w q * d q

/-- Entry `k` of the row `x` with the layer added; `d` is column `k` of the second weights. -/
def mlp (x g : Fin 2048 → EReal) (u : Fin 2048 → Fin 8192 → EReal) (d : Fin 8192 → EReal) (k : Fin 2048) : EReal :=
  x k + narrow (fun q => wide (fun j => norm x g j) (fun j => u j q)) d

/-- Row `n` of the prompt's and the sample's rows, one after the other. -/
def rows (p : Fin 4 → Fin 2048 → Fin 2048 → EReal) (s : Fin 128 → Fin 4 → Fin 2048 → EReal) (n : Fin 8704) (k : Fin 2048) : EReal :=
  if h : n.val < 8192 then p ⟨n.val / 2048, by omega⟩ ⟨n.val % 2048, by omega⟩ k
  else s ⟨(n.val - 8192) / 4, by omega⟩ ⟨(n.val - 8192) % 4, by omega⟩ k

/-- A row of 5960 projections in the call's order of columns: the first 4096; the 128 leading ones of each of eight
    groups of 192; the 64 trailing ones of each group; eight gates; 120 zeros; the last 320; 64 zeros. -/
def lay (f : Fin 5960 → EReal) (k : Fin 6144) : EReal :=
  if _h : k.val < 4096 then f ⟨k.val, by omega⟩
  else if _h : k.val - 4096 < 1024 then f ⟨4104 + ((k.val - 4096) / 128 * 192 + (k.val - 4096) % 128), by omega⟩
  else if _h : k.val - 4096 - 1024 < 512 then f ⟨4104 + ((k.val - 4096 - 1024) / 64 * 192 + (128 + (k.val - 4096 - 1024) % 64)), by omega⟩
  else if _h : k.val - 4096 - 1024 - 512 < 8 then f ⟨4096 + (k.val - 4096 - 1024 - 512), by omega⟩
  else if _h : k.val - 4096 - 1024 - 512 - 8 < 120 then 0
  else if _h : k.val - 4096 - 1024 - 512 - 8 - 120 < 320 then f ⟨5640 + (k.val - 4096 - 1024 - 512 - 8 - 120), by omega⟩
  else 0

/-- A sum of products against laid out columns is the laid out sum. -/
theorem sum_lay (n : Fin 2048 → EReal) (w : Fin 2048 → Fin 5960 → EReal) (k : Fin 6144) :
    ∑ j : Fin 2048, n j * lay (w j) k = lay (fun q => ∑ j : Fin 2048, n j * w j q) k := by
  unfold lay
  split_ifs <;> simp

/-- Part `s` of `narrow`: 1024 of the 8192 columns. -/
def part (w d : Fin 8192 → EReal) (s : ℕ) : EReal :=
  if h : s < 8 then ∑ q : Fin 1024, w ⟨s * 1024 + q.val, by omega⟩ * w ⟨s * 1024 + q.val, by omega⟩ * d ⟨s * 1024 + q.val, by omega⟩ else 0

theorem sum_part (w d : Fin 8192 → EReal) : ∑ s ∈ Finset.range 8, part w d s = narrow w d := by
  rw [Finset.sum_range, narrow]
  rw [Fin.sum_univ_tiles 8 1024 rfl (fun q : Fin 8192 => w q * w q * d q)]
  refine Finset.sum_congr rfl fun s _ => ?_
  unfold part
  rw [dif_pos s.isLt]

end Layer

end
-- ==== Proof.Mlp.Pay.lean ====
/- What the squared-ReLU kernel's stores hold at an index, and what a grid point leaves: at the first of a row
   tile's eight points the normalised rows and the rows with the first part of the layer added, at the others
   the same rows with one more part. -/
module

public import proofs.«01_k».proof.Proof.Gen.Kernel2Ideal.Value
public import proofs.«01_k».proof.Proof.Row
public import Idealize.ShloMosaic.Lib.Pipeline.ValueKit
public import Idealize.ShloMosaic.Lib.Pointwise

@[expose] public section

set_option maxRecDepth 16384

noncomputable section

namespace Cert.Kernel2Ideal.Value

open Cert.Kernel2Ideal Cert.Kernel2Ideal.Gen Idealize.ShloMosaic Idealize.ShloMosaic.TcCoe Idealize.SL.Sem

variable (m : (ℓ : Loc nD τ sig) → Buf (Elt Ideal) ℓ)

theorem pay1_at (x : Vec Ideal S1088x2048 .f32) (r : Fin 1088) (k : Fin 2048) :
    k0_pay1 (F := Ideal) x (ix2 r k) = x (ix2 r k) := by
  pointwise [k0_pay1]

theorem pay2_at (x : Vec Ideal S1088x2048 .f32) (g : Vec Ideal S1x2048 .f32) (r : Fin 1088) (k : Fin 2048) :
    k0_pay2 (F := Ideal) x g (ix2 r k) = Layer.norm (fun j => x (ix2 r j)) (fun j => g (ix2 0 j)) k := by
  pointwise [k0_pay2, k0_pay1]
  rfl

theorem pay3_at (n : Vec Ideal S1088x2048 .bf16) (u : Vec Ideal S1x2048x1024 .bf16) (o : Vec Ideal S1088x2048 .f32)
    (d : Vec Ideal S1x1024x2048 .bf16) (r : Fin 1088) (k : Fin 2048) :
    k0_pay3 (F := Ideal) n u o d (ix2 r k) = o (ix2 r k)
      + ∑ q : Fin 1024, Layer.wide (fun j => n (ix2 r j)) (fun j => u (ix3 0 j q))
        * Layer.wide (fun j => n (ix2 r j)) (fun j => u (ix3 0 j q)) * d (ix3 0 q k) := by
  pointwise [k0_pay3]
  rfl

theorem idx : ∀ t : Fin cfg0.N, win0_0.index t = ![t.val / 8, 0] ∧ win0_1.index t = ![0, 0]
    ∧ win0_2.index t = ![0, 0, t.val % 8] ∧ win0_3.index t = ![0, t.val % 8, 0] ∧ win0_4.index t = ![t.val / 8, 0] :=
  (by decide +kernel : ∀ t : Fin grid0.N, _)

theorem outs_A (c : Dev nD) (t : Fin cfg0.N) (h : t.val % 8 = 0) :
    outsAt0 m c t.val t.isLt = (k0_pay3 (k0_pay2 (iblk m c 0 t) (iblk m c 1 t)) (iblk m c 2 t) (k0_pay1 (iblk m c 0 t)) (iblk m c 3 t),
      k0_pay2 (iblk m c 0 t) (iblk m c 1 t)) := by
  rw [outsAt0_A m c t h]
  frame_out

theorem outs_B (c : Dev nD) (t : Fin cfg0.N) (h : ¬ t.val % 8 = 0) (o : Vec Ideal S1088x2048 .f32) (n : Vec Ideal S1088x2048 .bf16)
    (hp : outsAt0 m c (t.val - 1) (Nat.lt_of_le_of_lt (Nat.sub_le _ _) t.isLt) = (o, n)) :
    outsAt0 m c t.val t.isLt = (k0_pay3 n (iblk m c 2 t) o (iblk m c 3 t), n) := by
  rw [outsAt0_B m c t h, hp]
  frame_out
  exact Prod.ext (congrArg (fun z => k0_pay3 (F := Ideal) z (iblk m c 2 t) o (iblk m c 3 t)) ((Memref.isWhole_whole cc0_scratch0).read_unread n)) rfl

end Cert.Kernel2Ideal.Value

end
-- ==== Proof.Mlp.Entry.lean ====
/- The blocks the squared-ReLU kernel reads, as entries of its argument arrays. -/
module

public import proofs.«01_k».proof.Proof.Mlp.Pay

@[expose] public section

set_option maxRecDepth 16384

noncomputable section

namespace Cert.Kernel2Ideal.Value

open Cert.Kernel2Ideal Cert.Kernel2Ideal.Gen Idealize.ShloMosaic Idealize.ShloMosaic.TcCoe Idealize.SL.Sem

variable (m : (ℓ : Loc nD τ sig) → Buf (Elt Ideal) ℓ)

/-- The prompt's and the sample's rows in one array. -/
def xHost (p : FVec Ideal S4x2048x2048 .f32) (s : FVec Ideal S128x4x2048 .f32) : FVec Ideal S8704x2048 .f32 :=
  concatenate S8704x2048 0 [⟨S8192x2048, shapeCast _ p shapeCasts_S4x2048x2048_S8192x2048⟩, ⟨S512x2048, shapeCast _ s shapeCasts_S128x4x2048_S512x2048⟩] concatenates_S8192x2048_S512x2048_S8704x2048_d0

theorem xHost_at (p : FVec Ideal S4x2048x2048 .f32) (s : FVec Ideal S128x4x2048 .f32) (n : Fin 8704) (k : Fin 2048) :
    xHost p s (ix2 n k) = Layer.rows (fun a b j => p (ix3 a b j)) (fun a b j => s (ix3 a b j)) n k := by
  pointwise [xHost]
  rfl

/-- The gain row of the norm. -/
def gHost (g : FVec Ideal S4x2048 .f32) : FVec Ideal S1x2048 .f32 :=
  broadcastInDim S1x2048 ![1] bcast_S2048_S1x2048_1 (shapeCast _ (extractStridedSlice S1x2048 ![0, 0] g slices_S4x2048_S1x2048_0_0) shapeCasts_S1x2048_S2048)

theorem gHost_at (g : FVec Ideal S4x2048 .f32) (k : Fin 2048) : gHost g (ix2 0 k) = g (ix2 0 k) := by
  pointwise [gHost]

theorem V_x (c : Dev nD) : V m c main_v2 = xHost (m ((c : Thread nD τ).loc main_arg0)) (m ((c : Thread nD τ).loc main_arg1)) := by
  simp only [V, hostOps0]
  after_results_simp
  rfl

theorem V_g (c : Dev nD) : V m c main_v5 = gHost (m ((c : Thread nD τ).loc main_arg2)) := by
  simp only [V, hostOps0]
  after_results_simp
  rfl

theorem V_u (c : Dev nD) : V m c main_v6 = truncf (F := Ideal) .bf16 (m ((c : Thread nD τ).loc main_arg3) : FVec Ideal S4x2048x8192 .f32) bitsLt_bf16_f32 := by
  simp only [V, hostOps0]
  after_results_simp

theorem V_d (c : Dev nD) : V m c main_v7 = truncf (F := Ideal) .bf16 (m ((c : Thread nD τ).loc main_arg4) : FVec Ideal S4x8192x2048 .f32) bitsLt_bf16_f32 := by
  simp only [V, hostOps0]
  after_results_simp

/-- Row `n` of the argument arrays. -/
def row (c : Dev nD) (n : Fin 8704) : Fin 2048 → EReal :=
  Layer.rows (fun a b j => (m ((c : Thread nD τ).loc main_arg0) : FVec Ideal S4x2048x2048 .f32) (ix3 a b j))
    (fun a b j => (m ((c : Thread nD τ).loc main_arg1) : FVec Ideal S128x4x2048 .f32) (ix3 a b j)) n

/-- The gain. -/
def gain (c : Dev nD) (k : Fin 2048) : EReal := (m ((c : Thread nD τ).loc main_arg2) : FVec Ideal S4x2048 .f32) (ix2 0 k)

/-- The first weights. -/
def up (c : Dev nD) (j : Fin 2048) (q : Fin 8192) : EReal := (m ((c : Thread nD τ).loc main_arg3) : FVec Ideal S4x2048x8192 .f32) (ix3 0 j q)

/-- The second weights. -/
def down (c : Dev nD) (q : Fin 8192) (k : Fin 2048) : EReal := (m ((c : Thread nD τ).loc main_arg4) : FVec Ideal S4x8192x2048 .f32) (ix3 0 q k)

theorem x_at (c : Dev nD) (t : Fin cfg0.N) (r : Fin 1088) (k : Fin 2048) (n : Fin 8704) (hn : n.val = t.val / 8 * 1088 + r.val) :
    iblk m c 0 t (ix2 r k) = row m c n k := by
  refine Eq.trans ?_ (xHost_at _ _ n k)
  blk_simp [iblk, idx t]
  refine (congrFun (V_x m c) _).trans ?_
  blk_ext [idx t]

theorem g_at (c : Dev nD) (t : Fin cfg0.N) (k : Fin 2048) : iblk m c 1 t (ix2 0 k) = gain m c k := by
  refine Eq.trans ?_ (gHost_at _ k)
  blk_simp [iblk, idx t]
  refine (congrFun (V_g m c) _).trans ?_
  blk_ext [idx t]

theorem u_at (c : Dev nD) (t : Fin cfg0.N) (j : Fin 2048) (q : Fin 1024) (p : Fin 8192) (hp : p.val = t.val % 8 * 1024 + q.val) :
    iblk m c 2 t (ix3 0 j q) = up m c j p := by
  unfold up
  blk_simp [iblk, idx t]
  refine (congrFun (V_u m c) _).trans ?_
  pointwise []
  blk_ext [idx t]

theorem d_at (c : Dev nD) (t : Fin cfg0.N) (q : Fin 1024) (k : Fin 2048) (p : Fin 8192) (hp : p.val = t.val % 8 * 1024 + q.val) :
    iblk m c 3 t (ix3 0 q k) = down m c p k := by
  unfold down
  blk_simp [iblk, idx t]
  refine (congrFun (V_d m c) _).trans ?_
  pointwise []
  blk_ext [idx t]

end Cert.Kernel2Ideal.Value

end
-- ==== Proof.Mlp.Ref.lean ====
/- What the reference of the squared-ReLU layer computes at an index, for the prompt's rows and for the sample's. -/
module

public import proofs.«01_k».proof.Proof.Gen.Reference2Ideal.Run
public import proofs.«01_k».proof.Proof.Row
public import Idealize.ShloMosaic.Lib.Pipeline.ValueKit
public import Idealize.ShloMosaic.Lib.Pointwise

@[expose] public section

set_option maxRecDepth 16384

noncomputable section

namespace Cert.Reference2Ideal.Value

open Cert.Reference2Ideal Cert.Reference2Ideal.Gen Idealize.ShloMosaic Idealize.ShloMosaic.TcCoe Idealize.SL.Sem
variable (m : (ℓ : Loc nD τ sig) → Buf (Elt Ideal) ℓ)

/-- The prompt's rows, normalised by their root mean square. -/
def normP (x : FVec Ideal S4x2048x2048 .f32) (g : FVec Ideal S4x2048 .f32) : FVec Ideal S4x2048x2048 .f32 :=
  mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ (extractStridedSlice S1x2048 ![0, 0] g slices_S4x2048_S1x2048_0_0) shapeCasts_S1x2048_S2048)))

/-- The prompt's rows in the wide layer, after the rectifier. -/
def wideP (n : FVec Ideal S4x2048x2048 .f32) (u : FVec Ideal S4x2048x8192 .f32) : FVec Ideal S4x2048x8192 .f32 :=
  maximumf (Host.dotGeneral dot_S4x2048x2048_S2048x8192_S4x2048x8192_2_0_01_1_n_n none n (shapeCast _ (extractStridedSlice S1x2048x8192 ![0, 0, 0] u slices_S4x2048x8192_S1x2048x8192_0_0_0) shapeCasts_S1x2048x8192_S2048x8192)) (broadcastInDim S4x2048x8192 ![] bcast_S_S4x2048x8192 (constant S_ .f32 0x00000000#32))

/-- The prompt's rows with the layer added. -/
def sumP (x : FVec Ideal S4x2048x2048 .f32) (w : FVec Ideal S4x2048x8192 .f32) (d : FVec Ideal S4x8192x2048 .f32) : FVec Ideal S8192x2048 .f32 :=
  shapeCast _ (addf x (Host.dotGeneral dot_S4x2048x8192_S8192x2048_S4x2048x2048_2_0_01_1_n_n none (mulf w w) (shapeCast _ (extractStridedSlice S1x8192x2048 ![0, 0, 0] d slices_S4x8192x2048_S1x8192x2048_0_0_0) shapeCasts_S1x8192x2048_S8192x2048))) shapeCasts_S4x2048x2048_S8192x2048

theorem normP_at (x : FVec Ideal S4x2048x2048 .f32) (g : FVec Ideal S4x2048 .f32) (b : Fin 4) (s : Fin 2048) (k : Fin 2048) :
    normP x g (ix3 b s k) = Layer.norm (fun j => x (ix3 b s j)) (fun j => g (ix2 0 j)) k := by
  pointwise [normP]
  rfl

theorem wideP_at (x : FVec Ideal S4x2048x2048 .f32) (g : FVec Ideal S4x2048x8192 .f32) (b : Fin 4) (s : Fin 2048) (k : Fin 8192) :
    wideP x g (ix3 b s k) = Layer.wide (fun j => x (ix3 b s j)) (fun j => g (ix3 0 j k)) := by
  pointwise [wideP]
  rfl

theorem sumP_at (x : FVec Ideal S4x2048x2048 .f32) (w : FVec Ideal S4x2048x8192 .f32) (d : FVec Ideal S4x8192x2048 .f32) (n : Fin 8192) (k : Fin 2048) :
    sumP x w d (ix2 n k) = x (ix3 ⟨n.val / 2048, by omega⟩ ⟨n.val % 2048, by omega⟩ k)
      + Layer.narrow (fun q => w (ix3 ⟨n.val / 2048, by omega⟩ ⟨n.val % 2048, by omega⟩ q)) (fun q => d (ix3 0 q k)) := by
  pointwise [sumP]
  rfl

/-- The sample's rows, normalised by their root mean square. -/
def normS (x : FVec Ideal S128x4x2048 .f32) (g : FVec Ideal S4x2048 .f32) : FVec Ideal S128x4x2048 .f32 :=
  mulf (mulf x (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf x x) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32)))))) (broadcastInDim S128x4x2048 ![0, 1, 2] bcast_S1x1x2048_S128x4x2048_0_1_2 (broadcastInDim S1x1x2048 ![2] bcast_S2048_S1x1x2048_2 (shapeCast _ (extractStridedSlice S1x2048 ![0, 0] g slices_S4x2048_S1x2048_0_0) shapeCasts_S1x2048_S2048)))

/-- The sample's rows in the wide layer, after the rectifier. -/
def wideS (n : FVec Ideal S128x4x2048 .f32) (u : FVec Ideal S4x2048x8192 .f32) : FVec Ideal S128x4x8192 .f32 :=
  maximumf (Host.dotGeneral dot_S128x4x2048_S2048x8192_S128x4x8192_2_0_01_1_n_n none n (shapeCast _ (extractStridedSlice S1x2048x8192 ![0, 0, 0] u slices_S4x2048x8192_S1x2048x8192_0_0_0) shapeCasts_S1x2048x8192_S2048x8192)) (broadcastInDim S128x4x8192 ![] bcast_S_S128x4x8192 (constant S_ .f32 0x00000000#32))

/-- The sample's rows with the layer added. -/
def sumS (x : FVec Ideal S128x4x2048 .f32) (w : FVec Ideal S128x4x8192 .f32) (d : FVec Ideal S4x8192x2048 .f32) : FVec Ideal S512x2048 .f32 :=
  shapeCast _ (addf x (Host.dotGeneral dot_S128x4x8192_S8192x2048_S128x4x2048_2_0_01_1_n_n none (mulf w w) (shapeCast _ (extractStridedSlice S1x8192x2048 ![0, 0, 0] d slices_S4x8192x2048_S1x8192x2048_0_0_0) shapeCasts_S1x8192x2048_S8192x2048))) shapeCasts_S128x4x2048_S512x2048

theorem normS_at (x : FVec Ideal S128x4x2048 .f32) (g : FVec Ideal S4x2048 .f32) (b : Fin 128) (s : Fin 4) (k : Fin 2048) :
    normS x g (ix3 b s k) = Layer.norm (fun j => x (ix3 b s j)) (fun j => g (ix2 0 j)) k := by
  pointwise [normS]
  rfl

theorem wideS_at (x : FVec Ideal S128x4x2048 .f32) (g : FVec Ideal S4x2048x8192 .f32) (b : Fin 128) (s : Fin 4) (k : Fin 8192) :
    wideS x g (ix3 b s k) = Layer.wide (fun j => x (ix3 b s j)) (fun j => g (ix3 0 j k)) := by
  pointwise [wideS]
  rfl

theorem sumS_at (x : FVec Ideal S128x4x2048 .f32) (w : FVec Ideal S128x4x8192 .f32) (d : FVec Ideal S4x8192x2048 .f32) (n : Fin 512) (k : Fin 2048) :
    sumS x w d (ix2 n k) = x (ix3 ⟨n.val / 4, by omega⟩ ⟨n.val % 4, by omega⟩ k)
      + Layer.narrow (fun q => w (ix3 ⟨n.val / 4, by omega⟩ ⟨n.val % 4, by omega⟩ q)) (fun q => d (ix3 0 q k)) := by
  pointwise [sumS]
  rfl

theorem res_eq (c : Dev nD) (p : FVec Ideal S8192x2048 .f32) (s : FVec Ideal S512x2048 .f32)
    (hp : p = sumP (m ((c.tc : Thread nD τ).loc main_arg0)) (wideP (normP (m ((c.tc : Thread nD τ).loc main_arg0)) (m ((c.tc : Thread nD τ).loc main_arg2))) (m ((c.tc : Thread nD τ).loc main_arg3))) (m ((c.tc : Thread nD τ).loc main_arg4)))
    (hs : s = sumS (m ((c.tc : Thread nD τ).loc main_arg1)) (wideS (normS (m ((c.tc : Thread nD τ).loc main_arg1)) (m ((c.tc : Thread nD τ).loc main_arg2))) (m ((c.tc : Thread nD τ).loc main_arg3))) (m ((c.tc : Thread nD τ).loc main_arg4))) :
    res_main_v50 m c = concatenate S8704x2048 0 [⟨S8192x2048, p⟩, ⟨S512x2048, s⟩] concatenates_S8192x2048_S512x2048_S8704x2048_d0 := by
  subst hp; subst hs; rfl

/-- The reference's result at row `n`, column `k`, of its argument arrays. -/
def out (p : FVec Ideal S4x2048x2048 .f32) (s : FVec Ideal S128x4x2048 .f32) (g : FVec Ideal S4x2048 .f32)
    (u : FVec Ideal S4x2048x8192 .f32) (d : FVec Ideal S4x8192x2048 .f32) (n : Fin 8704) (k : Fin 2048) : EReal :=
  Layer.mlp (Layer.rows (fun a b j => p (ix3 a b j)) (fun a b j => s (ix3 a b j)) n) (fun j => g (ix2 0 j))
    (fun j q => u (ix3 0 j q)) (fun q => d (ix3 0 q k)) k

theorem stack_at (p : FVec Ideal S8192x2048 .f32) (s : FVec Ideal S512x2048 .f32) (n : Fin 8704) (k : Fin 2048) :
    concatenate S8704x2048 0 [⟨S8192x2048, p⟩, ⟨S512x2048, s⟩] concatenates_S8192x2048_S512x2048_S8704x2048_d0 (ix2 n k)
      = if h : n.val < 8192 then p (ix2 ⟨n.val, h⟩ k) else s (ix2 ⟨n.val - 8192, by omega⟩ k) := by
  pointwise []

theorem res_at (c : Dev nD) (n : Fin 8704) (k : Fin 2048) :
    res_main_v50 m c (ix2 n k) = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) n k := by
  rw [res_eq m c _ _ rfl rfl]
  refine (stack_at _ _ n k).trans ?_
  unfold out Layer.mlp Layer.rows
  by_cases h : n.val < 8192
  · simp only [dif_pos h]
    refine (sumP_at _ _ _ _ k).trans ?_
    refine congrArg _ (congrArg₂ Layer.narrow (funext fun q => ?_) rfl)
    refine (wideP_at _ _ _ _ q).trans ?_
    exact congrArg₂ Layer.wide (funext fun j => normP_at _ _ _ _ j) rfl
  · simp only [dif_neg h]
    refine (sumS_at _ _ _ _ k).trans ?_
    refine congrArg _ (congrArg₂ Layer.narrow (funext fun q => ?_) rfl)
    refine (wideS_at _ _ _ _ q).trans ?_
    exact congrArg₂ Layer.wide (funext fun j => normS_at _ _ _ _ j) rfl

end Cert.Reference2Ideal.Value

end
-- ==== Proof.Mlp.Equation.lean ====
/- The squared-ReLU kernel's result array is the reference's.

   A row tile is revisited at eight grid points. The normalised rows are kept from the first of them, and the
   output block holds the rows with the parts added so far. -/
module

public import proofs.«01_k».proof.Proof.Mlp.Entry
public import proofs.«01_k».proof.Proof.Mlp.Ref

@[expose] public section

set_option maxRecDepth 16384

noncomputable section

namespace Cert.Kernel2Ideal.Value

open Cert.Kernel2Ideal Cert.Kernel2Ideal.Gen Idealize.ShloMosaic Idealize.ShloMosaic.TcCoe Idealize.SL.Sem

variable (m : (ℓ : Loc nD τ sig) → Buf (Elt Ideal) ℓ)

/-- Row `n` in the wide layer. -/
def wides (c : Dev nD) (n : Fin 8704) (q : Fin 8192) : EReal :=
  Layer.wide (fun j => Layer.norm (row m c n) (gain m c) j) (fun j => up m c j q)

theorem norm_at (c : Dev nD) (t : Fin cfg0.N) (r : Fin 1088) (k : Fin 2048) (n : Fin 8704) (hn : n.val = t.val / 8 * 1088 + r.val) :
    k0_pay2 (F := Ideal) (iblk m c 0 t) (iblk m c 1 t) (ix2 r k) = Layer.norm (row m c n) (gain m c) k := by
  refine (pay2_at _ _ r k).trans ?_
  exact congrArg₂ (fun x g => Layer.norm x g k) (funext fun j => x_at m c t r j n hn) (funext fun j => g_at m c t j)

theorem part_at (c : Dev nD) (t : Fin cfg0.N) (x : Vec Ideal S1088x2048 .bf16) (o : Vec Ideal S1088x2048 .f32)
    (r : Fin 1088) (k : Fin 2048) (n : Fin 8704) (hx : ∀ j, x (ix2 r j) = Layer.norm (row m c n) (gain m c) j) :
    k0_pay3 (F := Ideal) x (iblk m c 2 t) o (iblk m c 3 t) (ix2 r k)
      = o (ix2 r k) + Layer.part (wides m c n) (fun q => down m c q k) (t.val % 8) := by
  refine (pay3_at _ _ _ _ r k).trans (congrArg (fun z : EReal => o (ix2 r k) + z) ?_)
  unfold Layer.part
  rw [dif_pos (Nat.mod_lt _ (by decide))]
  refine Finset.sum_congr rfl fun q _ => ?_
  have hw : Layer.wide (fun j => x (ix2 r j)) (fun j => iblk m c 2 t (ix3 0 j q))
      = wides m c n ⟨t.val % 8 * 1024 + q.val, by omega⟩ :=
    congrArg₂ Layer.wide (funext hx) (funext fun j => u_at m c t j q _ rfl)
  exact congrArg₂ (fun a b : EReal => a * a * b) hw (d_at m c t q k _ rfl)

/-- What a grid point leaves. -/
theorem state (c : Dev nD) : ∀ (i : ℕ) (hi : i < cfg0.N), ∀ (r : Fin 1088) (k : Fin 2048) (n : Fin 8704), n.val = i / 8 * 1088 + r.val →
    (outsAt0 m c i hi).2 (ix2 r k) = Layer.norm (row m c n) (gain m c) k
    ∧ (outsAt0 m c i hi).1 (ix2 r k) = row m c n k + ∑ s ∈ Finset.range (i % 8 + 1), Layer.part (wides m c n) (fun q => down m c q k) s := by
  intro i
  induction i with
  | zero =>
    intro hi r k n hn
    rw [outs_A m c ⟨0, hi⟩ rfl]
    refine ⟨norm_at m c ⟨0, hi⟩ r k n hn, ?_⟩
    refine (part_at m c ⟨0, hi⟩ _ _ r k n (fun j => norm_at m c ⟨0, hi⟩ r j n hn)).trans ?_
    rw [Finset.sum_range_one]
    exact congrArg (fun z : EReal => z + _) ((pay1_at _ r k).trans (x_at m c ⟨0, hi⟩ r k n hn))
  | succ i ih =>
    intro hi r k n hn
    by_cases h : (i + 1) % 8 = 0
    · rw [outs_A m c ⟨i + 1, hi⟩ h]
      refine ⟨norm_at m c ⟨i + 1, hi⟩ r k n hn, ?_⟩
      refine (part_at m c ⟨i + 1, hi⟩ _ _ r k n (fun j => norm_at m c ⟨i + 1, hi⟩ r j n hn)).trans ?_
      rw [h, Finset.sum_range_one]
      refine congrArg₂ (fun a b : EReal => a + b) ((pay1_at _ r k).trans (x_at m c ⟨i + 1, hi⟩ r k n hn)) ?_
      rfl
    · have hi' : i < cfg0.N := Nat.lt_of_succ_lt hi
      have hd : n.val = i / 8 * 1088 + r.val := by omega
      rw [outs_B m c ⟨i + 1, hi⟩ h (outsAt0 m c i hi').1 (outsAt0 m c i hi').2 rfl]
      refine ⟨(ih hi' r k n hd).1, ?_⟩
      refine (part_at m c ⟨i + 1, hi⟩ _ _ r k n (fun j => (ih hi' r j n hd).1)).trans ?_
      have e : (i + 1) % 8 = i % 8 + 1 := by omega
      rw [(ih hi' r k n hd).2, e, Finset.sum_range_succ _ (i % 8 + 1), add_assoc]

/-- The reference's result over the kernel's argument arrays. -/
def refOut (c : Dev nD) : FVec Ideal S8704x2048 .f32 := fun i =>
  Cert.Reference2Ideal.Value.out (m ((c : Thread nD τ).loc main_arg0)) (m ((c : Thread nD τ).loc main_arg1))
    (m ((c : Thread nD τ).loc main_arg2)) (m ((c : Thread nD τ).loc main_arg3)) (m ((c : Thread nD τ).loc main_arg4)) (i 0) (i 1)

theorem block_eq (c : Dev nD) (t : Fin cfg0.N) (ht : t.val % 8 = 7) (r : Fin 1088) (k : Fin 2048) (n : Fin 8704)
    (hn : n.val = t.val / 8 * 1088 + r.val) : (outsAt0 m c t.val t.isLt).1 (ix2 r k) = refOut m c (ix2 n k) := by
  rw [((state m c t.val t.isLt r k n hn).2), ht, Layer.sum_part]
  rfl

theorem final (c : Dev nD) : (dats m 0 c).arrAt 4 (cfgs 0).N = refOut m c := by
  generalize hG : refOut m c = G
  refine (dats m 0 c).arrAt_eq_of_covers 4 G (by decide +kernel) fun t hf y => ?_
  idx_vars y
  have ht : t.val < 64 := lt_of_lt_of_eq t.isLt N_0
  have hb := block_eq m c t ((flush0_4 t).mp hf) y0 y1 ⟨t.val / 8 * 1088 + y0.val, by omega⟩ rfl
  rw [hG] at hb
  blk_simp
  rw [after0_4]
  refine hb.trans ?_
  blk_ext [idx t]

end Cert.Kernel2Ideal.Value

end
-- ==== Proof.Proj.Entry.lean ====
/- The input projection's kernel: what its stores hold at an index, what a grid point leaves, and the blocks it reads
   as entries of its argument arrays. -/
module

public import proofs.«01_k».proof.Proof.Gen.Kernel3Ideal.Value
public import proofs.«01_k».proof.Proof.Row
public import Idealize.ShloMosaic.Lib.Pipeline.ValueKit
public import Idealize.ShloMosaic.Lib.Pointwise

@[expose] public section

set_option maxRecDepth 100000

noncomputable section

namespace Cert.Kernel3Ideal.Value

open Cert.Kernel3Ideal Cert.Kernel3Ideal.Gen Idealize.ShloMosaic Idealize.ShloMosaic.TcCoe Idealize.SL.Sem

variable (m : (ℓ : Loc nD τ sig) → Buf (Elt Ideal) ℓ)

theorem pay1_at (x : Vec Ideal S1088x2048 .f32) (g : Vec Ideal S1x2048 .f32) (r : Fin 1088) (k : Fin 2048) :
    k0_pay1 (F := Ideal) x g (ix2 r k) = Layer.norm (fun j => x (ix2 r j)) (fun j => g (ix2 0 j)) k := by
  pointwise [k0_pay1]
  rfl

theorem pay2_at (n : Vec Ideal S1088x2048 .bf16) (w : Vec Ideal S1x2048x1024 .bf16) (r : Fin 1088) (k : Fin 1024) :
    k0_pay2 (F := Ideal) n w (ix2 r k) = ∑ j : Fin 2048, n (ix2 r j) * w (ix3 0 j k) := by
  pointwise [k0_pay2]

theorem idx : ∀ t : Fin cfg0.N, win0_0.index t = ![t.val / 6, 0] ∧ win0_1.index t = ![0, 0]
    ∧ win0_2.index t = ![0, 0, t.val % 6] ∧ win0_3.index t = ![t.val / 6, t.val % 6] :=
  (by decide +kernel : ∀ t : Fin grid0.N, _)

theorem outs_A (c : Dev nD) (t : Fin cfg0.N) (h : t.val % 6 = 0) :
    outsAt0 m c t.val t.isLt = (k0_pay2 (k0_pay1 (iblk m c 0 t) (iblk m c 1 t)) (iblk m c 2 t),
      k0_pay1 (iblk m c 0 t) (iblk m c 1 t)) := by
  rw [outsAt0_A m c t h]
  frame_out

theorem outs_B (c : Dev nD) (t : Fin cfg0.N) (h : ¬ t.val % 6 = 0) (n : Vec Ideal S1088x2048 .bf16)
    (hp : (outsAt0 m c (t.val - 1) (Nat.lt_of_le_of_lt (Nat.sub_le _ _) t.isLt)).2 = n) :
    outsAt0 m c t.val t.isLt = (k0_pay2 n (iblk m c 2 t), n) := by
  rw [outsAt0_B m c t h, hp]
  frame_out
  exact Prod.ext (congrArg (fun z => k0_pay2 (F := Ideal) z (iblk m c 2 t)) ((Memref.isWhole_whole cc0_scratch0).read_unread n)) rfl

/-- The prompt's and the sample's rows in one array. -/
def xHost (p : FVec Ideal S4x2048x2048 .f32) (s : FVec Ideal S128x4x2048 .f32) : FVec Ideal S8704x2048 .f32 :=
  concatenate S8704x2048 0 [⟨S8192x2048, shapeCast _ p shapeCasts_S4x2048x2048_S8192x2048⟩, ⟨S512x2048, shapeCast _ s shapeCasts_S128x4x2048_S512x2048⟩] concatenates_S8192x2048_S512x2048_S8704x2048_d0

theorem xHost_at (p : FVec Ideal S4x2048x2048 .f32) (s : FVec Ideal S128x4x2048 .f32) (n : Fin 8704) (k : Fin 2048) :
    xHost p s (ix2 n k) = Layer.rows (fun a b j => p (ix3 a b j)) (fun a b j => s (ix3 a b j)) n k := by
  pointwise [xHost]
  rfl

/-- The gain row of the norm. -/
def gHost (g : FVec Ideal S4x2048 .f32) : FVec Ideal S1x2048 .f32 :=
  broadcastInDim S1x2048 ![1] bcast_S2048_S1x2048_1 (shapeCast _ (extractStridedSlice S1x2048 ![0, 0] g slices_S4x2048_S1x2048_0_0) shapeCasts_S1x2048_S2048)

theorem gHost_at (g : FVec Ideal S4x2048 .f32) (k : Fin 2048) : gHost g (ix2 0 k) = g (ix2 0 k) := by
  pointwise [gHost]

/-- The weights with their columns in the call's order. -/
def wHost (w : FVec Ideal S4x2048x5960 .bf16) : FVec Ideal S4x2048x6144 .bf16 :=
  concatenate S4x2048x6144 2 [⟨S4x2048x4096, extractStridedSlice S4x2048x4096 ![0, 0, 0] w slices_S4x2048x5960_S4x2048x4096_0_0_0⟩, ⟨S4x2048x1024, shapeCast _ (extractStridedSlice S4x2048x8x128 ![0, 0, 0, 0] (shapeCast _ (extractStridedSlice S4x2048x1536 ![0, 0, 4104] w slices_S4x2048x5960_S4x2048x1536_0_0_4104) shapeCasts_S4x2048x1536_S4x2048x8x192) slices_S4x2048x8x192_S4x2048x8x128_0_0_0_0) shapeCasts_S4x2048x8x128_S4x2048x1024⟩, ⟨S4x2048x512, shapeCast _ (extractStridedSlice S4x2048x8x64 ![0, 0, 0, 128] (shapeCast _ (extractStridedSlice S4x2048x1536 ![0, 0, 4104] w slices_S4x2048x5960_S4x2048x1536_0_0_4104) shapeCasts_S4x2048x1536_S4x2048x8x192) slices_S4x2048x8x192_S4x2048x8x64_0_0_0_128) shapeCasts_S4x2048x8x64_S4x2048x512⟩, ⟨S4x2048x8, extractStridedSlice S4x2048x8 ![0, 0, 4096] w slices_S4x2048x5960_S4x2048x8_0_0_4096⟩, ⟨S4x2048x120, broadcastInDim S4x2048x120 ![] bcast_S_S4x2048x120 (constant S_ .bf16 0x0000#16)⟩, ⟨S4x2048x320, extractStridedSlice S4x2048x320 ![0, 0, 5640] w slices_S4x2048x5960_S4x2048x320_0_0_5640⟩, ⟨S4x2048x64, broadcastInDim S4x2048x64 ![] bcast_S_S4x2048x64 (constant S_ .bf16 0x0000#16)⟩] concatenates_S4x2048x4096_S4x2048x1024_S4x2048x512_S4x2048x8_S4x2048x120_S4x2048x320_S4x2048x64_S4x2048x6144_d2

theorem wHost_at (w : FVec Ideal S4x2048x5960 .bf16) (l : Fin 4) (j : Fin 2048) (k : Fin 6144) :
    wHost w (ix3 l j k) = Layer.lay (fun q => w (ix3 l j q)) k := by
  pointwise [wHost]
  rfl

theorem V_x (c : Dev nD) : V m c main_v2 = xHost (m ((c : Thread nD τ).loc main_arg0)) (m ((c : Thread nD τ).loc main_arg1)) := by
  simp only [V, hostOps0]
  after_results_simp
  rfl

theorem V_g (c : Dev nD) : V m c main_v5 = gHost (m ((c : Thread nD τ).loc main_arg2)) := by
  simp only [V, hostOps0]
  after_results_simp
  rfl

theorem V_w (c : Dev nD) : V m c main_v18 = wHost (truncf (F := Ideal) .bf16 (m ((c : Thread nD τ).loc main_arg3) : FVec Ideal S4x2048x5960 .f32) bitsLt_bf16_f32) := by
  simp only [V, hostOps0]
  after_results_simp
  rfl

/-- Row `n` of the argument arrays. -/
def row (c : Dev nD) (n : Fin 8704) : Fin 2048 → EReal :=
  Layer.rows (fun a b j => (m ((c : Thread nD τ).loc main_arg0) : FVec Ideal S4x2048x2048 .f32) (ix3 a b j))
    (fun a b j => (m ((c : Thread nD τ).loc main_arg1) : FVec Ideal S128x4x2048 .f32) (ix3 a b j)) n

/-- The gain. -/
def gain (c : Dev nD) (k : Fin 2048) : EReal := (m ((c : Thread nD τ).loc main_arg2) : FVec Ideal S4x2048 .f32) (ix2 0 k)

/-- The weights. -/
def weight (c : Dev nD) (j : Fin 2048) (q : Fin 5960) : EReal := (m ((c : Thread nD τ).loc main_arg3) : FVec Ideal S4x2048x5960 .f32) (ix3 0 j q)

theorem x_at (c : Dev nD) (t : Fin cfg0.N) (r : Fin 1088) (k : Fin 2048) (n : Fin 8704) (hn : n.val = t.val / 6 * 1088 + r.val) :
    iblk m c 0 t (ix2 r k) = row m c n k := by
  refine Eq.trans ?_ (xHost_at _ _ n k)
  blk_simp [iblk, idx t]
  refine (congrFun (V_x m c) _).trans ?_
  blk_ext [idx t]

theorem g_at (c : Dev nD) (t : Fin cfg0.N) (k : Fin 2048) : iblk m c 1 t (ix2 0 k) = gain m c k := by
  refine Eq.trans ?_ (gHost_at _ k)
  blk_simp [iblk, idx t]
  refine (congrFun (V_g m c) _).trans ?_
  blk_ext [idx t]

theorem w_at (c : Dev nD) (t : Fin cfg0.N) (j : Fin 2048) (q : Fin 1024) (p : Fin 6144) (hp : p.val = t.val % 6 * 1024 + q.val) :
    iblk m c 2 t (ix3 0 j q) = Layer.lay (weight m c j) p := by
  refine Eq.trans ?_ (wHost_at (truncf (F := Ideal) .bf16 (m ((c : Thread nD τ).loc main_arg3) : FVec Ideal S4x2048x5960 .f32) bitsLt_bf16_f32) 0 j p)
  blk_simp [iblk, idx t]
  refine (congrFun (V_w m c) _).trans ?_
  blk_ext [idx t]

end Cert.Kernel3Ideal.Value

end
-- ==== Proof.Proj.Ref.lean ====
/- What the reference of the input projection computes at an index, for the prompt's rows and for the sample's. -/
module

public import proofs.«01_k».proof.Proof.Gen.Reference3Ideal.Run
public import proofs.«01_k».proof.Proof.Row
public import Idealize.ShloMosaic.Lib.Pipeline.ValueKit
public import Idealize.ShloMosaic.Lib.Pointwise

@[expose] public section

set_option maxRecDepth 100000

noncomputable section

namespace Cert.Reference3Ideal.Value

open Cert.Reference3Ideal Cert.Reference3Ideal.Gen Idealize.ShloMosaic Idealize.ShloMosaic.TcCoe Idealize.SL.Sem

variable (m : (ℓ : Loc nD τ sig) → Buf (Elt Ideal) ℓ)

/-- The prompt's rows, normalised by their root mean square. -/
def normP (x : FVec Ideal S4x2048x2048 .f32) (g : FVec Ideal S4x2048 .f32) : FVec Ideal S4x2048x2048 .f32 :=
  mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 (shapeCast _ (extractStridedSlice S1x2048 ![0, 0] g slices_S4x2048_S1x2048_0_0) shapeCasts_S1x2048_S2048)))

/-- The prompt's rows against the weights. -/
def projP (n : FVec Ideal S4x2048x2048 .f32) (w : FVec Ideal S4x2048x5960 .f32) : FVec Ideal S4x2048x5960 .f32 :=
  Host.dotGeneral dot_S4x2048x2048_S2048x5960_S4x2048x5960_2_0_01_1_n_n none n (shapeCast _ (extractStridedSlice S1x2048x5960 ![0, 0, 0] w slices_S4x2048x5960_S1x2048x5960_0_0_0) shapeCasts_S1x2048x5960_S2048x5960)

/-- The prompt's projections in the call's order of columns. -/
def layP (p : FVec Ideal S4x2048x5960 .f32) : FVec Ideal S8192x6144 .f32 :=
  shapeCast _ (concatenate S4x2048x6144 2 [⟨S4x2048x4096, extractStridedSlice S4x2048x4096 ![0, 0, 0] p slices_S4x2048x5960_S4x2048x4096_0_0_0⟩, ⟨S4x2048x1024, shapeCast _ (extractStridedSlice S4x2048x8x128 ![0, 0, 0, 0] (shapeCast _ (extractStridedSlice S4x2048x1536 ![0, 0, 4104] p slices_S4x2048x5960_S4x2048x1536_0_0_4104) shapeCasts_S4x2048x1536_S4x2048x8x192) slices_S4x2048x8x192_S4x2048x8x128_0_0_0_0) shapeCasts_S4x2048x8x128_S4x2048x1024⟩, ⟨S4x2048x512, shapeCast _ (extractStridedSlice S4x2048x8x64 ![0, 0, 0, 128] (shapeCast _ (extractStridedSlice S4x2048x1536 ![0, 0, 4104] p slices_S4x2048x5960_S4x2048x1536_0_0_4104) shapeCasts_S4x2048x1536_S4x2048x8x192) slices_S4x2048x8x192_S4x2048x8x64_0_0_0_128) shapeCasts_S4x2048x8x64_S4x2048x512⟩, ⟨S4x2048x8, extractStridedSlice S4x2048x8 ![0, 0, 4096] p slices_S4x2048x5960_S4x2048x8_0_0_4096⟩, ⟨S4x2048x120, broadcastInDim S4x2048x120 ![] bcast_S_S4x2048x120 (constant S_ .f32 0x00000000#32)⟩, ⟨S4x2048x320, extractStridedSlice S4x2048x320 ![0, 0, 5640] p slices_S4x2048x5960_S4x2048x320_0_0_5640⟩, ⟨S4x2048x64, broadcastInDim S4x2048x64 ![] bcast_S_S4x2048x64 (constant S_ .f32 0x00000000#32)⟩] concatenates_S4x2048x4096_S4x2048x1024_S4x2048x512_S4x2048x8_S4x2048x120_S4x2048x320_S4x2048x64_S4x2048x6144_d2) shapeCasts_S4x2048x6144_S8192x6144

theorem normP_at (x : FVec Ideal S4x2048x2048 .f32) (g : FVec Ideal S4x2048 .f32) (b : Fin 4) (s : Fin 2048) (k : Fin 2048) :
    normP x g (ix3 b s k) = Layer.norm (fun j => x (ix3 b s j)) (fun j => g (ix2 0 j)) k := by
  pointwise [normP]
  rfl

theorem projP_at (x : FVec Ideal S4x2048x2048 .f32) (w : FVec Ideal S4x2048x5960 .f32) (b : Fin 4) (s : Fin 2048) (k : Fin 5960) :
    projP x w (ix3 b s k) = ∑ j : Fin 2048, x (ix3 b s j) * w (ix3 0 j k) := by
  pointwise [projP]

theorem layP_at (p : FVec Ideal S4x2048x5960 .f32) (n : Fin 8192) (k : Fin 6144) :
    layP p (ix2 n k) = Layer.lay (fun q => p (ix3 ⟨n.val / 2048, by omega⟩ ⟨n.val % 2048, by omega⟩ q)) k := by
  pointwise [layP]
  rfl

/-- The sample's rows, normalised by their root mean square. -/
def normS (x : FVec Ideal S128x4x2048 .f32) (g : FVec Ideal S4x2048 .f32) : FVec Ideal S128x4x2048 .f32 :=
  mulf (mulf x (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf x x) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32)))))) (broadcastInDim S128x4x2048 ![0, 1, 2] bcast_S1x1x2048_S128x4x2048_0_1_2 (broadcastInDim S1x1x2048 ![2] bcast_S2048_S1x1x2048_2 (shapeCast _ (extractStridedSlice S1x2048 ![0, 0] g slices_S4x2048_S1x2048_0_0) shapeCasts_S1x2048_S2048)))

/-- The sample's rows against the weights. -/
def projS (n : FVec Ideal S128x4x2048 .f32) (w : FVec Ideal S4x2048x5960 .f32) : FVec Ideal S128x4x5960 .f32 :=
  Host.dotGeneral dot_S128x4x2048_S2048x5960_S128x4x5960_2_0_01_1_n_n none n (shapeCast _ (extractStridedSlice S1x2048x5960 ![0, 0, 0] w slices_S4x2048x5960_S1x2048x5960_0_0_0) shapeCasts_S1x2048x5960_S2048x5960)

/-- The sample's projections in the call's order of columns. -/
def layS (p : FVec Ideal S128x4x5960 .f32) : FVec Ideal S512x6144 .f32 :=
  shapeCast _ (concatenate S128x4x6144 2 [⟨S128x4x4096, extractStridedSlice S128x4x4096 ![0, 0, 0] p slices_S128x4x5960_S128x4x4096_0_0_0⟩, ⟨S128x4x1024, shapeCast _ (extractStridedSlice S128x4x8x128 ![0, 0, 0, 0] (shapeCast _ (extractStridedSlice S128x4x1536 ![0, 0, 4104] p slices_S128x4x5960_S128x4x1536_0_0_4104) shapeCasts_S128x4x1536_S128x4x8x192) slices_S128x4x8x192_S128x4x8x128_0_0_0_0) shapeCasts_S128x4x8x128_S128x4x1024⟩, ⟨S128x4x512, shapeCast _ (extractStridedSlice S128x4x8x64 ![0, 0, 0, 128] (shapeCast _ (extractStridedSlice S128x4x1536 ![0, 0, 4104] p slices_S128x4x5960_S128x4x1536_0_0_4104) shapeCasts_S128x4x1536_S128x4x8x192) slices_S128x4x8x192_S128x4x8x64_0_0_0_128) shapeCasts_S128x4x8x64_S128x4x512⟩, ⟨S128x4x8, extractStridedSlice S128x4x8 ![0, 0, 4096] p slices_S128x4x5960_S128x4x8_0_0_4096⟩, ⟨S128x4x120, broadcastInDim S128x4x120 ![] bcast_S_S128x4x120 (constant S_ .f32 0x00000000#32)⟩, ⟨S128x4x320, extractStridedSlice S128x4x320 ![0, 0, 5640] p slices_S128x4x5960_S128x4x320_0_0_5640⟩, ⟨S128x4x64, broadcastInDim S128x4x64 ![] bcast_S_S128x4x64 (constant S_ .f32 0x00000000#32)⟩] concatenates_S128x4x4096_S128x4x1024_S128x4x512_S128x4x8_S128x4x120_S128x4x320_S128x4x64_S128x4x6144_d2) shapeCasts_S128x4x6144_S512x6144

theorem normS_at (x : FVec Ideal S128x4x2048 .f32) (g : FVec Ideal S4x2048 .f32) (b : Fin 128) (s : Fin 4) (k : Fin 2048) :
    normS x g (ix3 b s k) = Layer.norm (fun j => x (ix3 b s j)) (fun j => g (ix2 0 j)) k := by
  pointwise [normS]
  rfl

theorem projS_at (x : FVec Ideal S128x4x2048 .f32) (w : FVec Ideal S4x2048x5960 .f32) (b : Fin 128) (s : Fin 4) (k : Fin 5960) :
    projS x w (ix3 b s k) = ∑ j : Fin 2048, x (ix3 b s j) * w (ix3 0 j k) := by
  pointwise [projS]

theorem layS_at (p : FVec Ideal S128x4x5960 .f32) (n : Fin 512) (k : Fin 6144) :
    layS p (ix2 n k) = Layer.lay (fun q => p (ix3 ⟨n.val / 4, by omega⟩ ⟨n.val % 4, by omega⟩ q)) k := by
  pointwise [layS]
  rfl

theorem res_eq (c : Dev nD) (a : FVec Ideal S4x2048x5960 .f32) (b : FVec Ideal S128x4x5960 .f32)
    (ha : a = projP (normP (m ((c.tc : Thread nD τ).loc main_arg0)) (m ((c.tc : Thread nD τ).loc main_arg2))) (m ((c.tc : Thread nD τ).loc main_arg3))) (hb : b = projS (normS (m ((c.tc : Thread nD τ).loc main_arg1)) (m ((c.tc : Thread nD τ).loc main_arg2))) (m ((c.tc : Thread nD τ).loc main_arg3))) :
    res_main_v62 m c = concatenate S8704x6144 0 [⟨S8192x6144, layP a⟩, ⟨S512x6144, layS b⟩] concatenates_S8192x6144_S512x6144_S8704x6144_d0 := by
  subst ha; subst hb; rfl

/-- The reference's result at row `n`, column `k`, of its argument arrays. -/
def out (p : FVec Ideal S4x2048x2048 .f32) (s : FVec Ideal S128x4x2048 .f32) (g : FVec Ideal S4x2048 .f32)
    (w : FVec Ideal S4x2048x5960 .f32) (n : Fin 8704) (k : Fin 6144) : EReal :=
  Layer.lay (fun q => ∑ j : Fin 2048, Layer.norm (Layer.rows (fun a b j => p (ix3 a b j)) (fun a b j => s (ix3 a b j)) n) (fun j => g (ix2 0 j)) j * w (ix3 0 j q)) k

theorem stack_at (p : FVec Ideal S8192x6144 .f32) (s : FVec Ideal S512x6144 .f32) (n : Fin 8704) (k : Fin 6144) :
    concatenate S8704x6144 0 [⟨S8192x6144, p⟩, ⟨S512x6144, s⟩] concatenates_S8192x6144_S512x6144_S8704x6144_d0 (ix2 n k)
      = if h : n.val < 8192 then p (ix2 ⟨n.val, h⟩ k) else s (ix2 ⟨n.val - 8192, by omega⟩ k) := by
  pointwise []

theorem res_at (c : Dev nD) (n : Fin 8704) (k : Fin 6144) :
    res_main_v62 m c (ix2 n k) = out (m ((c.tc : Thread nD τ).loc main_arg0)) (m ((c.tc : Thread nD τ).loc main_arg1)) (m ((c.tc : Thread nD τ).loc main_arg2)) (m ((c.tc : Thread nD τ).loc main_arg3)) n k := by
  rw [res_eq m c _ _ rfl rfl]
  refine (stack_at _ _ n k).trans ?_
  unfold out Layer.rows
  by_cases h : n.val < 8192
  · simp only [dif_pos h]
    refine (layP_at _ _ k).trans (congrArg (fun f => Layer.lay f k) (funext fun q => ?_))
    refine (projP_at _ _ _ _ q).trans ?_
    exact Finset.sum_congr rfl fun j _ => congrArg (fun z : EReal => z * _) (normP_at _ _ _ _ j)
  · simp only [dif_neg h]
    refine (layS_at _ _ k).trans (congrArg (fun f => Layer.lay f k) (funext fun q => ?_))
    refine (projS_at _ _ _ _ q).trans ?_
    exact Finset.sum_congr rfl fun j _ => congrArg (fun z : EReal => z * _) (normS_at _ _ _ _ j)

end Cert.Reference3Ideal.Value

end
-- ==== Proof.Proj.Equation.lean ====
/- The input projection's result array is the reference's.

   A row tile is visited at six grid points, one for each tile of columns. The normalised rows are kept from the
   first of them. -/
module

public import proofs.«01_k».proof.Proof.Proj.Entry
public import proofs.«01_k».proof.Proof.Proj.Ref

@[expose] public section

set_option maxRecDepth 100000

noncomputable section

namespace Cert.Kernel3Ideal.Value

open Cert.Kernel3Ideal Cert.Kernel3Ideal.Gen Idealize.ShloMosaic Idealize.ShloMosaic.TcCoe Idealize.SL.Sem

variable (m : (ℓ : Loc nD τ sig) → Buf (Elt Ideal) ℓ)

theorem norm_at (c : Dev nD) (t : Fin cfg0.N) (r : Fin 1088) (k : Fin 2048) (n : Fin 8704) (hn : n.val = t.val / 6 * 1088 + r.val) :
    k0_pay1 (F := Ideal) (iblk m c 0 t) (iblk m c 1 t) (ix2 r k) = Layer.norm (row m c n) (gain m c) k := by
  refine (pay1_at _ _ r k).trans ?_
  exact congrArg₂ (fun x g => Layer.norm x g k) (funext fun j => x_at m c t r j n hn) (funext fun j => g_at m c t j)

/-- The reference's result over the kernel's argument arrays. -/
def refOut (c : Dev nD) : FVec Ideal S8704x6144 .f32 := fun i =>
  Cert.Reference3Ideal.Value.out (m ((c : Thread nD τ).loc main_arg0)) (m ((c : Thread nD τ).loc main_arg1))
    (m ((c : Thread nD τ).loc main_arg2)) (m ((c : Thread nD τ).loc main_arg3)) (i 0) (i 1)

theorem dot_at (c : Dev nD) (t : Fin cfg0.N) (x : Vec Ideal S1088x2048 .bf16) (r : Fin 1088) (k : Fin 1024) (n : Fin 8704)
    (p : Fin 6144) (hp : p.val = t.val % 6 * 1024 + k.val) (hx : ∀ j, x (ix2 r j) = Layer.norm (row m c n) (gain m c) j) :
    k0_pay2 (F := Ideal) x (iblk m c 2 t) (ix2 r k) = refOut m c (ix2 n p) := by
  refine (pay2_at _ _ r k).trans ?_
  refine Eq.trans ?_ (Layer.sum_lay (fun j => Layer.norm (row m c n) (gain m c) j) (weight m c) p)
  exact Finset.sum_congr rfl fun j _ => congrArg₂ (fun a b : EReal => a * b) (hx j) (w_at m c t j k p hp)

/-- What a grid point leaves. -/
theorem state (c : Dev nD) : ∀ (i : ℕ) (hi : i < cfg0.N), ∀ (r : Fin 1088) (n : Fin 8704), n.val = i / 6 * 1088 + r.val →
    (∀ k : Fin 2048, (outsAt0 m c i hi).2 (ix2 r k) = Layer.norm (row m c n) (gain m c) k)
    ∧ ∀ (k : Fin 1024) (p : Fin 6144), p.val = i % 6 * 1024 + k.val → (outsAt0 m c i hi).1 (ix2 r k) = refOut m c (ix2 n p) := by
  intro i
  induction i with
  | zero =>
    intro hi r n hn
    rw [outs_A m c ⟨0, hi⟩ rfl]
    exact ⟨fun k => norm_at m c ⟨0, hi⟩ r k n hn, fun k p hp =>
      dot_at m c ⟨0, hi⟩ _ r k n p hp (fun j => norm_at m c ⟨0, hi⟩ r j n hn)⟩
  | succ i ih =>
    intro hi r n hn
    by_cases h : (i + 1) % 6 = 0
    · rw [outs_A m c ⟨i + 1, hi⟩ h]
      exact ⟨fun k => norm_at m c ⟨i + 1, hi⟩ r k n hn, fun k p hp =>
        dot_at m c ⟨i + 1, hi⟩ _ r k n p hp (fun j => norm_at m c ⟨i + 1, hi⟩ r j n hn)⟩
    · have hi' : i < cfg0.N := Nat.lt_of_succ_lt hi
      have hd : n.val = i / 6 * 1088 + r.val := by omega
      rw [outs_B m c ⟨i + 1, hi⟩ h (outsAt0 m c i hi').2 rfl]
      exact ⟨(ih hi' r n hd).1, fun k p hp => dot_at m c ⟨i + 1, hi⟩ _ r k n p hp (ih hi' r n hd).1⟩

theorem final (c : Dev nD) : (dats m 0 c).arrAt 3 (cfgs 0).N = refOut m c := by
  generalize hG : refOut m c = G
  refine (dats m 0 c).arrAt_eq_of_covers 3 G (by decide +kernel) fun t hf y => ?_
  idx_vars y
  have ht : t.val < 48 := lt_of_lt_of_eq t.isLt N_0
  have hb := (state m c t.val t.isLt y0 ⟨t.val / 6 * 1088 + y0.val, by omega⟩ rfl).2 y1 ⟨t.val % 6 * 1024 + y1.val, by omega⟩ rfl
  rw [hG] at hb
  blk_simp
  rw [after0_3]
  refine hb.trans ?_
  blk_ext [idx t]

end Cert.Kernel3Ideal.Value

end
-- ==== Proof.Prep.Spec.lean ====
/- One row of the latent attention's inputs: the rotary embedding, the normalised latent, the absorbed queries. -/
module

public import proofs.«01_k».proof.Proof.Row

@[expose] public section

noncomputable section

namespace Layer

open Idealize.ShloMosaic

/-- Row `n` of the prompt's and the sample's rows, one after the other, of any width. -/
def both {W : ℕ} (p : Fin 4 → Fin 2048 → Fin W → EReal) (s : Fin 128 → Fin 4 → Fin W → EReal) (n : Fin 8704) (k : Fin W) : EReal :=
  if h : n.val < 8192 then p ⟨n.val / 2048, by omega⟩ ⟨n.val % 2048, by omega⟩ k
  else s ⟨(n.val - 8192) / 4, by omega⟩ ⟨(n.val - 8192) % 4, by omega⟩ k

/-- The position of row `n`. -/
def place (n : Fin 8704) : BitVec 32 :=
  if n.val < 8192 then BitVec.ofNat 32 (n.val % 2048) else 8192#32 + BitVec.ofNat 32 ((n.val - 8192) % 4)

/-- The angle of position `p` in lane `j`. -/
def angle (p : BitVec 32) (j : Fin 32) : EReal :=
  (FloatOps.sitofp .f32 p : Ideal .f32) * Ideal.pow (Ideal.ofBits FTy.f32 1176256512#32)
    (Ideal.div (-(Ideal.ofBits FTy.f32 1073741824#32 * (FloatOps.sitofp .f32 (BitVec.ofNat 32 j.val) : Ideal .f32))) (Ideal.ofBits FTy.f32 1115684864#32))

/-- The cosines of row `n`. -/
def cosAt (n : Fin 8704) (j : Fin 32) : EReal := Ideal.cos (angle (place n) j)

/-- The sines of row `n`. -/
def sinAt (n : Fin 8704) (j : Fin 32) : EReal := Ideal.sin (angle (place n) j)

/-- The latent `x` divided by its root mean square and scaled by `g`. -/
def unit (x g : Fin 256 → EReal) (k : Fin 256) : EReal :=
  x k * Ideal.rsqrt (Ideal.div (∑ j : Fin 256, x j * x j) (Ideal.ofBits .f32 0x43800000#32) + Ideal.ofBits .f32 0x358637BD#32) * g k

/-- A row of 1536 queries and 320 latents in the call's columns. -/
def seat (q : Fin 1536 → EReal) (v : Fin 320 → EReal) (k : Fin 6144) : EReal :=
  if _h : k.val < 4096 then 0
  else if _h : k.val - 4096 < 1024 then q ⟨(k.val - 4096) / 128 * 192 + (k.val - 4096) % 128, by omega⟩
  else if _h : k.val - 4096 - 1024 < 512 then q ⟨(k.val - 4096 - 1024) / 64 * 192 + (128 + (k.val - 4096 - 1024) % 64), by omega⟩
  else if _h : k.val - 4096 - 1024 - 512 < 128 then 0
  else if _h : k.val - 4096 - 1024 - 512 - 128 < 320 then v ⟨k.val - 4096 - 1024 - 512 - 128, by omega⟩
  else 0

/-- The pair of halves `x` turned by the angles with cosines `co` and sines `si`. -/
def turn (co si : Fin 32 → EReal) (x : Fin 64 → EReal) (l : Fin 64) : EReal :=
  if h : l.val < 32 then x l * co ⟨l.val, h⟩ - x ⟨l.val + 32, by omega⟩ * si ⟨l.val, h⟩
  else x l * co ⟨l.val - 32, by omega⟩ + x ⟨l.val - 32, by omega⟩ * si ⟨l.val - 32, by omega⟩

/-- The sines of the lanes that take the value 32 lanes later. -/
def low (si : Fin 32 → EReal) (l : Fin 128) : EReal :=
  if h : l.val < 32 then -si ⟨l.val, h⟩
  else if _h : l.val - 32 < 32 then 0
  else if h : l.val - 32 - 32 < 32 then -si ⟨l.val - 32 - 32, h⟩
  else 0

/-- The sines of the lanes that take the value 32 lanes before. -/
def high (si : Fin 32 → EReal) (l : Fin 128) : EReal :=
  if _h : l.val < 32 then 0
  else if h : l.val - 32 < 32 then si ⟨l.val - 32, h⟩
  else if _h : l.val - 32 - 32 < 32 then 0
  else si ⟨l.val - 32 - 32 - 32, by omega⟩

/-- The cosines of the four quarters. -/
def four (co : Fin 32 → EReal) (l : Fin 128) : EReal :=
  if h : l.val < 32 then co ⟨l.val, h⟩
  else if h : l.val - 32 < 32 then co ⟨l.val - 32, h⟩
  else if h : l.val - 32 - 32 < 32 then co ⟨l.val - 32 - 32, h⟩
  else co ⟨l.val - 32 - 32 - 32, by omega⟩

/-- Two turned pairs side by side, by products with the lanes shifted either way. -/
def twice (co si : Fin 32 → EReal) (x : Fin 128 → EReal) (l : Fin 128) : EReal :=
  x l * four co l + x ⟨(l.val + 128 - 96) % 128, Nat.mod_lt _ (by decide)⟩ * low si l
    + x ⟨(l.val + 128 - 32) % 128, Nat.mod_lt _ (by decide)⟩ * high si l

theorem twice_eq (co si : Fin 32 → EReal) (x : Fin 128 → EReal) (l : Fin 128) :
    twice co si x l = turn co si (fun q => x ⟨l.val / 64 * 64 + q.val, by omega⟩) ⟨l.val % 64, Nat.mod_lt _ (by decide)⟩ := by
  unfold twice turn four low high
  have hc : l.val < 32 ∨ (32 ≤ l.val ∧ l.val < 64) ∨ (64 ≤ l.val ∧ l.val < 96) ∨ 96 ≤ l.val := by omega
  have key : ∀ (a b : Fin 128), a.val = b.val → x a = x b := fun a b h => congrArg x (Fin.ext h)
  have kc : ∀ (a b : Fin 32), a.val = b.val → co a = co b := fun a b h => congrArg co (Fin.ext h)
  have ks : ∀ (a b : Fin 32), a.val = b.val → si a = si b := fun a b h => congrArg si (Fin.ext h)
  rcases hc with h | h | h | h
  · rw [dif_pos (by omega), dif_pos (by omega), dif_pos (by omega), dif_pos (by show l.val % 64 < 32; omega)]
    rw [mul_zero, add_zero, mul_neg, sub_eq_add_neg]
    refine congrArg₂ (fun a b : EReal => a + -b) (congrArg₂ (fun a b : EReal => a * b) (key _ _ ?_) (kc _ _ ?_)) (congrArg₂ (fun a b : EReal => a * b) (key _ _ ?_) (ks _ _ ?_)) <;> simp only [] <;> omega
  · rw [dif_neg (by omega), dif_pos (by omega), dif_neg (by omega), dif_pos (by omega), dif_neg (by omega), dif_pos (by omega), dif_neg (by show ¬ l.val % 64 < 32; omega)]
    rw [mul_zero, add_zero]
    refine congrArg₂ (fun a b : EReal => a + b) (congrArg₂ (fun a b : EReal => a * b) (key _ _ ?_) (kc _ _ ?_)) (congrArg₂ (fun a b : EReal => a * b) (key _ _ ?_) (ks _ _ ?_)) <;> simp only [] <;> omega
  · rw [dif_neg (by omega), dif_neg (by omega), dif_pos (by omega), dif_neg (by omega), dif_neg (by omega), dif_pos (by omega), dif_neg (by omega), dif_neg (by omega), dif_pos (by omega), dif_pos (by show l.val % 64 < 32; omega)]
    rw [mul_zero, add_zero, mul_neg, sub_eq_add_neg]
    refine congrArg₂ (fun a b : EReal => a + -b) (congrArg₂ (fun a b : EReal => a * b) (key _ _ ?_) (kc _ _ ?_)) (congrArg₂ (fun a b : EReal => a * b) (key _ _ ?_) (ks _ _ ?_)) <;> simp only [] <;> omega
  · rw [dif_neg (by omega), dif_neg (by omega), dif_neg (by omega), dif_neg (by omega), dif_neg (by omega), dif_neg (by omega), dif_neg (by omega), dif_neg (by omega), dif_neg (by omega), dif_neg (by show ¬ l.val % 64 < 32; omega)]
    rw [mul_zero, add_zero]
    refine congrArg₂ (fun a b : EReal => a + b) (congrArg₂ (fun a b : EReal => a * b) (key _ _ ?_) (kc _ _ ?_)) (congrArg₂ (fun a b : EReal => a * b) (key _ _ ?_) (ks _ _ ?_)) <;> simp only [] <;> omega

/-- Row of the latents and the turned key, followed by zeros. -/
def kvRow (v : Fin 320 → EReal) (g : Fin 256 → EReal) (co si : Fin 32 → EReal) (k : Fin 384) : EReal :=
  if h : k.val < 256 then unit (fun j => v ⟨j.val, by omega⟩) g ⟨k.val, h⟩
  else if h : k.val - 256 < 64 then turn co si (fun l => v ⟨256 + l.val, by omega⟩) ⟨k.val - 256, h⟩
  else 0

/-- Row of the latents and the turned key, given twice. -/
def kbRow (v : Fin 320 → EReal) (g : Fin 256 → EReal) (co si : Fin 32 → EReal) (k : Fin 384) : EReal :=
  if h : k.val < 256 then unit (fun j => v ⟨j.val, by omega⟩) g ⟨k.val, h⟩
  else turn co si (fun l => v ⟨256 + l.val, by omega⟩) ⟨(k.val - 256) % 64, Nat.mod_lt _ (by decide)⟩

/-- Row of the eight heads' queries: the query against the latents, then the turned part in the first half of an
    even head's last lanes and in the second half of an odd head's. -/
def qRow (q : Fin 1536 → EReal) (w : Fin 8 → Fin 128 → Fin 256 → EReal) (co si : Fin 32 → EReal) (k : Fin 3072) : EReal :=
  if h : k.val % 384 < 256 then ∑ d : Fin 128, q ⟨k.val / 384 * 192 + d.val, by omega⟩ * w ⟨k.val / 384, by omega⟩ d ⟨k.val % 384, h⟩
  else if (k.val % 384 - 256) / 64 = k.val / 384 % 2 then
    turn co si (fun l => q ⟨k.val / 384 * 192 + (128 + l.val), by omega⟩) ⟨(k.val % 384 - 256) % 64, Nat.mod_lt _ (by decide)⟩
  else 0

theorem turn_zero (co si : Fin 32 → EReal) (l : Fin 64) : turn co si (fun _ => 0) l = 0 := by
  unfold turn
  split
  · rw [zero_mul, zero_mul, sub_zero]
  · rw [zero_mul, zero_mul, add_zero]

theorem turn_congr (co si : Fin 32 → EReal) (x y : Fin 64 → EReal) (l k : Fin 64) (hx : ∀ e, x e = y e) (hl : l.val = k.val) :
    turn co si x l = turn co si y k := by
  rw [funext hx, Fin.ext hl]

theorem seat_lat (q : Fin 1536 → EReal) (v : Fin 320 → EReal) (j : Fin 320) (k : Fin 6144) (hk : k.val = 5760 + j.val) :
    seat q v k = v j := by
  unfold seat
  rw [dif_neg (by omega), dif_neg (by omega), dif_neg (by omega), dif_neg (by omega), dif_pos (by omega)]
  exact congrArg v (Fin.ext (by show k.val - 4096 - 1024 - 512 - 128 = j.val; omega))

theorem seat_end (q : Fin 1536 → EReal) (v : Fin 320 → EReal) (k : Fin 6144) (hk : 6080 ≤ k.val) : seat q v k = 0 := by
  unfold seat
  rw [dif_neg (by omega), dif_neg (by omega), dif_neg (by omega), dif_neg (by omega), dif_neg (by omega)]

theorem seat_nope (q : Fin 1536 → EReal) (v : Fin 320 → EReal) (h : ℕ) (d : ℕ) (hh : h < 8) (hd : d < 128) (k : Fin 6144)
    (hk : k.val = 4096 + h * 128 + d) : seat q v k = q ⟨h * 192 + d, by omega⟩ := by
  unfold seat
  rw [dif_neg (by omega), dif_pos (by omega)]
  exact congrArg q (Fin.ext (by show (k.val - 4096) / 128 * 192 + (k.val - 4096) % 128 = h * 192 + d; omega))

theorem seat_pe (q : Fin 1536 → EReal) (v : Fin 320 → EReal) (h : ℕ) (d : ℕ) (hh : h < 8) (hd : d < 64) (k : Fin 6144)
    (hk : k.val = 5120 + h * 64 + d) : seat q v k = q ⟨h * 192 + (128 + d), by omega⟩ := by
  unfold seat
  rw [dif_neg (by omega), dif_neg (by omega), dif_pos (by omega)]
  exact congrArg q (Fin.ext (by show (k.val - 4096 - 1024) / 64 * 192 + (128 + (k.val - 4096 - 1024) % 64) = h * 192 + (128 + d); omega))

/-- The key's lanes: the turned pair, then zeros. -/
theorem twice_key (q : Fin 1536 → EReal) (v : Fin 320 → EReal) (co si : Fin 32 → EReal) (x : Fin 128 → EReal)
    (hx : ∀ l : Fin 128, x l = seat q v ⟨6016 + l.val, by omega⟩) (l : Fin 128) :
    twice co si x l = if h : l.val < 64 then turn co si (fun e => v ⟨256 + e.val, by omega⟩) ⟨l.val, h⟩ else 0 := by
  rw [twice_eq]
  by_cases h : l.val < 64
  · rw [dif_pos h]
    refine turn_congr co si _ _ _ _ (fun e => ?_) (by show l.val % 64 = l.val; omega)
    exact (hx _).trans (seat_lat q v _ _ (by show 6016 + (l.val / 64 * 64 + e.val) = 5760 + (256 + e.val); omega))
  · rw [dif_neg h]
    refine (turn_congr co si _ (fun _ => 0) _ _ (fun e => ?_) rfl).trans (turn_zero co si _)
    exact (hx _).trans (seat_end q v _ (by show 6080 ≤ 6016 + (l.val / 64 * 64 + e.val); omega))

/-- Two heads' lanes. -/
theorem twice_heads (q : Fin 1536 → EReal) (v : Fin 320 → EReal) (co si : Fin 32 → EReal) (p : ℕ) (hp : p < 4) (x : Fin 128 → EReal)
    (hx : ∀ l : Fin 128, x l = seat q v ⟨5120 + p * 128 + l.val, by omega⟩) (l : Fin 128) :
    twice co si x l = turn co si (fun e => q ⟨(2 * p + l.val / 64) * 192 + (128 + e.val), by omega⟩) ⟨l.val % 64, Nat.mod_lt _ (by decide)⟩ := by
  rw [twice_eq]
  refine turn_congr co si _ _ _ _ (fun e => ?_) rfl
  exact (hx _).trans (seat_pe q v (2 * p + l.val / 64) e.val (by omega) e.isLt _
    (by show 5120 + p * 128 + (l.val / 64 * 64 + e.val) = 5120 + (2 * p + l.val / 64) * 64 + e.val; omega))

theorem lane_slt (l : Fin 128) (a b : EReal) :
    Scalar.select (IntOp.cmpi .slt (BitVec.ofNat 32 l.val) 64#32) a b = if l.val < 64 then a else b := by
  have hc : ∀ k : Fin 128, IntOp.cmpi .slt (BitVec.ofNat 32 k.val) 64#32 = if k.val < 64 then 1#1 else 0#1 := by decide
  rw [hc l]
  by_cases h : l.val < 64
  · rw [if_pos h, if_pos h]; rfl
  · rw [if_neg h, if_neg h]; rfl

theorem lane_sge (l : Fin 128) (a b : EReal) :
    Scalar.select (IntOp.cmpi .sge (BitVec.ofNat 32 l.val) 64#32) a b = if l.val < 64 then b else a := by
  have hc : ∀ k : Fin 128, IntOp.cmpi .sge (BitVec.ofNat 32 k.val) 64#32 = if k.val < 64 then 0#1 else 1#1 := by decide
  rw [hc l]
  by_cases h : l.val < 64
  · rw [if_pos h, if_pos h]; rfl
  · rw [if_neg h, if_neg h]; rfl

/-- An even head's turned lanes, then zeros. -/
theorem qRow_even (q : Fin 1536 → EReal) (v : Fin 320 → EReal) (w : Fin 8 → Fin 128 → Fin 256 → EReal) (co si : Fin 32 → EReal)
    (p : ℕ) (hp : p < 4) (x : Fin 128 → EReal) (hx : ∀ l : Fin 128, x l = seat q v ⟨5120 + p * 128 + l.val, by omega⟩)
    (l : Fin 128) (k : Fin 3072) (hk : k.val = 2 * p * 384 + 256 + l.val) :
    Scalar.select (IntOp.cmpi .slt (BitVec.ofNat 32 l.val) 64#32) (twice co si x l) 0 = qRow q w co si k := by
  rw [lane_slt, twice_heads q v co si p hp x hx l]
  unfold qRow
  rw [dif_neg (by omega)]
  by_cases h : l.val < 64
  · rw [if_pos h, if_pos (by omega)]
    refine turn_congr co si _ _ _ _ (fun e => congrArg q (Fin.ext ?_)) ?_
    · show (2 * p + l.val / 64) * 192 + (128 + e.val) = k.val / 384 * 192 + (128 + e.val); omega
    · show l.val % 64 = (k.val % 384 - 256) % 64; omega
  · rw [if_neg h, if_neg (by omega)]

/-- Zeros, then an odd head's turned lanes. -/
theorem qRow_odd (q : Fin 1536 → EReal) (v : Fin 320 → EReal) (w : Fin 8 → Fin 128 → Fin 256 → EReal) (co si : Fin 32 → EReal)
    (p : ℕ) (hp : p < 4) (x : Fin 128 → EReal) (hx : ∀ l : Fin 128, x l = seat q v ⟨5120 + p * 128 + l.val, by omega⟩)
    (l : Fin 128) (k : Fin 3072) (hk : k.val = (2 * p + 1) * 384 + 256 + l.val) :
    Scalar.select (IntOp.cmpi .sge (BitVec.ofNat 32 l.val) 64#32) (twice co si x l) 0 = qRow q w co si k := by
  rw [lane_sge, twice_heads q v co si p hp x hx l]
  unfold qRow
  rw [dif_neg (by omega)]
  by_cases h : l.val < 64
  · rw [if_pos h, if_neg (by omega)]
  · rw [if_neg h, if_pos (by omega)]
    refine turn_congr co si _ _ _ _ (fun e => congrArg q (Fin.ext ?_)) ?_
    · show (2 * p + l.val / 64) * 192 + (128 + e.val) = k.val / 384 * 192 + (128 + e.val); omega
    · show l.val % 64 = (k.val % 384 - 256) % 64; omega

/-- A head's query against the latents. -/
theorem qRow_lat (q : Fin 1536 → EReal) (v : Fin 320 → EReal) (w : Fin 8 → Fin 128 → Fin 256 → EReal) (co si : Fin 32 → EReal)
    (h : ℕ) (hh : h < 8) (x : Fin 128 → EReal) (hx : ∀ d : Fin 128, x d = seat q v ⟨4096 + h * 128 + d.val, by omega⟩)
    (j : Fin 256) (k : Fin 3072) (hk : k.val = h * 384 + j.val) :
    ∑ d : Fin 128, x d * w ⟨h, hh⟩ d j = qRow q w co si k := by
  unfold qRow
  rw [dif_pos (by omega)]
  refine Finset.sum_congr rfl fun d _ => congrArg₂ (fun a b : EReal => a * b) ?_ ?_
  · refine (hx d).trans ((seat_nope q v h d.val hh d.isLt _ rfl).trans (congrArg q (Fin.ext ?_)))
    show h * 192 + d.val = k.val / 384 * 192 + d.val; omega
  · have e1 : (⟨h, hh⟩ : Fin 8) = ⟨k.val / 384, by omega⟩ := Fin.ext (by show h = k.val / 384; omega)
    have e2 : j = ⟨k.val % 384, by omega⟩ := Fin.ext (by show j.val = k.val % 384; omega)
    rw [e1]; exact congrArg _ e2

theorem parity (h : Fin 8) (a b : EReal) :
    Scalar.select (IntOp.cmpi .eq (IntOp.andi (BitVec.ofNat 32 h.val) 1#32) 0#32) a b = if h.val % 2 = 0 then a else b := by
  have hc : ∀ k : Fin 8, IntOp.cmpi .eq (IntOp.andi (BitVec.ofNat 32 k.val) 1#32) 0#32 = if k.val % 2 = 0 then 1#1 else 0#1 := by decide
  rw [hc h]
  by_cases e : h.val % 2 = 0
  · rw [if_pos e, if_pos e]; rfl
  · rw [if_neg e, if_neg e]; rfl

end Layer

end
-- ==== Proof.Prep.Entry.lean ====
/- The call before the attention: what its stores hold at an index, and the blocks it reads as entries of its
   argument arrays. -/
module

public import proofs.«01_k».proof.Proof.Gen.Kernel4Ideal.Value
public import proofs.«01_k».proof.Proof.Prep.Spec
public import Idealize.ShloMosaic.Lib.Pipeline.ValueKit
public import Idealize.ShloMosaic.Lib.Pointwise

@[expose] public section

set_option maxRecDepth 100000

noncomputable section

namespace Cert.Kernel4Ideal.Value

open Cert.Kernel4Ideal Cert.Kernel4Ideal.Gen Idealize.ShloMosaic Idealize.ShloMosaic.TcCoe Idealize.SL.Sem

variable (m : (ℓ : Loc nD τ sig) → Buf (Elt Ideal) ℓ)

/-- The prompt's queries and latents in the call's columns. -/
def colP (q : FVec Ideal S4x2048x1536 .f32) (v : FVec Ideal S4x2048x320 .f32) : FVec Ideal S8192x6144 .f32 :=
  concatenate S8192x6144 1 [⟨S8192x4096, broadcastInDim S8192x4096 ![] bcast_S_S8192x4096 (constant S_ .f32 0x00000000#32)⟩, ⟨S8192x1024, shapeCast _ (extractStridedSlice S8192x8x128 ![0, 0, 0] (shapeCast _ q shapeCasts_S4x2048x1536_S8192x8x192) slices_S8192x8x192_S8192x8x128_0_0_0) shapeCasts_S8192x8x128_S8192x1024⟩, ⟨S8192x512, shapeCast _ (extractStridedSlice S8192x8x64 ![0, 0, 128] (shapeCast _ q shapeCasts_S4x2048x1536_S8192x8x192) slices_S8192x8x192_S8192x8x64_0_0_128) shapeCasts_S8192x8x64_S8192x512⟩, ⟨S8192x128, broadcastInDim S8192x128 ![] bcast_S_S8192x128 (constant S_ .f32 0x00000000#32)⟩, ⟨S8192x320, shapeCast _ v shapeCasts_S4x2048x320_S8192x320⟩, ⟨S8192x64, broadcastInDim S8192x64 ![] bcast_S_S8192x64 (constant S_ .f32 0x00000000#32)⟩] concatenates_S8192x4096_S8192x1024_S8192x512_S8192x128_S8192x320_S8192x64_S8192x6144_d1

theorem colP_at (q : FVec Ideal S4x2048x1536 .f32) (v : FVec Ideal S4x2048x320 .f32) (n : Fin 8192) (k : Fin 6144) :
    colP q v (ix2 n k) = Layer.seat (fun j => q (ix3 ⟨n.val / 2048, by omega⟩ ⟨n.val % 2048, by omega⟩ j))
      (fun j => v (ix3 ⟨n.val / 2048, by omega⟩ ⟨n.val % 2048, by omega⟩ j)) k := by
  pointwise [colP]
  rfl

/-- The sample's queries and latents in the call's columns. -/
def colS (q : FVec Ideal S128x4x1536 .f32) (v : FVec Ideal S128x4x320 .f32) : FVec Ideal S512x6144 .f32 :=
  concatenate S512x6144 1 [⟨S512x4096, broadcastInDim S512x4096 ![] bcast_S_S512x4096 (constant S_ .f32 0x00000000#32)⟩, ⟨S512x1024, shapeCast _ (extractStridedSlice S512x8x128 ![0, 0, 0] (shapeCast _ q shapeCasts_S128x4x1536_S512x8x192) slices_S512x8x192_S512x8x128_0_0_0) shapeCasts_S512x8x128_S512x1024⟩, ⟨S512x512, shapeCast _ (extractStridedSlice S512x8x64 ![0, 0, 128] (shapeCast _ q shapeCasts_S128x4x1536_S512x8x192) slices_S512x8x192_S512x8x64_0_0_128) shapeCasts_S512x8x64_S512x512⟩, ⟨S512x128, broadcastInDim S512x128 ![] bcast_S_S512x128 (constant S_ .f32 0x00000000#32)⟩, ⟨S512x320, shapeCast _ v shapeCasts_S128x4x320_S512x320⟩, ⟨S512x64, broadcastInDim S512x64 ![] bcast_S_S512x64 (constant S_ .f32 0x00000000#32)⟩] concatenates_S512x4096_S512x1024_S512x512_S512x128_S512x320_S512x64_S512x6144_d1

theorem colS_at (q : FVec Ideal S128x4x1536 .f32) (v : FVec Ideal S128x4x320 .f32) (n : Fin 512) (k : Fin 6144) :
    colS q v (ix2 n k) = Layer.seat (fun j => q (ix3 ⟨n.val / 4, by omega⟩ ⟨n.val % 4, by omega⟩ j))
      (fun j => v (ix3 ⟨n.val / 4, by omega⟩ ⟨n.val % 4, by omega⟩ j)) k := by
  pointwise [colS]
  rfl

/-- Both, one after the other. -/
def projHost (q : FVec Ideal S4x2048x1536 .f32) (v : FVec Ideal S4x2048x320 .f32) (q' : FVec Ideal S128x4x1536 .f32) (v' : FVec Ideal S128x4x320 .f32) : FVec Ideal S8704x6144 .f32 :=
  concatenate S8704x6144 0 [⟨S8192x6144, colP q v⟩, ⟨S512x6144, colS q' v'⟩] concatenates_S8192x6144_S512x6144_S8704x6144_d0

theorem stack_at (p : FVec Ideal S8192x6144 .f32) (s : FVec Ideal S512x6144 .f32) (n : Fin 8704) (k : Fin 6144) :
    concatenate S8704x6144 0 [⟨S8192x6144, p⟩, ⟨S512x6144, s⟩] concatenates_S8192x6144_S512x6144_S8704x6144_d0 (ix2 n k)
      = if h : n.val < 8192 then p (ix2 ⟨n.val, h⟩ k) else s (ix2 ⟨n.val - 8192, by omega⟩ k) := by
  pointwise []

theorem projHost_at (q : FVec Ideal S4x2048x1536 .f32) (v : FVec Ideal S4x2048x320 .f32) (q' : FVec Ideal S128x4x1536 .f32) (v' : FVec Ideal S128x4x320 .f32) (n : Fin 8704) (k : Fin 6144) :
    projHost q v q' v' (ix2 n k) = Layer.seat (Layer.both (fun a b j => q (ix3 a b j)) (fun a b j => q' (ix3 a b j)) n)
      (Layer.both (fun a b j => v (ix3 a b j)) (fun a b j => v' (ix3 a b j)) n) k := by
  refine (stack_at _ _ n k).trans ?_
  by_cases h : n.val < 8192
  · rw [dif_pos h]
    refine (colP_at _ _ _ k).trans ?_
    exact congrArg₂ (fun x y => Layer.seat x y k) (funext fun j => (by unfold Layer.both; rw [dif_pos h])) (funext fun j => (by unfold Layer.both; rw [dif_pos h]))
  · rw [dif_neg h]
    refine (colS_at _ _ _ k).trans ?_
    exact congrArg₂ (fun x y => Layer.seat x y k) (funext fun j => (by unfold Layer.both; rw [dif_neg h])) (funext fun j => (by unfold Layer.both; rw [dif_neg h]))

/-- The positions of the rows. -/
def posHost : IVec S8704 32 :=
  concatenate S8704 0 [⟨S8192, shapeCast _ (broadcastInDim S4x2048 ![0, 1] bcast_S1x2048_S4x2048_0_1 (shapeCast _ (iotaInDim S2048 32 0) shapeCasts_S2048_S1x2048)) shapeCasts_S4x2048_S8192⟩, ⟨S512, shapeCast _ (broadcastInDim S128x4 ![0, 1] bcast_S1x4_S128x4_0_1 (shapeCast _ (addi (broadcastInDim S4 ![] bcast_S_S4 (constantI S_ 32 8192#32)) (iotaInDim S4 32 0)) shapeCasts_S4_S1x4)) shapeCasts_S128x4_S512⟩] concatenates_S8192_S512_S8704_d0

theorem posHost_at (n : Fin 8704) : posHost (ix1 n) = Layer.place n := by
  pointwise [posHost]
  rfl

/-- The angles of the rows. -/
def angHost (p : IVec S8704 32) : FVec Ideal S8704x32 .f32 :=
  mulf (broadcastInDim S8704x32 ![0, 1] bcast_S8704x1_S8704x32_0_1 (broadcastInDim S8704x1 ![0] bcast_S8704_S8704x1_0 (sitofp .f32 p))) (broadcastInDim S8704x32 ![0, 1] bcast_S1x32_S8704x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

theorem angHost_at (n : Fin 8704) (j : Fin 32) : angHost posHost (ix2 n j) = Layer.angle (Layer.place n) j := by
  rw [← posHost_at n]
  generalize posHost = p
  pointwise [angHost]
  rfl

/-- The cosines, four times over. -/
def cosHost (a : FVec Ideal S8704x32 .f32) : FVec Ideal S8704x128 .f32 :=
  concatenate S8704x128 1 [⟨S8704x32, Host.cos a⟩, ⟨S8704x32, Host.cos a⟩, ⟨S8704x32, Host.cos a⟩, ⟨S8704x32, Host.cos a⟩] concatenates_S8704x32_S8704x32_S8704x32_S8704x32_S8704x128_d1

/-- The sines of the lanes that take the later half. -/
def lowHost (a : FVec Ideal S8704x32 .f32) : FVec Ideal S8704x128 .f32 :=
  concatenate S8704x128 1 [⟨S8704x32, Host.negf (Host.sin a)⟩, ⟨S8704x32, broadcastInDim S8704x32 ![] bcast_S_S8704x32 (constant S_ .f32 0x00000000#32)⟩, ⟨S8704x32, Host.negf (Host.sin a)⟩, ⟨S8704x32, broadcastInDim S8704x32 ![] bcast_S_S8704x32 (constant S_ .f32 0x00000000#32)⟩] concatenates_S8704x32_S8704x32_S8704x32_S8704x32_S8704x128_d1

/-- The sines of the lanes that take the earlier half. -/
def highHost (a : FVec Ideal S8704x32 .f32) : FVec Ideal S8704x128 .f32 :=
  concatenate S8704x128 1 [⟨S8704x32, broadcastInDim S8704x32 ![] bcast_S_S8704x32 (constant S_ .f32 0x00000000#32)⟩, ⟨S8704x32, Host.sin a⟩, ⟨S8704x32, broadcastInDim S8704x32 ![] bcast_S_S8704x32 (constant S_ .f32 0x00000000#32)⟩, ⟨S8704x32, Host.sin a⟩] concatenates_S8704x32_S8704x32_S8704x32_S8704x32_S8704x128_d1

theorem cosHost_at (n : Fin 8704) (l : Fin 128) : cosHost (angHost posHost) (ix2 n l) = Layer.four (Layer.cosAt n) l := by
  unfold Layer.cosAt
  rw [show (fun j => Ideal.cos (Layer.angle (Layer.place n) j)) = fun j => Ideal.cos (angHost posHost (ix2 n j)) from funext fun j => congrArg Ideal.cos (angHost_at n j).symm]
  generalize angHost posHost = a
  pointwise [cosHost]
  rfl

theorem lowHost_at (n : Fin 8704) (l : Fin 128) : lowHost (angHost posHost) (ix2 n l) = Layer.low (Layer.sinAt n) l := by
  unfold Layer.sinAt
  rw [show (fun j => Ideal.sin (Layer.angle (Layer.place n) j)) = fun j => Ideal.sin (angHost posHost (ix2 n j)) from funext fun j => congrArg Ideal.sin (angHost_at n j).symm]
  generalize angHost posHost = a
  pointwise [lowHost]
  rfl

theorem highHost_at (n : Fin 8704) (l : Fin 128) : highHost (angHost posHost) (ix2 n l) = Layer.high (Layer.sinAt n) l := by
  unfold Layer.sinAt
  rw [show (fun j => Ideal.sin (Layer.angle (Layer.place n) j)) = fun j => Ideal.sin (angHost posHost (ix2 n j)) from funext fun j => congrArg Ideal.sin (angHost_at n j).symm]
  generalize angHost posHost = a
  pointwise [highHost]
  rfl

/-- The norm's scales, as the call reads them. -/
def scaleHost (g : FVec Ideal S4x256 .f32) : FVec Ideal S1x256 .f32 :=
  broadcastInDim S1x256 ![1] bcast_S256_S1x256_1 (shapeCast _ (extractStridedSlice S1x256 ![0, 0] g slices_S4x256_S1x256_0_0) shapeCasts_S1x256_S256)

theorem scaleHost_at (g : FVec Ideal S4x256 .f32) (i : Fin 1) (j : Fin 256) : scaleHost g (ix2 i j) = g (ix2 0 j) := by
  pointwise [scaleHost]
  all_goals rfl

/-- The heads' maps to the latents, as the call reads them. -/
def mapHost (w : FVec Ideal S4x256x8x128 .f32) : FVec Ideal S8x128x256 .bf16 :=
  shapeCast _ (extractStridedSlice S1x8x128x256 ![0, 0, 0, 0] (truncf .bf16 (transpose S4x8x128x256 [0, 2, 3, 1] w transposes_S4x256x8x128_S4x8x128x256_0_2_3_1) bitsLt_bf16_f32) slices_S4x8x128x256_S1x8x128x256_0_0_0_0) shapeCasts_S1x8x128x256_S8x128x256

theorem mapHost_at (w : FVec Ideal S4x256x8x128 .f32) (h : Fin 8) (d : Fin 128) (j : Fin 256) : mapHost w (ix3 h d j) = w (ix4 0 j h d) := by
  pointwise [mapHost]
  all_goals rfl

theorem V_p (c : Dev nD) : V m c main_v20 = projHost (m ((c : Thread nD τ).loc main_arg0)) (m ((c : Thread nD τ).loc main_arg1)) (m ((c : Thread nD τ).loc main_arg2)) (m ((c : Thread nD τ).loc main_arg3)) := by
  simp only [V, hostOps0]
  after_results_simp
  rfl

theorem V_c (c : Dev nD) : V m c main_v51 = cosHost (angHost posHost) := by
  simp only [V, hostOps0]
  after_results_simp
  rfl

theorem V_l (c : Dev nD) : V m c main_v54 = lowHost (angHost posHost) := by
  simp only [V, hostOps0]
  after_results_simp
  rfl

theorem V_h (c : Dev nD) : V m c main_v55 = highHost (angHost posHost) := by
  simp only [V, hostOps0]
  after_results_simp
  rfl

theorem V_g (c : Dev nD) : V m c main_v60 = scaleHost (m ((c : Thread nD τ).loc main_arg4)) := by
  simp only [V, hostOps0]
  after_results_simp
  rfl

theorem V_w (c : Dev nD) : V m c main_v62 = mapHost (m ((c : Thread nD τ).loc main_arg5)) := by
  simp only [V, hostOps0]
  after_results_simp
  rfl

theorem idx : ∀ t : Fin cfg0.N, win0_0.index t = ![t.val, 4] ∧ win0_1.index t = ![t.val, 10]
    ∧ win0_2.index t = ![t.val, 15] ∧ win0_3.index t = ![t.val, 0] ∧ win0_4.index t = ![t.val, 0] ∧ win0_5.index t = ![t.val, 0]
    ∧ win0_6.index t = ![0, 0] ∧ win0_7.index t = ![0, 0, 0]
    ∧ win0_8.index t = ![t.val, 0] ∧ win0_9.index t = ![t.val, 0] ∧ win0_10.index t = ![t.val, 0] :=
  (by decide +kernel : ∀ t : Fin grid0.N, _)

/-- The queries of row `n`. -/
def qs (c : Dev nD) (n : Fin 8704) : Fin 1536 → EReal :=
  Layer.both (fun a b j => (m ((c : Thread nD τ).loc main_arg0) : FVec Ideal S4x2048x1536 .f32) (ix3 a b j))
    (fun a b j => (m ((c : Thread nD τ).loc main_arg2) : FVec Ideal S128x4x1536 .f32) (ix3 a b j)) n

/-- The latents of row `n`. -/
def vs (c : Dev nD) (n : Fin 8704) : Fin 320 → EReal :=
  Layer.both (fun a b j => (m ((c : Thread nD τ).loc main_arg1) : FVec Ideal S4x2048x320 .f32) (ix3 a b j))
    (fun a b j => (m ((c : Thread nD τ).loc main_arg3) : FVec Ideal S128x4x320 .f32) (ix3 a b j)) n

/-- The norm's scales. -/
def gs (c : Dev nD) (j : Fin 256) : EReal := (m ((c : Thread nD τ).loc main_arg4) : FVec Ideal S4x256 .f32) (ix2 0 j)

/-- The heads' maps to the latents. -/
def ws (c : Dev nD) (h : Fin 8) (d : Fin 128) (j : Fin 256) : EReal := (m ((c : Thread nD τ).loc main_arg5) : FVec Ideal S4x256x8x128 .f32) (ix4 0 j h d)

theorem nope_at (c : Dev nD) (t : Fin cfg0.N) (r : Fin 272) (n : Fin 8704) (hn : n.val = t.val * 272 + r.val) (k : Fin 1024) :
    iblk m c 0 t (ix2 r k) = Layer.seat (qs m c n) (vs m c n) ⟨4096 + k.val, by omega⟩ := by
  refine Eq.trans ?_ (projHost_at (m ((c : Thread nD τ).loc main_arg0)) (m ((c : Thread nD τ).loc main_arg1)) (m ((c : Thread nD τ).loc main_arg2)) (m ((c : Thread nD τ).loc main_arg3)) n ⟨4096 + k.val, by omega⟩)
  blk_simp [iblk, idx t]
  refine (congrFun (V_p m c) _).trans ?_
  blk_ext [idx t]

theorem pe_at (c : Dev nD) (t : Fin cfg0.N) (r : Fin 272) (n : Fin 8704) (hn : n.val = t.val * 272 + r.val) (k : Fin 512) :
    iblk m c 1 t (ix2 r k) = Layer.seat (qs m c n) (vs m c n) ⟨5120 + k.val, by omega⟩ := by
  refine Eq.trans ?_ (projHost_at (m ((c : Thread nD τ).loc main_arg0)) (m ((c : Thread nD τ).loc main_arg1)) (m ((c : Thread nD τ).loc main_arg2)) (m ((c : Thread nD τ).loc main_arg3)) n ⟨5120 + k.val, by omega⟩)
  blk_simp [iblk, idx t]
  refine (congrFun (V_p m c) _).trans ?_
  blk_ext [idx t]

theorem lat_at (c : Dev nD) (t : Fin cfg0.N) (r : Fin 272) (n : Fin 8704) (hn : n.val = t.val * 272 + r.val) (k : Fin 384) :
    iblk m c 2 t (ix2 r k) = Layer.seat (qs m c n) (vs m c n) ⟨5760 + k.val, by omega⟩ := by
  refine Eq.trans ?_ (projHost_at (m ((c : Thread nD τ).loc main_arg0)) (m ((c : Thread nD τ).loc main_arg1)) (m ((c : Thread nD τ).loc main_arg2)) (m ((c : Thread nD τ).loc main_arg3)) n ⟨5760 + k.val, by omega⟩)
  blk_simp [iblk, idx t]
  refine (congrFun (V_p m c) _).trans ?_
  blk_ext [idx t]

theorem cos_at (c : Dev nD) (t : Fin cfg0.N) (r : Fin 272) (n : Fin 8704) (hn : n.val = t.val * 272 + r.val) (l : Fin 128) :
    iblk m c 3 t (ix2 r l) = Layer.four (Layer.cosAt n) l := by
  refine Eq.trans ?_ (cosHost_at n l)
  blk_simp [iblk, idx t]
  refine (congrFun (V_c m c) _).trans ?_
  blk_ext [idx t]

theorem low_at (c : Dev nD) (t : Fin cfg0.N) (r : Fin 272) (n : Fin 8704) (hn : n.val = t.val * 272 + r.val) (l : Fin 128) :
    iblk m c 4 t (ix2 r l) = Layer.low (Layer.sinAt n) l := by
  refine Eq.trans ?_ (lowHost_at n l)
  blk_simp [iblk, idx t]
  refine (congrFun (V_l m c) _).trans ?_
  blk_ext [idx t]

theorem high_at (c : Dev nD) (t : Fin cfg0.N) (r : Fin 272) (n : Fin 8704) (hn : n.val = t.val * 272 + r.val) (l : Fin 128) :
    iblk m c 5 t (ix2 r l) = Layer.high (Layer.sinAt n) l := by
  refine Eq.trans ?_ (highHost_at n l)
  blk_simp [iblk, idx t]
  refine (congrFun (V_h m c) _).trans ?_
  blk_ext [idx t]

theorem scale_at (c : Dev nD) (t : Fin cfg0.N) (j : Fin 256) : iblk m c 6 t (ix2 0 j) = gs m c j := by
  refine Eq.trans ?_ (scaleHost_at _ 0 j)
  blk_simp [iblk, idx t]
  refine (congrFun (V_g m c) _).trans ?_
  blk_ext [idx t]

theorem map_at (c : Dev nD) (t : Fin cfg0.N) (h : Fin 8) (d : Fin 128) (j : Fin 256) : iblk m c 7 t (ix3 h d j) = ws m c h d j := by
  refine Eq.trans ?_ (mapHost_at _ h d j)
  blk_simp [iblk, idx t]
  refine (congrFun (V_w m c) _).trans ?_
  blk_ext [idx t]

end Cert.Kernel4Ideal.Value

end
-- ==== Proof.Prep.Point.lean ====
/- The call before the attention: what its three stores hold at an index. -/
module

public import proofs.«01_k».proof.Proof.Prep.Entry
public import Idealize.ShloMosaic.Lib.Pipeline.ValueKit
public import Idealize.ShloMosaic.Lib.Pointwise

@[expose] public section

set_option maxRecDepth 100000

noncomputable section

namespace Cert.Kernel4Ideal.Value

open Cert.Kernel4Ideal Cert.Kernel4Ideal.Gen Idealize.ShloMosaic Idealize.ShloMosaic.TcCoe Idealize.SL.Sem

variable (m : (ℓ : Loc nD τ sig) → Buf (Elt Ideal) ℓ)

theorem out8 (c : Dev nD) (t : Fin cfg0.N) (r : Fin 272) (n : Fin 8704) (hn : n.val = t.val * 272 + r.val) (k : Fin 384) :
    (outsAt0 m c t).1 (ix2 r k) = Layer.kvRow (vs m c n) (gs m c) (Layer.cosAt n) (Layer.sinAt n) k := by
  have e2 := lat_at m c t r n hn
  have e3 := cos_at m c t r n hn
  have e4 := low_at m c t r n hn
  have e5 := high_at m c t r n hn
  have e6 := scale_at m c t
  clear hn
  unfold outsAt0
  frame_out
  generalize iblk m c 2 t = b2 at e2 ⊢
  generalize iblk m c 3 t = b3 at e3 ⊢
  generalize iblk m c 4 t = b4 at e4 ⊢
  generalize iblk m c 5 t = b5 at e5 ⊢
  generalize iblk m c 6 t = b6 at e6 ⊢
  canon_tiles x h using (View.cover_of_tiledBy _ ![272, 128] (by sl_kernel_rfl) _)
  · obtain ⟨i, l, rfl⟩ : ∃ i l, x = ix2 i l := ⟨x 0, x 1, eq_ix2 x⟩
    obtain rfl : r = i := Fin.ext h0
    replace h1 : k.val = 256 + l.val := h1
    pointwise [k0_pay9, k0_pay5, k0_pay6, k0_pay7]
    rw [e3, e4, e5]
    have hx : ∀ l : Fin 128, b2 (ix2 r ⟨256 + l.val, by omega⟩) = Layer.seat (qs m c n) (vs m c n) ⟨6016 + l.val, by omega⟩ :=
      fun l => (e2 _).trans (congrArg (Layer.seat _ _) (Fin.ext (by show 5760 + (256 + l.val) = 6016 + l.val; omega)))
    refine (Layer.twice_key (qs m c n) (vs m c n) (Layer.cosAt n) (Layer.sinAt n) (fun l => b2 (ix2 r ⟨256 + l.val, by omega⟩)) hx l).trans ?_
    have n256 : ¬ k.val < 256 := by omega
    unfold Layer.kvRow
    rw [dif_neg n256]
    by_cases hl : l.val < 64
    · rw [dif_pos hl, dif_pos (show k.val - 256 < 64 by omega)]
      exact Layer.turn_congr _ _ _ _ _ _ (fun e => rfl) (by show l.val = k.val - 256; omega)
    · rw [dif_neg hl, dif_neg (show ¬ k.val - 256 < 64 by omega)]
  · obtain ⟨i, l, rfl⟩ : ∃ i l, x = ix2 i l := ⟨x 0, x 1, eq_ix2 x⟩
    obtain rfl : r = i := Fin.ext h0
    replace h1 : k.val = l.val := h1
    pointwise [k0_pay8]
    rw [e6]
    simp only [e2]
    unfold Layer.kvRow
    rw [dif_pos (by omega)]
    unfold Layer.unit
    have hv : ∀ (j : Fin 256) (q : Fin 6144), q.val = 5760 + j.val → Layer.seat (qs m c n) (vs m c n) q = vs m c n ⟨j.val, by omega⟩ :=
      fun j q hq => Layer.seat_lat _ _ ⟨j.val, by omega⟩ q hq
    have hk : (⟨k.val, by omega⟩ : Fin 256) = l := Fin.ext h1
    rw [hk]
    refine congrArg₂ (fun a b : EReal => a * b) (congrArg₂ (fun a b : EReal => a * b) (hv l _ rfl) ?_) rfl
    refine congrArg (fun a : EReal => Ideal.rsqrt (Ideal.div a (Ideal.ofBits .f32 0x43800000#32) + Ideal.ofBits .f32 0x358637BD#32)) ?_
    exact Finset.sum_congr rfl fun j _ => congrArg₂ (fun a b : EReal => a * b) (hv j _ rfl) (hv j _ rfl)

theorem out9 (c : Dev nD) (t : Fin cfg0.N) (r : Fin 272) (n : Fin 8704) (hn : n.val = t.val * 272 + r.val) (k : Fin 384) :
    (outsAt0 m c t).2.1 (ix2 r k) = Layer.kbRow (vs m c n) (gs m c) (Layer.cosAt n) (Layer.sinAt n) k := by
  have e2 := lat_at m c t r n hn
  have e3 := cos_at m c t r n hn
  have e4 := low_at m c t r n hn
  have e5 := high_at m c t r n hn
  have e6 := scale_at m c t
  clear hn
  unfold outsAt0
  frame_out
  generalize iblk m c 2 t = b2 at e2 ⊢
  generalize iblk m c 3 t = b3 at e3 ⊢
  generalize iblk m c 4 t = b4 at e4 ⊢
  generalize iblk m c 5 t = b5 at e5 ⊢
  generalize iblk m c 6 t = b6 at e6 ⊢
  canon_tiles x h using (View.cover_of_tiledBy _ ![272, 128] (by sl_kernel_rfl) _)
  · obtain ⟨i, l, rfl⟩ : ∃ i l, x = ix2 i l := ⟨x 0, x 1, eq_ix2 x⟩
    obtain rfl : r = i := Fin.ext h0
    replace h1 : k.val = 256 + l.val := h1
    pointwise [k0_pay11, k0_pay9, k0_pay5, k0_pay6, k0_pay7]
    rw [e3, e3, e4, e4, e5, e5]
    have hx : ∀ l : Fin 128, b2 (ix2 r ⟨256 + l.val, by omega⟩) = Layer.seat (qs m c n) (vs m c n) ⟨6016 + l.val, by omega⟩ :=
      fun l => (e2 _).trans (congrArg (Layer.seat _ _) (Fin.ext (by show 5760 + (256 + l.val) = 6016 + l.val; omega)))
    have hs := Layer.twice_key (qs m c n) (vs m c n) (Layer.cosAt n) (Layer.sinAt n) (fun l => b2 (ix2 r ⟨256 + l.val, by omega⟩)) hx
    refine (congrArg₂ (fun a b : EReal => a + b) (hs l) (hs ⟨(l.val + 128 - 64) % 128, Nat.mod_lt _ (by decide)⟩)).trans ?_
    have n256 : ¬ k.val < 256 := by omega
    unfold Layer.kbRow
    rw [dif_neg n256]
    by_cases hl : l.val < 64
    · rw [dif_pos hl, dif_neg (show ¬ (l.val + 128 - 64) % 128 < 64 by omega), add_zero]
      exact Layer.turn_congr _ _ _ _ _ _ (fun e => rfl) (by show l.val = (k.val - 256) % 64; omega)
    · rw [dif_neg hl, dif_pos (show (l.val + 128 - 64) % 128 < 64 by omega), zero_add]
      exact Layer.turn_congr _ _ _ _ _ _ (fun e => rfl) (by show (l.val + 128 - 64) % 128 = (k.val - 256) % 64; omega)
  · obtain ⟨i, l, rfl⟩ : ∃ i l, x = ix2 i l := ⟨x 0, x 1, eq_ix2 x⟩
    obtain rfl : r = i := Fin.ext h0
    replace h1 : k.val = l.val := h1
    pointwise [k0_pay10, k0_pay8]
    rw [e6]
    simp only [e2]
    unfold Layer.kbRow
    rw [dif_pos (by omega)]
    unfold Layer.unit
    have hv : ∀ (j : Fin 256) (q : Fin 6144), q.val = 5760 + j.val → Layer.seat (qs m c n) (vs m c n) q = vs m c n ⟨j.val, by omega⟩ :=
      fun j q hq => Layer.seat_lat _ _ ⟨j.val, by omega⟩ q hq
    have hk : (⟨k.val, by omega⟩ : Fin 256) = l := Fin.ext h1
    rw [hk]
    refine congrArg₂ (fun a b : EReal => a * b) (congrArg₂ (fun a b : EReal => a * b) (hv l _ rfl) ?_) rfl
    refine congrArg (fun a : EReal => Ideal.rsqrt (Ideal.div a (Ideal.ofBits .f32 0x43800000#32) + Ideal.ofBits .f32 0x358637BD#32)) ?_
    exact Finset.sum_congr rfl fun j _ => congrArg₂ (fun a b : EReal => a * b) (hv j _ rfl) (hv j _ rfl)

theorem out10 (c : Dev nD) (t : Fin cfg0.N) (r : Fin 272) (n : Fin 8704) (hn : n.val = t.val * 272 + r.val) (k : Fin 3072) :
    (outsAt0 m c t).2.2 (ix2 r k) = Layer.qRow (qs m c n) (ws m c) (Layer.cosAt n) (Layer.sinAt n) k := by
  have e0 := nope_at m c t r n hn
  have e1 := pe_at m c t r n hn
  have e3 := cos_at m c t r n hn
  have e4 := low_at m c t r n hn
  have e5 := high_at m c t r n hn
  have e7 := map_at m c t
  clear hn
  unfold outsAt0
  frame_out
  generalize iblk m c 0 t = b0 at e0 ⊢
  generalize iblk m c 1 t = b1 at e1 ⊢
  generalize iblk m c 3 t = b3 at e3 ⊢
  generalize iblk m c 4 t = b4 at e4 ⊢
  generalize iblk m c 5 t = b5 at e5 ⊢
  generalize iblk m c 7 t = b7 at e7 ⊢
  canon_tiles x h using (View.cover_of_tiledBy _ ![272, 128] (by sl_kernel_rfl) _)
  · obtain ⟨i, l, rfl⟩ : ∃ i l, x = ix2 i l := ⟨x 0, x 1, eq_ix2 x⟩
    obtain rfl : r = i := Fin.ext h0
    replace h1 : k.val = 2944 + l.val := h1
    pointwise [k0_pay4, k0_pay28, k0_pay12, k0_pay18, k0_pay5, k0_pay6, k0_pay7]
    rw [e3, e4, e5]
    exact Layer.qRow_odd (qs m c n) (vs m c n) (ws m c) (Layer.cosAt n) (Layer.sinAt n) 3 (by decide) (fun l => b1 (ix2 r ⟨384 + l.val, by omega⟩))
      (fun l => (e1 _).trans (congrArg (Layer.seat _ _) (Fin.ext (by show 5120 + (384 + l.val) = 5120 + 3 * 128 + l.val; omega)))) l k (by omega)
  · obtain ⟨i, l, rfl⟩ : ∃ i l, x = ix2 i l := ⟨x 0, x 1, eq_ix2 x⟩
    obtain rfl : r = i := Fin.ext h0
    replace h1 : k.val = 2688 + l.val := h1
    pointwise [k0_pay3]
    simp only [e7]
    exact Layer.qRow_lat (qs m c n) (vs m c n) (ws m c) (Layer.cosAt n) (Layer.sinAt n) 7 (by decide) (fun d => b0 (ix2 r ⟨896 + d.val, by omega⟩))
      (fun d => (e0 _).trans (congrArg (Layer.seat _ _) (Fin.ext (by show 4096 + (896 + d.val) = 4096 + 7 * 128 + d.val; omega)))) l k (by omega)
  · obtain ⟨i, l, rfl⟩ : ∃ i l, x = ix2 i l := ⟨x 0, x 1, eq_ix2 x⟩
    obtain rfl : r = i := Fin.ext h0
    replace h1 : k.val = 2560 + l.val := h1
    pointwise [k0_pay2, k0_pay28, k0_pay12, k0_pay18, k0_pay5, k0_pay6, k0_pay7]
    rw [e3, e4, e5]
    exact Layer.qRow_even (qs m c n) (vs m c n) (ws m c) (Layer.cosAt n) (Layer.sinAt n) 3 (by decide) (fun l => b1 (ix2 r ⟨384 + l.val, by omega⟩))
      (fun l => (e1 _).trans (congrArg (Layer.seat _ _) (Fin.ext (by show 5120 + (384 + l.val) = 5120 + 3 * 128 + l.val; omega)))) l k (by omega)
  · obtain ⟨i, l, rfl⟩ : ∃ i l, x = ix2 i l := ⟨x 0, x 1, eq_ix2 x⟩
    obtain rfl : r = i := Fin.ext h0
    replace h1 : k.val = 2304 + l.val := h1
    pointwise [k0_pay1, k0_pay29]
    simp only [e7]
    exact Layer.qRow_lat (qs m c n) (vs m c n) (ws m c) (Layer.cosAt n) (Layer.sinAt n) 6 (by decide) (fun d => b0 (ix2 r ⟨768 + d.val, by omega⟩))
      (fun d => (e0 _).trans (congrArg (Layer.seat _ _) (Fin.ext (by show 4096 + (768 + d.val) = 4096 + 6 * 128 + d.val; omega)))) l k (by omega)
  · obtain ⟨i, l, rfl⟩ : ∃ i l, x = ix2 i l := ⟨x 0, x 1, eq_ix2 x⟩
    obtain rfl : r = i := Fin.ext h0
    replace h1 : k.val = 2176 + l.val := h1
    pointwise [k0_pay27, k0_pay23, k0_pay12, k0_pay18, k0_pay5, k0_pay6, k0_pay7]
    rw [e3, e4, e5]
    exact Layer.qRow_odd (qs m c n) (vs m c n) (ws m c) (Layer.cosAt n) (Layer.sinAt n) 2 (by decide) (fun l => b1 (ix2 r ⟨256 + l.val, by omega⟩))
      (fun l => (e1 _).trans (congrArg (Layer.seat _ _) (Fin.ext (by show 5120 + (256 + l.val) = 5120 + 2 * 128 + l.val; omega)))) l k (by omega)
  · obtain ⟨i, l, rfl⟩ : ∃ i l, x = ix2 i l := ⟨x 0, x 1, eq_ix2 x⟩
    obtain rfl : r = i := Fin.ext h0
    replace h1 : k.val = 1920 + l.val := h1
    pointwise [k0_pay26]
    simp only [e7]
    exact Layer.qRow_lat (qs m c n) (vs m c n) (ws m c) (Layer.cosAt n) (Layer.sinAt n) 5 (by decide) (fun d => b0 (ix2 r ⟨640 + d.val, by omega⟩))
      (fun d => (e0 _).trans (congrArg (Layer.seat _ _) (Fin.ext (by show 4096 + (640 + d.val) = 4096 + 5 * 128 + d.val; omega)))) l k (by omega)
  · obtain ⟨i, l, rfl⟩ : ∃ i l, x = ix2 i l := ⟨x 0, x 1, eq_ix2 x⟩
    obtain rfl : r = i := Fin.ext h0
    replace h1 : k.val = 1792 + l.val := h1
    pointwise [k0_pay25, k0_pay23, k0_pay12, k0_pay18, k0_pay5, k0_pay6, k0_pay7]
    rw [e3, e4, e5]
    exact Layer.qRow_even (qs m c n) (vs m c n) (ws m c) (Layer.cosAt n) (Layer.sinAt n) 2 (by decide) (fun l => b1 (ix2 r ⟨256 + l.val, by omega⟩))
      (fun l => (e1 _).trans (congrArg (Layer.seat _ _) (Fin.ext (by show 5120 + (256 + l.val) = 5120 + 2 * 128 + l.val; omega)))) l k (by omega)
  · obtain ⟨i, l, rfl⟩ : ∃ i l, x = ix2 i l := ⟨x 0, x 1, eq_ix2 x⟩
    obtain rfl : r = i := Fin.ext h0
    replace h1 : k.val = 1536 + l.val := h1
    pointwise [k0_pay24]
    simp only [e7]
    exact Layer.qRow_lat (qs m c n) (vs m c n) (ws m c) (Layer.cosAt n) (Layer.sinAt n) 4 (by decide) (fun d => b0 (ix2 r ⟨512 + d.val, by omega⟩))
      (fun d => (e0 _).trans (congrArg (Layer.seat _ _) (Fin.ext (by show 4096 + (512 + d.val) = 4096 + 4 * 128 + d.val; omega)))) l k (by omega)
  · obtain ⟨i, l, rfl⟩ : ∃ i l, x = ix2 i l := ⟨x 0, x 1, eq_ix2 x⟩
    obtain rfl : r = i := Fin.ext h0
    replace h1 : k.val = 1408 + l.val := h1
    pointwise [k0_pay22, k0_pay12, k0_pay18, k0_pay5, k0_pay6, k0_pay7]
    rw [e3, e4, e5]
    exact Layer.qRow_odd (qs m c n) (vs m c n) (ws m c) (Layer.cosAt n) (Layer.sinAt n) 1 (by decide) (fun l => b1 (ix2 r ⟨128 + l.val, by omega⟩))
      (fun l => (e1 _).trans (congrArg (Layer.seat _ _) (Fin.ext (by show 5120 + (128 + l.val) = 5120 + 1 * 128 + l.val; omega)))) l k (by omega)
  · obtain ⟨i, l, rfl⟩ : ∃ i l, x = ix2 i l := ⟨x 0, x 1, eq_ix2 x⟩
    obtain rfl : r = i := Fin.ext h0
    replace h1 : k.val = 1152 + l.val := h1
    pointwise [k0_pay21]
    simp only [e7]
    exact Layer.qRow_lat (qs m c n) (vs m c n) (ws m c) (Layer.cosAt n) (Layer.sinAt n) 3 (by decide) (fun d => b0 (ix2 r ⟨384 + d.val, by omega⟩))
      (fun d => (e0 _).trans (congrArg (Layer.seat _ _) (Fin.ext (by show 4096 + (384 + d.val) = 4096 + 3 * 128 + d.val; omega)))) l k (by omega)
  · obtain ⟨i, l, rfl⟩ : ∃ i l, x = ix2 i l := ⟨x 0, x 1, eq_ix2 x⟩
    obtain rfl : r = i := Fin.ext h0
    replace h1 : k.val = 1024 + l.val := h1
    pointwise [k0_pay20, k0_pay12, k0_pay18, k0_pay5, k0_pay6, k0_pay7]
    rw [e3, e4, e5]
    exact Layer.qRow_even (qs m c n) (vs m c n) (ws m c) (Layer.cosAt n) (Layer.sinAt n) 1 (by decide) (fun l => b1 (ix2 r ⟨128 + l.val, by omega⟩))
      (fun l => (e1 _).trans (congrArg (Layer.seat _ _) (Fin.ext (by show 5120 + (128 + l.val) = 5120 + 1 * 128 + l.val; omega)))) l k (by omega)
  · obtain ⟨i, l, rfl⟩ : ∃ i l, x = ix2 i l := ⟨x 0, x 1, eq_ix2 x⟩
    obtain rfl : r = i := Fin.ext h0
    replace h1 : k.val = 768 + l.val := h1
    pointwise [k0_pay19]
    simp only [e7]
    exact Layer.qRow_lat (qs m c n) (vs m c n) (ws m c) (Layer.cosAt n) (Layer.sinAt n) 2 (by decide) (fun d => b0 (ix2 r ⟨256 + d.val, by omega⟩))
      (fun d => (e0 _).trans (congrArg (Layer.seat _ _) (Fin.ext (by show 4096 + (256 + d.val) = 4096 + 2 * 128 + d.val; omega)))) l k (by omega)
  · obtain ⟨i, l, rfl⟩ : ∃ i l, x = ix2 i l := ⟨x 0, x 1, eq_ix2 x⟩
    obtain rfl : r = i := Fin.ext h0
    replace h1 : k.val = 640 + l.val := h1
    pointwise [k0_pay17, k0_pay12, k0_pay12, k0_pay18, k0_pay5, k0_pay6, k0_pay7]
    rw [e3, e4, e5]
    exact Layer.qRow_odd (qs m c n) (vs m c n) (ws m c) (Layer.cosAt n) (Layer.sinAt n) 0 (by decide) (fun l => b1 (ix2 r ⟨l.val, by omega⟩))
      (fun l => (e1 _).trans (congrArg (Layer.seat _ _) (Fin.ext (by show 5120 + (l.val) = 5120 + 0 * 128 + l.val; omega)))) l k (by omega)
  · obtain ⟨i, l, rfl⟩ : ∃ i l, x = ix2 i l := ⟨x 0, x 1, eq_ix2 x⟩
    obtain rfl : r = i := Fin.ext h0
    replace h1 : k.val = 384 + l.val := h1
    pointwise [k0_pay16, k0_pay15]
    simp only [e7]
    exact Layer.qRow_lat (qs m c n) (vs m c n) (ws m c) (Layer.cosAt n) (Layer.sinAt n) 1 (by decide) (fun d => b0 (ix2 r ⟨128 + d.val, by omega⟩))
      (fun d => (e0 _).trans (congrArg (Layer.seat _ _) (Fin.ext (by show 4096 + (128 + d.val) = 4096 + 1 * 128 + d.val; omega)))) l k (by omega)
  · obtain ⟨i, l, rfl⟩ : ∃ i l, x = ix2 i l := ⟨x 0, x 1, eq_ix2 x⟩
    obtain rfl : r = i := Fin.ext h0
    replace h1 : k.val = 256 + l.val := h1
    pointwise [k0_pay14, k0_pay12, k0_pay18, k0_pay5, k0_pay6, k0_pay7]
    rw [e3, e4, e5]
    exact Layer.qRow_even (qs m c n) (vs m c n) (ws m c) (Layer.cosAt n) (Layer.sinAt n) 0 (by decide) (fun l => b1 (ix2 r ⟨l.val, by omega⟩))
      (fun l => (e1 _).trans (congrArg (Layer.seat _ _) (Fin.ext (by show 5120 + (l.val) = 5120 + 0 * 128 + l.val; omega)))) l k (by omega)
  · obtain ⟨i, l, rfl⟩ : ∃ i l, x = ix2 i l := ⟨x 0, x 1, eq_ix2 x⟩
    obtain rfl : r = i := Fin.ext h0
    replace h1 : k.val = l.val := h1
    pointwise [k0_pay13]
    simp only [e7]
    exact Layer.qRow_lat (qs m c n) (vs m c n) (ws m c) (Layer.cosAt n) (Layer.sinAt n) 0 (by decide) (fun d => b0 (ix2 r ⟨d.val, by omega⟩))
      (fun d => (e0 _).trans (congrArg (Layer.seat _ _) (Fin.ext (by show 4096 + (d.val) = 4096 + 0 * 128 + d.val; omega)))) l k (by omega)

end Cert.Kernel4Ideal.Value

end
-- ==== Proof.Prep.Ref.lean ====
/- What the reference of the attention's inputs computes at an index, for the prompt's rows and for the sample's. -/
module

public import proofs.«01_k».proof.Proof.Gen.Reference4Ideal.Run
public import proofs.«01_k».proof.Proof.Prep.Spec
public import Idealize.ShloMosaic.Lib.Pipeline.ValueKit
public import Idealize.ShloMosaic.Lib.Pointwise

@[expose] public section

set_option maxRecDepth 100000

noncomputable section

namespace Cert.Reference4Ideal.Value

open Cert.Reference4Ideal Cert.Reference4Ideal.Gen Idealize.ShloMosaic Idealize.ShloMosaic.TcCoe Idealize.SL.Sem

variable (m : (ℓ : Loc nD τ sig) → Buf (Elt Ideal) ℓ)

/-- The heads' maps to the latents. -/
def mapW (w : FVec Ideal S4x256x8x128 .f32) : FVec Ideal S256x8x128 .f32 :=
  shapeCast _ (extractStridedSlice S1x256x8x128 ![0, 0, 0, 0] w slices_S4x256x8x128_S1x256x8x128_0_0_0_0) shapeCasts_S1x256x8x128_S256x8x128

theorem mapW_at (w : FVec Ideal S4x256x8x128 .f32) (j : Fin 256) (h : Fin 8) (d : Fin 128) : mapW w (ix3 j h d) = w (ix4 0 j h d) := by
  pointwise [mapW]
  all_goals rfl

/-- The angles of the prompt's positions. -/
def angP (p : IVec S2048 32) : FVec Ideal S2048x32 .f32 :=
  mulf (broadcastInDim S2048x32 ![0, 1] bcast_S2048x1_S2048x32_0_1 (broadcastInDim S2048x1 ![0] bcast_S2048_S2048x1_0 (sitofp .f32 p))) (broadcastInDim S2048x32 ![0, 1] bcast_S1x32_S2048x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

theorem angP_at (p : IVec S2048 32) (s : Fin 2048) (j : Fin 32) : angP p (ix2 s j) = Layer.angle (p (ix1 s)) j := by
  pointwise [angP]
  rfl

/-- The prompt's queries by head. -/
def headP (q : FVec Ideal S4x2048x1536 .f32) : FVec Ideal S4x2048x8x192 .f32 := shapeCast _ q shapeCasts_S4x2048x1536_S4x2048x8x192

theorem headP_at (q : FVec Ideal S4x2048x1536 .f32) (b : Fin 4) (s : Fin 2048) (h : Fin 8) (l : Fin 192) :
    headP q (ix4 b s h l) = q (ix3 b s ⟨h.val * 192 + l.val, by omega⟩) := by
  pointwise [headP]

/-- The last 64 lanes of the prompt's heads, turned. -/
def turnQP (a : FVec Ideal S2048x32 .f32) (q : FVec Ideal S4x2048x8x192 .f32) : FVec Ideal S4x2048x8x64 .f32 :=
  concatenate S4x2048x8x64 3 [⟨S4x2048x8x32, (subf (mulf (extractStridedSlice S4x2048x8x32 ![0, 0, 0, 0] (extractStridedSlice S4x2048x8x64 ![0, 0, 0, 128] q slices_S4x2048x8x192_S4x2048x8x64_0_0_0_128) slices_S4x2048x8x64_S4x2048x8x32_0_0_0_0) (broadcastInDim S4x2048x8x32 ![0, 1, 2, 3] bcast_S1x2048x1x32_S4x2048x8x32_0_1_2_3 (shapeCast _ (Host.cos a) shapeCasts_S2048x32_S1x2048x1x32))) (mulf (extractStridedSlice S4x2048x8x32 ![0, 0, 0, 32] (extractStridedSlice S4x2048x8x64 ![0, 0, 0, 128] q slices_S4x2048x8x192_S4x2048x8x64_0_0_0_128) slices_S4x2048x8x64_S4x2048x8x32_0_0_0_32) (broadcastInDim S4x2048x8x32 ![0, 1, 2, 3] bcast_S1x2048x1x32_S4x2048x8x32_0_1_2_3 (shapeCast _ (Host.sin a) shapeCasts_S2048x32_S1x2048x1x32))))⟩, ⟨S4x2048x8x32, (addf (mulf (extractStridedSlice S4x2048x8x32 ![0, 0, 0, 32] (extractStridedSlice S4x2048x8x64 ![0, 0, 0, 128] q slices_S4x2048x8x192_S4x2048x8x64_0_0_0_128) slices_S4x2048x8x64_S4x2048x8x32_0_0_0_32) (broadcastInDim S4x2048x8x32 ![0, 1, 2, 3] bcast_S1x2048x1x32_S4x2048x8x32_0_1_2_3 (shapeCast _ (Host.cos a) shapeCasts_S2048x32_S1x2048x1x32))) (mulf (extractStridedSlice S4x2048x8x32 ![0, 0, 0, 0] (extractStridedSlice S4x2048x8x64 ![0, 0, 0, 128] q slices_S4x2048x8x192_S4x2048x8x64_0_0_0_128) slices_S4x2048x8x64_S4x2048x8x32_0_0_0_0) (broadcastInDim S4x2048x8x32 ![0, 1, 2, 3] bcast_S1x2048x1x32_S4x2048x8x32_0_1_2_3 (shapeCast _ (Host.sin a) shapeCasts_S2048x32_S1x2048x1x32))))⟩] concatenates_S4x2048x8x32_S4x2048x8x32_S4x2048x8x64_d3

theorem turnQP_at (a : FVec Ideal S2048x32 .f32) (q : FVec Ideal S4x2048x8x192 .f32) (b : Fin 4) (s : Fin 2048) (h : Fin 8) (l : Fin 64) :
    turnQP a q (ix4 b s h l) = Layer.turn (fun j => Ideal.cos (a (ix2 s j))) (fun j => Ideal.sin (a (ix2 s j))) (fun e => q (ix4 b s h ⟨128 + e.val, by omega⟩)) l := by
  pointwise [turnQP]
  unfold Layer.turn
  have hx : ∀ i j : Fin 192, i.val = j.val → q (ix4 b s h i) = q (ix4 b s h j) := fun i j e => by rw [Fin.ext e]
  by_cases h32 : l.val < 32
  · rw [dif_pos h32, dif_pos h32]
    exact congrArg₂ (fun x y : EReal => x - y) rfl (congrArg (fun x : EReal => x * _) (hx _ _ (by show 128 + (32 + l.val) = 128 + (l.val + 32); omega)))
  · rw [dif_neg h32, dif_neg h32]
    exact congrArg₂ (fun x y : EReal => x + y) (congrArg (fun x : EReal => x * _) (hx _ _ (by show 128 + (32 + (l.val - 32)) = 128 + l.val; omega))) rfl

/-- The last 64 of the prompt's latents, turned. -/
def turnKP (a : FVec Ideal S2048x32 .f32) (v : FVec Ideal S4x2048x320 .f32) : FVec Ideal S4x2048x64 .f32 :=
  concatenate S4x2048x64 2 [⟨S4x2048x32, (subf (mulf (extractStridedSlice S4x2048x32 ![0, 0, 0] (extractStridedSlice S4x2048x64 ![0, 0, 256] v slices_S4x2048x320_S4x2048x64_0_0_256) slices_S4x2048x64_S4x2048x32_0_0_0) (broadcastInDim S4x2048x32 ![0, 1, 2] bcast_S1x2048x32_S4x2048x32_0_1_2 (shapeCast _ (Host.cos a) shapeCasts_S2048x32_S1x2048x32))) (mulf (extractStridedSlice S4x2048x32 ![0, 0, 32] (extractStridedSlice S4x2048x64 ![0, 0, 256] v slices_S4x2048x320_S4x2048x64_0_0_256) slices_S4x2048x64_S4x2048x32_0_0_32) (broadcastInDim S4x2048x32 ![0, 1, 2] bcast_S1x2048x32_S4x2048x32_0_1_2 (shapeCast _ (Host.sin a) shapeCasts_S2048x32_S1x2048x32))))⟩, ⟨S4x2048x32, (addf (mulf (extractStridedSlice S4x2048x32 ![0, 0, 32] (extractStridedSlice S4x2048x64 ![0, 0, 256] v slices_S4x2048x320_S4x2048x64_0_0_256) slices_S4x2048x64_S4x2048x32_0_0_32) (broadcastInDim S4x2048x32 ![0, 1, 2] bcast_S1x2048x32_S4x2048x32_0_1_2 (shapeCast _ (Host.cos a) shapeCasts_S2048x32_S1x2048x32))) (mulf (extractStridedSlice S4x2048x32 ![0, 0, 0] (extractStridedSlice S4x2048x64 ![0, 0, 256] v slices_S4x2048x320_S4x2048x64_0_0_256) slices_S4x2048x64_S4x2048x32_0_0_0) (broadcastInDim S4x2048x32 ![0, 1, 2] bcast_S1x2048x32_S4x2048x32_0_1_2 (shapeCast _ (Host.sin a) shapeCasts_S2048x32_S1x2048x32))))⟩] concatenates_S4x2048x32_S4x2048x32_S4x2048x64_d2

theorem turnKP_at (a : FVec Ideal S2048x32 .f32) (v : FVec Ideal S4x2048x320 .f32) (b : Fin 4) (s : Fin 2048) (l : Fin 64) :
    turnKP a v (ix3 b s l) = Layer.turn (fun j => Ideal.cos (a (ix2 s j))) (fun j => Ideal.sin (a (ix2 s j))) (fun e => v (ix3 b s ⟨256 + e.val, by omega⟩)) l := by
  pointwise [turnKP]
  unfold Layer.turn
  have hx : ∀ i j : Fin 320, i.val = j.val → v (ix3 b s i) = v (ix3 b s j) := fun i j e => by rw [Fin.ext e]
  by_cases h32 : l.val < 32
  · rw [dif_pos h32, dif_pos h32]
    exact congrArg₂ (fun x y : EReal => x - y) rfl (congrArg (fun x : EReal => x * _) (hx _ _ (by show 256 + (32 + l.val) = 256 + (l.val + 32); omega)))
  · rw [dif_neg h32, dif_neg h32]
    exact congrArg₂ (fun x y : EReal => x + y) (congrArg (fun x : EReal => x * _) (hx _ _ (by show 256 + (32 + (l.val - 32)) = 256 + l.val; omega))) rfl

/-- The first 256 of the prompt's latents, normalised. -/
def unitP (v : FVec Ideal S4x2048x320 .f32) (g : FVec Ideal S4x256 .f32) : FVec Ideal S4x2048x256 .f32 :=
  mulf (mulf (extractStridedSlice S4x2048x256 ![0, 0, 0] v slices_S4x2048x320_S4x2048x256_0_0_0) (broadcastInDim S4x2048x256 ![0, 1, 2] bcast_S4x2048x1_S4x2048x256_0_1_2 (Host.rsqrt (addf (Host.divf (broadcastInDim S4x2048x1 ![0, 1] bcast_S4x2048_S4x2048x1_0_1 (Host.reduceAdd (mulf (extractStridedSlice S4x2048x256 ![0, 0, 0] v slices_S4x2048x320_S4x2048x256_0_0_0) (extractStridedSlice S4x2048x256 ![0, 0, 0] v slices_S4x2048x320_S4x2048x256_0_0_0)) (constant S_ .f32 0x00000000#32) reducesTo_S4x2048x256_S4x2048_d2 h_S_)) (broadcastInDim S4x2048x1 ![] bcast_S_S4x2048x1 (constant S_ .f32 0x43800000#32))) (broadcastInDim S4x2048x1 ![] bcast_S_S4x2048x1 (constant S_ .f32 0x358637BD#32)))))) (broadcastInDim S4x2048x256 ![0, 1, 2] bcast_S1x1x256_S4x2048x256_0_1_2 (broadcastInDim S1x1x256 ![2] bcast_S256_S1x1x256_2 (shapeCast _ (extractStridedSlice S1x256 ![0, 0] g slices_S4x256_S1x256_0_0) shapeCasts_S1x256_S256)))

theorem unitP_at (v : FVec Ideal S4x2048x320 .f32) (g : FVec Ideal S4x256 .f32) (b : Fin 4) (s : Fin 2048) (k : Fin 256) :
    unitP v g (ix3 b s k) = Layer.unit (fun j => v (ix3 b s ⟨j.val, by omega⟩)) (fun j => g (ix2 0 j)) k := by
  pointwise [unitP]
  rfl

/-- The prompt's queries against the latents. -/
def latQP (w : FVec Ideal S256x8x128 .f32) (q : FVec Ideal S4x2048x8x192 .f32) : FVec Ideal S4x2048x8x256 .f32 :=
  transpose S4x2048x8x256 [2, 3, 0, 1] (Host.dotGeneral dot_S256x8x128_S4x2048x8x128_S8x256x4x2048_2_3_0_01_1_2 none w (extractStridedSlice S4x2048x8x128 ![0, 0, 0, 0] q slices_S4x2048x8x192_S4x2048x8x128_0_0_0_0)) transposes_S8x256x4x2048_S4x2048x8x256_2_3_0_1

theorem latQP_at (w : FVec Ideal S256x8x128 .f32) (q : FVec Ideal S4x2048x8x192 .f32) (b : Fin 4) (s : Fin 2048) (h : Fin 8) (j : Fin 256) :
    latQP w q (ix4 b s h j) = ∑ d : Fin 128, w (ix3 j h d) * q (ix4 b s h ⟨d.val, by omega⟩) := by
  pointwise [latQP]

/-- The prompt's latents and keys, side by side. -/
def sideP (u : FVec Ideal S4x2048x256 .f32) (k z : FVec Ideal S4x2048x64 .f32) : FVec Ideal S8192x384 .f32 :=
  shapeCast _ (concatenate S4x2048x384 2 [⟨S4x2048x256, u⟩, ⟨S4x2048x64, k⟩, ⟨S4x2048x64, z⟩] concatenates_S4x2048x256_S4x2048x64_S4x2048x64_S4x2048x384_d2) shapeCasts_S4x2048x384_S8192x384

theorem sideP_at (u : FVec Ideal S4x2048x256 .f32) (k z : FVec Ideal S4x2048x64 .f32) (n : Fin 8192) (j : Fin 384) :
    sideP u k z (ix2 n j) = if h : j.val < 256 then u (ix3 ⟨n.val / 2048, by omega⟩ ⟨n.val % 2048, by omega⟩ ⟨j.val, h⟩)
      else if h : j.val - 256 < 64 then k (ix3 ⟨n.val / 2048, by omega⟩ ⟨n.val % 2048, by omega⟩ ⟨j.val - 256, h⟩)
      else z (ix3 ⟨n.val / 2048, by omega⟩ ⟨n.val % 2048, by omega⟩ ⟨j.val - 256 - 64, by omega⟩) := by
  pointwise [sideP]
  all_goals rfl

/-- The prompt's heads: the latent part, then the turned part in the lanes of the head's parity. -/
def mixP (u : FVec Ideal S4x2048x8x256 .f32) (k z : FVec Ideal S4x2048x8x64 .f32) : FVec Ideal S8192x3072 .f32 :=
  shapeCast _ (concatenate S4x2048x8x384 3 [⟨S4x2048x8x256, u⟩, ⟨S4x2048x8x64, select (cmpi .eq (andi (iotaInDim S4x2048x8x64 32 2) (broadcastInDim S4x2048x8x64 ![] bcast_S_S4x2048x8x64 (constantI S_ 32 1#32))) (broadcastInDim S4x2048x8x64 ![] bcast_S_S4x2048x8x64 (constantI S_ 32 0#32))) k z⟩, ⟨S4x2048x8x64, select (cmpi .eq (andi (iotaInDim S4x2048x8x64 32 2) (broadcastInDim S4x2048x8x64 ![] bcast_S_S4x2048x8x64 (constantI S_ 32 1#32))) (broadcastInDim S4x2048x8x64 ![] bcast_S_S4x2048x8x64 (constantI S_ 32 0#32))) z k⟩] concatenates_S4x2048x8x256_S4x2048x8x64_S4x2048x8x64_S4x2048x8x384_d3) shapeCasts_S4x2048x8x384_S8192x3072

theorem mixP_at (u : FVec Ideal S4x2048x8x256 .f32) (k z : FVec Ideal S4x2048x8x64 .f32) (n : Fin 8192) (j : Fin 3072) :
    mixP u k z (ix2 n j) = if h : j.val % 384 < 256 then u (ix4 ⟨n.val / 2048, by omega⟩ ⟨n.val % 2048, by omega⟩ ⟨j.val / 384, by omega⟩ ⟨j.val % 384, h⟩)
      else if h : j.val % 384 - 256 < 64 then
        Scalar.select (IntOp.cmpi .eq (IntOp.andi (BitVec.ofNat 32 (j.val / 384)) 1#32) 0#32) (k (ix4 ⟨n.val / 2048, by omega⟩ ⟨n.val % 2048, by omega⟩ ⟨j.val / 384, by omega⟩ ⟨j.val % 384 - 256, h⟩)) (z (ix4 ⟨n.val / 2048, by omega⟩ ⟨n.val % 2048, by omega⟩ ⟨j.val / 384, by omega⟩ ⟨j.val % 384 - 256, h⟩))
      else Scalar.select (IntOp.cmpi .eq (IntOp.andi (BitVec.ofNat 32 (j.val / 384)) 1#32) 0#32) (z (ix4 ⟨n.val / 2048, by omega⟩ ⟨n.val % 2048, by omega⟩ ⟨j.val / 384, by omega⟩ ⟨j.val % 384 - 256 - 64, by omega⟩)) (k (ix4 ⟨n.val / 2048, by omega⟩ ⟨n.val % 2048, by omega⟩ ⟨j.val / 384, by omega⟩ ⟨j.val % 384 - 256 - 64, by omega⟩)) := by
  pointwise [mixP]
  all_goals rfl

/-- The prompt's zeros. -/
def zeroP : FVec Ideal S4x2048x64 .f32 := broadcastInDim S4x2048x64 ![] bcast_S_S4x2048x64 (constant S_ .f32 0x00000000#32)

theorem zeroP_at (b : Fin 4) (s : Fin 2048) (l : Fin 64) : zeroP (ix3 b s l) = (0 : EReal) := by
  pointwise [zeroP]

/-- The prompt's zeros, by head. -/
def zeroQP : FVec Ideal S4x2048x8x64 .f32 := broadcastInDim S4x2048x8x64 ![] bcast_S_S4x2048x8x64 (id (constant S_ .f32 0x00000000#32))

theorem zeroQP_at (b : Fin 4) (s : Fin 2048) (h : Fin 8) (l : Fin 64) : zeroQP (ix4 b s h l) = (0 : EReal) := by
  show broadcastInDim S4x2048x8x64 ![] bcast_S_S4x2048x8x64 (constant (F := Ideal) S_ .f32 0x00000000#32) (ix4 b s h l) = (0 : EReal)
  pointwise []

theorem kvP_at (v : FVec Ideal S4x2048x320 .f32) (g : FVec Ideal S4x256 .f32) (p : IVec S2048 32) (n : Fin 8192) (k : Fin 384) :
    sideP (unitP v g) (turnKP (angP p) v) zeroP (ix2 n k)
      = Layer.kvRow (fun j => v (ix3 ⟨n.val / 2048, by omega⟩ ⟨n.val % 2048, by omega⟩ j)) (fun j => g (ix2 0 j))
        (fun j => Ideal.cos (Layer.angle (p (ix1 ⟨n.val % 2048, by omega⟩)) j)) (fun j => Ideal.sin (Layer.angle (p (ix1 ⟨n.val % 2048, by omega⟩)) j)) k := by
  refine (sideP_at _ _ _ n k).trans ?_
  unfold Layer.kvRow
  by_cases h1 : k.val < 256
  · rw [dif_pos h1, dif_pos h1]
    exact unitP_at v g _ _ _
  · rw [dif_neg h1, dif_neg h1]
    by_cases h2 : k.val - 256 < 64
    · rw [dif_pos h2, dif_pos h2]
      refine (turnKP_at _ v _ _ _).trans ?_
      exact congrArg₂ (fun a b => Layer.turn a b _ _) (funext fun j => congrArg Ideal.cos (angP_at p _ j)) (funext fun j => congrArg Ideal.sin (angP_at p _ j))
    · rw [dif_neg h2, dif_neg h2]
      exact zeroP_at _ _ _

theorem kbP_at (v : FVec Ideal S4x2048x320 .f32) (g : FVec Ideal S4x256 .f32) (p : IVec S2048 32) (n : Fin 8192) (k : Fin 384) :
    sideP (unitP v g) (turnKP (angP p) v) (turnKP (angP p) v) (ix2 n k)
      = Layer.kbRow (fun j => v (ix3 ⟨n.val / 2048, by omega⟩ ⟨n.val % 2048, by omega⟩ j)) (fun j => g (ix2 0 j))
        (fun j => Ideal.cos (Layer.angle (p (ix1 ⟨n.val % 2048, by omega⟩)) j)) (fun j => Ideal.sin (Layer.angle (p (ix1 ⟨n.val % 2048, by omega⟩)) j)) k := by
  have ht : ∀ (i : Fin 4) (s : Fin 2048) (l : Fin 64), turnKP (angP p) v (ix3 i s l)
      = Layer.turn (fun j => Ideal.cos (Layer.angle (p (ix1 s)) j)) (fun j => Ideal.sin (Layer.angle (p (ix1 s)) j)) (fun e => v (ix3 i s ⟨256 + e.val, by omega⟩)) l := fun i s l => by
    refine (turnKP_at _ v _ _ _).trans ?_
    exact congrArg₂ (fun a b => Layer.turn a b _ _) (funext fun j => congrArg Ideal.cos (angP_at p _ j)) (funext fun j => congrArg Ideal.sin (angP_at p _ j))
  refine (sideP_at _ _ _ n k).trans ?_
  unfold Layer.kbRow
  by_cases h1 : k.val < 256
  · rw [dif_pos h1, dif_pos h1]
    exact unitP_at v g _ _ _
  · rw [dif_neg h1, dif_neg h1]
    by_cases h2 : k.val - 256 < 64
    · rw [dif_pos h2]
      exact (ht _ _ _).trans (Layer.turn_congr _ _ _ _ _ _ (fun e => rfl) (by show k.val - 256 = (k.val - 256) % 64; omega))
    · rw [dif_neg h2]
      exact (ht _ _ _).trans (Layer.turn_congr _ _ _ _ _ _ (fun e => rfl) (by show k.val - 256 - 64 = (k.val - 256) % 64; omega))

theorem qP_at (q : FVec Ideal S4x2048x1536 .f32) (w : FVec Ideal S4x256x8x128 .f32) (p : IVec S2048 32) (n : Fin 8192) (k : Fin 3072) :
    mixP (latQP (mapW w) (headP q)) (turnQP (angP p) (headP q)) zeroQP (ix2 n k)
      = Layer.qRow (fun j => q (ix3 ⟨n.val / 2048, by omega⟩ ⟨n.val % 2048, by omega⟩ j)) (fun h d j => w (ix4 0 j h d))
        (fun j => Ideal.cos (Layer.angle (p (ix1 ⟨n.val % 2048, by omega⟩)) j)) (fun j => Ideal.sin (Layer.angle (p (ix1 ⟨n.val % 2048, by omega⟩)) j)) k := by
  have ht : ∀ (i : Fin 4) (s : Fin 2048) (h : Fin 8) (l : Fin 64), turnQP (angP p) (headP q) (ix4 i s h l)
      = Layer.turn (fun j => Ideal.cos (Layer.angle (p (ix1 s)) j)) (fun j => Ideal.sin (Layer.angle (p (ix1 s)) j)) (fun e => q (ix3 i s ⟨h.val * 192 + (128 + e.val), by omega⟩)) l := fun i s h l => by
    refine (turnQP_at _ _ _ _ _ _).trans ?_
    refine (congrArg₂ (fun a b => Layer.turn a b _ _) (funext fun j => congrArg Ideal.cos (angP_at p _ j)) (funext fun j => congrArg Ideal.sin (angP_at p _ j))).trans ?_
    exact Layer.turn_congr _ _ _ _ _ _ (fun e => headP_at q _ _ _ _) rfl
  refine (mixP_at _ _ _ n k).trans ?_
  unfold Layer.qRow
  by_cases h1 : k.val % 384 < 256
  · rw [dif_pos h1, dif_pos h1]
    refine (latQP_at _ _ _ _ _ _).trans (Finset.sum_congr rfl fun d _ => ?_)
    refine (mul_comm _ _).trans (congrArg₂ (fun a b : EReal => a * b) (headP_at q _ _ _ _) (mapW_at w _ _ _))
  · rw [dif_neg h1, dif_neg h1]
    have hp := Layer.parity ⟨k.val / 384, by omega⟩
    by_cases h2 : k.val % 384 - 256 < 64
    · rw [dif_pos h2]
      refine (hp _ _).trans ?_
      by_cases h3 : k.val / 384 % 2 = 0
      · rw [if_pos h3, if_pos (by omega)]
        exact (ht _ _ _ _).trans (Layer.turn_congr _ _ _ _ _ _ (fun e => rfl) (by show k.val % 384 - 256 = (k.val % 384 - 256) % 64; omega))
      · rw [if_neg h3, if_neg (by omega)]
        exact zeroQP_at _ _ _ _
    · rw [dif_neg h2]
      refine (hp _ _).trans ?_
      by_cases h3 : k.val / 384 % 2 = 0
      · rw [if_pos h3, if_neg (by omega)]
        exact zeroQP_at _ _ _ _
      · rw [if_neg h3, if_pos (by omega)]
        exact (ht _ _ _ _).trans (Layer.turn_congr _ _ _ _ _ _ (fun e => rfl) (by show k.val % 384 - 256 - 64 = (k.val % 384 - 256) % 64; omega))

/-- The angles of the sample's positions. -/
def angS (p : IVec S4 32) : FVec Ideal S4x32 .f32 :=
  mulf (broadcastInDim S4x32 ![0, 1] bcast_S4x1_S4x32_0_1 (broadcastInDim S4x1 ![0] bcast_S4_S4x1_0 (sitofp .f32 p))) (broadcastInDim S4x32 ![0, 1] bcast_S1x32_S4x32_0_1 (broadcastInDim S1x32 ![1] bcast_S32_S1x32_1 (Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))

theorem angS_at (p : IVec S4 32) (s : Fin 4) (j : Fin 32) : angS p (ix2 s j) = Layer.angle (p (ix1 s)) j := by
  pointwise [angS]
  rfl

/-- The sample's queries by head. -/
def headS (q : FVec Ideal S128x4x1536 .f32) : FVec Ideal S128x4x8x192 .f32 := shapeCast _ q shapeCasts_S128x4x1536_S128x4x8x192

theorem headS_at (q : FVec Ideal S128x4x1536 .f32) (b : Fin 128) (s : Fin 4) (h : Fin 8) (l : Fin 192) :
    headS q (ix4 b s h l) = q (ix3 b s ⟨h.val * 192 + l.val, by omega⟩) := by
  pointwise [headS]

/-- The last 64 lanes of the sample's heads, turned. -/
def turnQS (a : FVec Ideal S4x32 .f32) (q : FVec Ideal S128x4x8x192 .f32) : FVec Ideal S128x4x8x64 .f32 :=
  concatenate S128x4x8x64 3 [⟨S128x4x8x32, (subf (mulf (extractStridedSlice S128x4x8x32 ![0, 0, 0, 0] (extractStridedSlice S128x4x8x64 ![0, 0, 0, 128] q slices_S128x4x8x192_S128x4x8x64_0_0_0_128) slices_S128x4x8x64_S128x4x8x32_0_0_0_0) (broadcastInDim S128x4x8x32 ![0, 1, 2, 3] bcast_S1x4x1x32_S128x4x8x32_0_1_2_3 (shapeCast _ (Host.cos a) shapeCasts_S4x32_S1x4x1x32))) (mulf (extractStridedSlice S128x4x8x32 ![0, 0, 0, 32] (extractStridedSlice S128x4x8x64 ![0, 0, 0, 128] q slices_S128x4x8x192_S128x4x8x64_0_0_0_128) slices_S128x4x8x64_S128x4x8x32_0_0_0_32) (broadcastInDim S128x4x8x32 ![0, 1, 2, 3] bcast_S1x4x1x32_S128x4x8x32_0_1_2_3 (shapeCast _ (Host.sin a) shapeCasts_S4x32_S1x4x1x32))))⟩, ⟨S128x4x8x32, (addf (mulf (extractStridedSlice S128x4x8x32 ![0, 0, 0, 32] (extractStridedSlice S128x4x8x64 ![0, 0, 0, 128] q slices_S128x4x8x192_S128x4x8x64_0_0_0_128) slices_S128x4x8x64_S128x4x8x32_0_0_0_32) (broadcastInDim S128x4x8x32 ![0, 1, 2, 3] bcast_S1x4x1x32_S128x4x8x32_0_1_2_3 (shapeCast _ (Host.cos a) shapeCasts_S4x32_S1x4x1x32))) (mulf (extractStridedSlice S128x4x8x32 ![0, 0, 0, 0] (extractStridedSlice S128x4x8x64 ![0, 0, 0, 128] q slices_S128x4x8x192_S128x4x8x64_0_0_0_128) slices_S128x4x8x64_S128x4x8x32_0_0_0_0) (broadcastInDim S128x4x8x32 ![0, 1, 2, 3] bcast_S1x4x1x32_S128x4x8x32_0_1_2_3 (shapeCast _ (Host.sin a) shapeCasts_S4x32_S1x4x1x32))))⟩] concatenates_S128x4x8x32_S128x4x8x32_S128x4x8x64_d3

theorem turnQS_at (a : FVec Ideal S4x32 .f32) (q : FVec Ideal S128x4x8x192 .f32) (b : Fin 128) (s : Fin 4) (h : Fin 8) (l : Fin 64) :
    turnQS a q (ix4 b s h l) = Layer.turn (fun j => Ideal.cos (a (ix2 s j))) (fun j => Ideal.sin (a (ix2 s j))) (fun e => q (ix4 b s h ⟨128 + e.val, by omega⟩)) l := by
  pointwise [turnQS]
  unfold Layer.turn
  have hx : ∀ i j : Fin 192, i.val = j.val → q (ix4 b s h i) = q (ix4 b s h j) := fun i j e => by rw [Fin.ext e]
  by_cases h32 : l.val < 32
  · rw [dif_pos h32, dif_pos h32]
    exact congrArg₂ (fun x y : EReal => x - y) rfl (congrArg (fun x : EReal => x * _) (hx _ _ (by show 128 + (32 + l.val) = 128 + (l.val + 32); omega)))
  · rw [dif_neg h32, dif_neg h32]
    exact congrArg₂ (fun x y : EReal => x + y) (congrArg (fun x : EReal => x * _) (hx _ _ (by show 128 + (32 + (l.val - 32)) = 128 + l.val; omega))) rfl

/-- The last 64 of the sample's latents, turned. -/
def turnKS (a : FVec Ideal S4x32 .f32) (v : FVec Ideal S128x4x320 .f32) : FVec Ideal S128x4x64 .f32 :=
  concatenate S128x4x64 2 [⟨S128x4x32, (subf (mulf (extractStridedSlice S128x4x32 ![0, 0, 0] (extractStridedSlice S128x4x64 ![0, 0, 256] v slices_S128x4x320_S128x4x64_0_0_256) slices_S128x4x64_S128x4x32_0_0_0) (broadcastInDim S128x4x32 ![0, 1, 2] bcast_S1x4x32_S128x4x32_0_1_2 (shapeCast _ (Host.cos a) shapeCasts_S4x32_S1x4x32))) (mulf (extractStridedSlice S128x4x32 ![0, 0, 32] (extractStridedSlice S128x4x64 ![0, 0, 256] v slices_S128x4x320_S128x4x64_0_0_256) slices_S128x4x64_S128x4x32_0_0_32) (broadcastInDim S128x4x32 ![0, 1, 2] bcast_S1x4x32_S128x4x32_0_1_2 (shapeCast _ (Host.sin a) shapeCasts_S4x32_S1x4x32))))⟩, ⟨S128x4x32, (addf (mulf (extractStridedSlice S128x4x32 ![0, 0, 32] (extractStridedSlice S128x4x64 ![0, 0, 256] v slices_S128x4x320_S128x4x64_0_0_256) slices_S128x4x64_S128x4x32_0_0_32) (broadcastInDim S128x4x32 ![0, 1, 2] bcast_S1x4x32_S128x4x32_0_1_2 (shapeCast _ (Host.cos a) shapeCasts_S4x32_S1x4x32))) (mulf (extractStridedSlice S128x4x32 ![0, 0, 0] (extractStridedSlice S128x4x64 ![0, 0, 256] v slices_S128x4x320_S128x4x64_0_0_256) slices_S128x4x64_S128x4x32_0_0_0) (broadcastInDim S128x4x32 ![0, 1, 2] bcast_S1x4x32_S128x4x32_0_1_2 (shapeCast _ (Host.sin a) shapeCasts_S4x32_S1x4x32))))⟩] concatenates_S128x4x32_S128x4x32_S128x4x64_d2

theorem turnKS_at (a : FVec Ideal S4x32 .f32) (v : FVec Ideal S128x4x320 .f32) (b : Fin 128) (s : Fin 4) (l : Fin 64) :
    turnKS a v (ix3 b s l) = Layer.turn (fun j => Ideal.cos (a (ix2 s j))) (fun j => Ideal.sin (a (ix2 s j))) (fun e => v (ix3 b s ⟨256 + e.val, by omega⟩)) l := by
  pointwise [turnKS]
  unfold Layer.turn
  have hx : ∀ i j : Fin 320, i.val = j.val → v (ix3 b s i) = v (ix3 b s j) := fun i j e => by rw [Fin.ext e]
  by_cases h32 : l.val < 32
  · rw [dif_pos h32, dif_pos h32]
    exact congrArg₂ (fun x y : EReal => x - y) rfl (congrArg (fun x : EReal => x * _) (hx _ _ (by show 256 + (32 + l.val) = 256 + (l.val + 32); omega)))
  · rw [dif_neg h32, dif_neg h32]
    exact congrArg₂ (fun x y : EReal => x + y) (congrArg (fun x : EReal => x * _) (hx _ _ (by show 256 + (32 + (l.val - 32)) = 256 + l.val; omega))) rfl

/-- The first 256 of the sample's latents, normalised. -/
def unitS (v : FVec Ideal S128x4x320 .f32) (g : FVec Ideal S4x256 .f32) : FVec Ideal S128x4x256 .f32 :=
  mulf (mulf (extractStridedSlice S128x4x256 ![0, 0, 0] v slices_S128x4x320_S128x4x256_0_0_0) (broadcastInDim S128x4x256 ![0, 1, 2] bcast_S128x4x1_S128x4x256_0_1_2 (Host.rsqrt (addf (Host.divf (broadcastInDim S128x4x1 ![0, 1] bcast_S128x4_S128x4x1_0_1 (Host.reduceAdd (mulf (extractStridedSlice S128x4x256 ![0, 0, 0] v slices_S128x4x320_S128x4x256_0_0_0) (extractStridedSlice S128x4x256 ![0, 0, 0] v slices_S128x4x320_S128x4x256_0_0_0)) (constant S_ .f32 0x00000000#32) reducesTo_S128x4x256_S128x4_d2 h_S_)) (broadcastInDim S128x4x1 ![] bcast_S_S128x4x1 (constant S_ .f32 0x43800000#32))) (broadcastInDim S128x4x1 ![] bcast_S_S128x4x1 (constant S_ .f32 0x358637BD#32)))))) (broadcastInDim S128x4x256 ![0, 1, 2] bcast_S1x1x256_S128x4x256_0_1_2 (broadcastInDim S1x1x256 ![2] bcast_S256_S1x1x256_2 (shapeCast _ (extractStridedSlice S1x256 ![0, 0] g slices_S4x256_S1x256_0_0) shapeCasts_S1x256_S256)))

theorem unitS_at (v : FVec Ideal S128x4x320 .f32) (g : FVec Ideal S4x256 .f32) (b : Fin 128) (s : Fin 4) (k : Fin 256) :
    unitS v g (ix3 b s k) = Layer.unit (fun j => v (ix3 b s ⟨j.val, by omega⟩)) (fun j => g (ix2 0 j)) k := by
  pointwise [unitS]
  rfl

/-- The sample's queries against the latents. -/
def latQS (w : FVec Ideal S256x8x128 .f32) (q : FVec Ideal S128x4x8x192 .f32) : FVec Ideal S128x4x8x256 .f32 :=
  transpose S128x4x8x256 [2, 3, 0, 1] (Host.dotGeneral dot_S256x8x128_S128x4x8x128_S8x256x128x4_2_3_0_01_1_2 none w (extractStridedSlice S128x4x8x128 ![0, 0, 0, 0] q slices_S128x4x8x192_S128x4x8x128_0_0_0_0)) transposes_S8x256x128x4_S128x4x8x256_2_3_0_1

theorem latQS_at (w : FVec Ideal S256x8x128 .f32) (q : FVec Ideal S128x4x8x192 .f32) (b : Fin 128) (s : Fin 4) (h : Fin 8) (j : Fin 256) :
    latQS w q (ix4 b s h j) = ∑ d : Fin 128, w (ix3 j h d) * q (ix4 b s h ⟨d.val, by omega⟩) := by
  pointwise [latQS]

/-- The sample's latents and keys, side by side. -/
def sideS (u : FVec Ideal S128x4x256 .f32) (k z : FVec Ideal S128x4x64 .f32) : FVec Ideal S512x384 .f32 :=
  shapeCast _ (concatenate S128x4x384 2 [⟨S128x4x256, u⟩, ⟨S128x4x64, k⟩, ⟨S128x4x64, z⟩] concatenates_S128x4x256_S128x4x64_S128x4x64_S128x4x384_d2) shapeCasts_S128x4x384_S512x384

theorem sideS_at (u : FVec Ideal S128x4x256 .f32) (k z : FVec Ideal S128x4x64 .f32) (n : Fin 512) (j : Fin 384) :
    sideS u k z (ix2 n j) = if h : j.val < 256 then u (ix3 ⟨n.val / 4, by omega⟩ ⟨n.val % 4, by omega⟩ ⟨j.val, h⟩)
      else if h : j.val - 256 < 64 then k (ix3 ⟨n.val / 4, by omega⟩ ⟨n.val % 4, by omega⟩ ⟨j.val - 256, h⟩)
      else z (ix3 ⟨n.val / 4, by omega⟩ ⟨n.val % 4, by omega⟩ ⟨j.val - 256 - 64, by omega⟩) := by
  pointwise [sideS]
  all_goals rfl

/-- The sample's heads: the latent part, then the turned part in the lanes of the head's parity. -/
def mixS (u : FVec Ideal S128x4x8x256 .f32) (k z : FVec Ideal S128x4x8x64 .f32) : FVec Ideal S512x3072 .f32 :=
  shapeCast _ (concatenate S128x4x8x384 3 [⟨S128x4x8x256, u⟩, ⟨S128x4x8x64, select (cmpi .eq (andi (iotaInDim S128x4x8x64 32 2) (broadcastInDim S128x4x8x64 ![] bcast_S_S128x4x8x64 (constantI S_ 32 1#32))) (broadcastInDim S128x4x8x64 ![] bcast_S_S128x4x8x64 (constantI S_ 32 0#32))) k z⟩, ⟨S128x4x8x64, select (cmpi .eq (andi (iotaInDim S128x4x8x64 32 2) (broadcastInDim S128x4x8x64 ![] bcast_S_S128x4x8x64 (constantI S_ 32 1#32))) (broadcastInDim S128x4x8x64 ![] bcast_S_S128x4x8x64 (constantI S_ 32 0#32))) z k⟩] concatenates_S128x4x8x256_S128x4x8x64_S128x4x8x64_S128x4x8x384_d3) shapeCasts_S128x4x8x384_S512x3072

theorem mixS_at (u : FVec Ideal S128x4x8x256 .f32) (k z : FVec Ideal S128x4x8x64 .f32) (n : Fin 512) (j : Fin 3072) :
    mixS u k z (ix2 n j) = if h : j.val % 384 < 256 then u (ix4 ⟨n.val / 4, by omega⟩ ⟨n.val % 4, by omega⟩ ⟨j.val / 384, by omega⟩ ⟨j.val % 384, h⟩)
      else if h : j.val % 384 - 256 < 64 then
        Scalar.select (IntOp.cmpi .eq (IntOp.andi (BitVec.ofNat 32 (j.val / 384)) 1#32) 0#32) (k (ix4 ⟨n.val / 4, by omega⟩ ⟨n.val % 4, by omega⟩ ⟨j.val / 384, by omega⟩ ⟨j.val % 384 - 256, h⟩)) (z (ix4 ⟨n.val / 4, by omega⟩ ⟨n.val % 4, by omega⟩ ⟨j.val / 384, by omega⟩ ⟨j.val % 384 - 256, h⟩))
      else Scalar.select (IntOp.cmpi .eq (IntOp.andi (BitVec.ofNat 32 (j.val / 384)) 1#32) 0#32) (z (ix4 ⟨n.val / 4, by omega⟩ ⟨n.val % 4, by omega⟩ ⟨j.val / 384, by omega⟩ ⟨j.val % 384 - 256 - 64, by omega⟩)) (k (ix4 ⟨n.val / 4, by omega⟩ ⟨n.val % 4, by omega⟩ ⟨j.val / 384, by omega⟩ ⟨j.val % 384 - 256 - 64, by omega⟩)) := by
  pointwise [mixS]
  all_goals rfl

/-- The sample's zeros. -/
def zeroS : FVec Ideal S128x4x64 .f32 := broadcastInDim S128x4x64 ![] bcast_S_S128x4x64 (constant S_ .f32 0x00000000#32)

theorem zeroS_at (b : Fin 128) (s : Fin 4) (l : Fin 64) : zeroS (ix3 b s l) = (0 : EReal) := by
  pointwise [zeroS]

/-- The sample's zeros, by head. -/
def zeroQS : FVec Ideal S128x4x8x64 .f32 := broadcastInDim S128x4x8x64 ![] bcast_S_S128x4x8x64 (id (constant S_ .f32 0x00000000#32))

theorem zeroQS_at (b : Fin 128) (s : Fin 4) (h : Fin 8) (l : Fin 64) : zeroQS (ix4 b s h l) = (0 : EReal) := by
  show broadcastInDim S128x4x8x64 ![] bcast_S_S128x4x8x64 (constant (F := Ideal) S_ .f32 0x00000000#32) (ix4 b s h l) = (0 : EReal)
  pointwise []

theorem kvS_at (v : FVec Ideal S128x4x320 .f32) (g : FVec Ideal S4x256 .f32) (p : IVec S4 32) (n : Fin 512) (k : Fin 384) :
    sideS (unitS v g) (turnKS (angS p) v) zeroS (ix2 n k)
      = Layer.kvRow (fun j => v (ix3 ⟨n.val / 4, by omega⟩ ⟨n.val % 4, by omega⟩ j)) (fun j => g (ix2 0 j))
        (fun j => Ideal.cos (Layer.angle (p (ix1 ⟨n.val % 4, by omega⟩)) j)) (fun j => Ideal.sin (Layer.angle (p (ix1 ⟨n.val % 4, by omega⟩)) j)) k := by
  refine (sideS_at _ _ _ n k).trans ?_
  unfold Layer.kvRow
  by_cases h1 : k.val < 256
  · rw [dif_pos h1, dif_pos h1]
    exact unitS_at v g _ _ _
  · rw [dif_neg h1, dif_neg h1]
    by_cases h2 : k.val - 256 < 64
    · rw [dif_pos h2, dif_pos h2]
      refine (turnKS_at _ v _ _ _).trans ?_
      exact congrArg₂ (fun a b => Layer.turn a b _ _) (funext fun j => congrArg Ideal.cos (angS_at p _ j)) (funext fun j => congrArg Ideal.sin (angS_at p _ j))
    · rw [dif_neg h2, dif_neg h2]
      exact zeroS_at _ _ _

theorem kbS_at (v : FVec Ideal S128x4x320 .f32) (g : FVec Ideal S4x256 .f32) (p : IVec S4 32) (n : Fin 512) (k : Fin 384) :
    sideS (unitS v g) (turnKS (angS p) v) (turnKS (angS p) v) (ix2 n k)
      = Layer.kbRow (fun j => v (ix3 ⟨n.val / 4, by omega⟩ ⟨n.val % 4, by omega⟩ j)) (fun j => g (ix2 0 j))
        (fun j => Ideal.cos (Layer.angle (p (ix1 ⟨n.val % 4, by omega⟩)) j)) (fun j => Ideal.sin (Layer.angle (p (ix1 ⟨n.val % 4, by omega⟩)) j)) k := by
  have ht : ∀ (i : Fin 128) (s : Fin 4) (l : Fin 64), turnKS (angS p) v (ix3 i s l)
      = Layer.turn (fun j => Ideal.cos (Layer.angle (p (ix1 s)) j)) (fun j => Ideal.sin (Layer.angle (p (ix1 s)) j)) (fun e => v (ix3 i s ⟨256 + e.val, by omega⟩)) l := fun i s l => by
    refine (turnKS_at _ v _ _ _).trans ?_
    exact congrArg₂ (fun a b => Layer.turn a b _ _) (funext fun j => congrArg Ideal.cos (angS_at p _ j)) (funext fun j => congrArg Ideal.sin (angS_at p _ j))
  refine (sideS_at _ _ _ n k).trans ?_
  unfold Layer.kbRow
  by_cases h1 : k.val < 256
  · rw [dif_pos h1, dif_pos h1]
    exact unitS_at v g _ _ _
  · rw [dif_neg h1, dif_neg h1]
    by_cases h2 : k.val - 256 < 64
    · rw [dif_pos h2]
      exact (ht _ _ _).trans (Layer.turn_congr _ _ _ _ _ _ (fun e => rfl) (by show k.val - 256 = (k.val - 256) % 64; omega))
    · rw [dif_neg h2]
      exact (ht _ _ _).trans (Layer.turn_congr _ _ _ _ _ _ (fun e => rfl) (by show k.val - 256 - 64 = (k.val - 256) % 64; omega))

theorem qS_at (q : FVec Ideal S128x4x1536 .f32) (w : FVec Ideal S4x256x8x128 .f32) (p : IVec S4 32) (n : Fin 512) (k : Fin 3072) :
    mixS (latQS (mapW w) (headS q)) (turnQS (angS p) (headS q)) zeroQS (ix2 n k)
      = Layer.qRow (fun j => q (ix3 ⟨n.val / 4, by omega⟩ ⟨n.val % 4, by omega⟩ j)) (fun h d j => w (ix4 0 j h d))
        (fun j => Ideal.cos (Layer.angle (p (ix1 ⟨n.val % 4, by omega⟩)) j)) (fun j => Ideal.sin (Layer.angle (p (ix1 ⟨n.val % 4, by omega⟩)) j)) k := by
  have ht : ∀ (i : Fin 128) (s : Fin 4) (h : Fin 8) (l : Fin 64), turnQS (angS p) (headS q) (ix4 i s h l)
      = Layer.turn (fun j => Ideal.cos (Layer.angle (p (ix1 s)) j)) (fun j => Ideal.sin (Layer.angle (p (ix1 s)) j)) (fun e => q (ix3 i s ⟨h.val * 192 + (128 + e.val), by omega⟩)) l := fun i s h l => by
    refine (turnQS_at _ _ _ _ _ _).trans ?_
    refine (congrArg₂ (fun a b => Layer.turn a b _ _) (funext fun j => congrArg Ideal.cos (angS_at p _ j)) (funext fun j => congrArg Ideal.sin (angS_at p _ j))).trans ?_
    exact Layer.turn_congr _ _ _ _ _ _ (fun e => headS_at q _ _ _ _) rfl
  refine (mixS_at _ _ _ n k).trans ?_
  unfold Layer.qRow
  by_cases h1 : k.val % 384 < 256
  · rw [dif_pos h1, dif_pos h1]
    refine (latQS_at _ _ _ _ _ _).trans (Finset.sum_congr rfl fun d _ => ?_)
    refine (mul_comm _ _).trans (congrArg₂ (fun a b : EReal => a * b) (headS_at q _ _ _ _) (mapW_at w _ _ _))
  · rw [dif_neg h1, dif_neg h1]
    have hp := Layer.parity ⟨k.val / 384, by omega⟩
    by_cases h2 : k.val % 384 - 256 < 64
    · rw [dif_pos h2]
      refine (hp _ _).trans ?_
      by_cases h3 : k.val / 384 % 2 = 0
      · rw [if_pos h3, if_pos (by omega)]
        exact (ht _ _ _ _).trans (Layer.turn_congr _ _ _ _ _ _ (fun e => rfl) (by show k.val % 384 - 256 = (k.val % 384 - 256) % 64; omega))
      · rw [if_neg h3, if_neg (by omega)]
        exact zeroQS_at _ _ _ _
    · rw [dif_neg h2]
      refine (hp _ _).trans ?_
      by_cases h3 : k.val / 384 % 2 = 0
      · rw [if_pos h3, if_neg (by omega)]
        exact zeroQS_at _ _ _ _
      · rw [if_neg h3, if_pos (by omega)]
        exact (ht _ _ _ _).trans (Layer.turn_congr _ _ _ _ _ _ (fun e => rfl) (by show k.val % 384 - 256 - 64 = (k.val % 384 - 256) % 64; omega))

/-- The sample's positions. -/
def posS : IVec S4 32 := addi (broadcastInDim S4 ![] bcast_S_S4 (constantI S_ 32 8192#32)) (iotaInDim S4 32 0)

theorem posS_at (s : Fin 4) : posS (ix1 s) = 8192#32 + BitVec.ofNat 32 s.val := by
  pointwise [posS]
  rfl

/-- The prompt's positions. -/
def posP : IVec S2048 32 := iotaInDim S2048 32 0

theorem posP_at (s : Fin 2048) : posP (ix1 s) = BitVec.ofNat 32 s.val := by
  pointwise [posP]

theorem place_pos (n : Fin 8704) (h : n.val < 8192) : Layer.place n = posP (ix1 ⟨n.val % 2048, by omega⟩) := by
  rw [posP_at]; unfold Layer.place; rw [if_pos h]

theorem place_neg (n : Fin 8704) (h : ¬ n.val < 8192) : Layer.place n = posS (ix1 ⟨(n.val - 8192) % 4, by omega⟩) := by
  rw [posS_at]; unfold Layer.place; rw [if_neg h]

theorem stackF_at (p : FVec Ideal S8192x384 .f32) (s : FVec Ideal S512x384 .f32) (n : Fin 8704) (k : Fin 384) :
    concatenate S8704x384 0 [⟨S8192x384, p⟩, ⟨S512x384, s⟩] concatenates_S8192x384_S512x384_S8704x384_d0 (ix2 n k)
      = if h : n.val < 8192 then p (ix2 ⟨n.val, h⟩ k) else s (ix2 ⟨n.val - 8192, by omega⟩ k) := by
  pointwise []

theorem stackB_at (p : FVec Ideal S8192x384 .bf16) (s : FVec Ideal S512x384 .bf16) (n : Fin 8704) (k : Fin 384) :
    concatenate S8704x384 0 [⟨S8192x384, p⟩, ⟨S512x384, s⟩] concatenates_S8192x384_S512x384_S8704x384_d0 (ix2 n k)
      = if h : n.val < 8192 then p (ix2 ⟨n.val, h⟩ k) else s (ix2 ⟨n.val - 8192, by omega⟩ k) := by
  pointwise []

theorem stackQ_at (p : FVec Ideal S8192x3072 .bf16) (s : FVec Ideal S512x3072 .bf16) (n : Fin 8704) (k : Fin 3072) :
    concatenate S8704x3072 0 [⟨S8192x3072, p⟩, ⟨S512x3072, s⟩] concatenates_S8192x3072_S512x3072_S8704x3072_d0 (ix2 n k)
      = if h : n.val < 8192 then p (ix2 ⟨n.val, h⟩ k) else s (ix2 ⟨n.val - 8192, by omega⟩ k) := by
  pointwise []

/-- The latents and the turned keys of all rows, then zeros. -/
def kvRes (v : FVec Ideal S4x2048x320 .f32) (v' : FVec Ideal S128x4x320 .f32) (g : FVec Ideal S4x256 .f32) : FVec Ideal S8704x384 .f32 :=
  concatenate S8704x384 0 [⟨S8192x384, sideP (unitP v g) (turnKP (angP posP) v) zeroP⟩, ⟨S512x384, sideS (unitS v' g) (turnKS (angS posS) v') zeroS⟩] concatenates_S8192x384_S512x384_S8704x384_d0

theorem kvRes_at (v : FVec Ideal S4x2048x320 .f32) (v' : FVec Ideal S128x4x320 .f32) (g : FVec Ideal S4x256 .f32) (n : Fin 8704) (k : Fin 384) :
    kvRes v v' g (ix2 n k) = Layer.kvRow (Layer.both (fun a b j => v (ix3 a b j)) (fun a b j => v' (ix3 a b j)) n) (fun j => g (ix2 0 j)) (Layer.cosAt n) (Layer.sinAt n) k := by
  refine (stackF_at _ _ n k).trans ?_
  unfold Layer.cosAt Layer.sinAt
  by_cases h : n.val < 8192
  · rw [dif_pos h, place_pos n h]
    refine (kvP_at v g posP _ k).trans ?_
    exact congrArg (fun x => Layer.kvRow x _ _ _ k) (funext fun j => by unfold Layer.both; rw [dif_pos h])
  · rw [dif_neg h, place_neg n h]
    refine (kvS_at v' g posS _ k).trans ?_
    exact congrArg (fun x => Layer.kvRow x _ _ _ k) (funext fun j => by unfold Layer.both; rw [dif_neg h])

/-- The latents and the turned keys of all rows, given twice. -/
def kbRes (v : FVec Ideal S4x2048x320 .f32) (v' : FVec Ideal S128x4x320 .f32) (g : FVec Ideal S4x256 .f32) : FVec Ideal S8704x384 .bf16 :=
  concatenate S8704x384 0 [⟨S8192x384, truncf .bf16 (sideP (unitP v g) (turnKP (angP posP) v) (turnKP (angP posP) v)) bitsLt_bf16_f32⟩, ⟨S512x384, truncf .bf16 (sideS (unitS v' g) (turnKS (angS posS) v') (turnKS (angS posS) v')) bitsLt_bf16_f32⟩] concatenates_S8192x384_S512x384_S8704x384_d0

theorem kbRes_at (v : FVec Ideal S4x2048x320 .f32) (v' : FVec Ideal S128x4x320 .f32) (g : FVec Ideal S4x256 .f32) (n : Fin 8704) (k : Fin 384) :
    kbRes v v' g (ix2 n k) = Layer.kbRow (Layer.both (fun a b j => v (ix3 a b j)) (fun a b j => v' (ix3 a b j)) n) (fun j => g (ix2 0 j)) (Layer.cosAt n) (Layer.sinAt n) k := by
  refine (stackB_at _ _ n k).trans ?_
  unfold Layer.cosAt Layer.sinAt
  by_cases h : n.val < 8192
  · rw [dif_pos h, place_pos n h]
    refine (kbP_at v g posP _ k).trans ?_
    exact congrArg (fun x => Layer.kbRow x _ _ _ k) (funext fun j => by unfold Layer.both; rw [dif_pos h])
  · rw [dif_neg h, place_neg n h]
    refine (kbS_at v' g posS _ k).trans ?_
    exact congrArg (fun x => Layer.kbRow x _ _ _ k) (funext fun j => by unfold Layer.both; rw [dif_neg h])

/-- The queries of all rows. -/
def qRes (q : FVec Ideal S4x2048x1536 .f32) (q' : FVec Ideal S128x4x1536 .f32) (w : FVec Ideal S4x256x8x128 .f32) : FVec Ideal S8704x3072 .bf16 :=
  concatenate S8704x3072 0 [⟨S8192x3072, truncf .bf16 (mixP (latQP (mapW w) (headP q)) (turnQP (angP posP) (headP q)) zeroQP) bitsLt_bf16_f32⟩, ⟨S512x3072, truncf .bf16 (mixS (latQS (mapW w) (headS q')) (turnQS (angS posS) (headS q')) zeroQS) bitsLt_bf16_f32⟩] concatenates_S8192x3072_S512x3072_S8704x3072_d0

theorem qRes_at (q : FVec Ideal S4x2048x1536 .f32) (q' : FVec Ideal S128x4x1536 .f32) (w : FVec Ideal S4x256x8x128 .f32) (n : Fin 8704) (k : Fin 3072) :
    qRes q q' w (ix2 n k) = Layer.qRow (Layer.both (fun a b j => q (ix3 a b j)) (fun a b j => q' (ix3 a b j)) n) (fun h d j => w (ix4 0 j h d)) (Layer.cosAt n) (Layer.sinAt n) k := by
  refine (stackQ_at _ _ n k).trans ?_
  unfold Layer.cosAt Layer.sinAt
  by_cases h : n.val < 8192
  · rw [dif_pos h, place_pos n h]
    refine (qP_at q w posP _ k).trans ?_
    exact congrArg (fun x => Layer.qRow x _ _ _ k) (funext fun j => by unfold Layer.both; rw [dif_pos h])
  · rw [dif_neg h, place_neg n h]
    refine (qS_at q' w posS _ k).trans ?_
    exact congrArg (fun x => Layer.qRow x _ _ _ k) (funext fun j => by unfold Layer.both; rw [dif_neg h])

/-- The run, with its three results named. -/
theorem run_named (ρ : Dev nD → PrngReg) :
    θ_run defs (onTc (τ := τ) (main (F := Ideal))) ⟨m, fun _ => 0, ρ⟩ fun r => ∀ c : Dev nD,
      r.2.mem ((c.tc : Thread nD τ).loc main_v216) = kvRes (m ((c.tc : Thread nD τ).loc main_arg1)) (m ((c.tc : Thread nD τ).loc main_arg3)) (m ((c.tc : Thread nD τ).loc main_arg4))
      ∧ r.2.mem ((c.tc : Thread nD τ).loc main_v217) = kbRes (m ((c.tc : Thread nD τ).loc main_arg1)) (m ((c.tc : Thread nD τ).loc main_arg3)) (m ((c.tc : Thread nD τ).loc main_arg4))
      ∧ r.2.mem ((c.tc : Thread nD τ).loc main_v218) = qRes (m ((c.tc : Thread nD τ).loc main_arg0)) (m ((c.tc : Thread nD τ).loc main_arg2)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨(h c).1.trans rfl, (h c).2.1.trans rfl, (h c).2.2.1.trans rfl, (h c).2.2.2⟩) (run m ρ)

end Cert.Reference4Ideal.Value

end
-- ==== Proof.Prep.Equation.lean ====
/- The three result arrays of the call before the attention are the reference's. -/
module

public import proofs.«01_k».proof.Proof.Prep.Point
public import proofs.«01_k».proof.Proof.Prep.Ref

@[expose] public section

set_option maxRecDepth 100000

noncomputable section

namespace Cert.Kernel4Ideal.Value

open Cert.Kernel4Ideal Cert.Kernel4Ideal.Gen Idealize.ShloMosaic Idealize.ShloMosaic.TcCoe Idealize.SL.Sem

variable (m : (ℓ : Loc nD τ sig) → Buf (Elt Ideal) ℓ)

/-- The reference's array over the kernel's argument arrays. -/
def kvOut (c : Dev nD) : FVec Ideal S8704x384 .f32 := Cert.Reference4Ideal.Value.kvRes (m ((c : Thread nD τ).loc main_arg1)) (m ((c : Thread nD τ).loc main_arg3)) (m ((c : Thread nD τ).loc main_arg4))

theorem kvOut_at (c : Dev nD) (t : Fin cfg0.N) (r : Fin 272) (n : Fin 8704) (hn : n.val = t.val * 272 + r.val) (k : Fin 384) :
    (outsAt0 m c t).1 (ix2 r k) = kvOut m c (ix2 n k) :=
  (out8 m c t r n hn k).trans (Cert.Reference4Ideal.Value.kvRes_at (m ((c : Thread nD τ).loc main_arg1)) (m ((c : Thread nD τ).loc main_arg3)) (m ((c : Thread nD τ).loc main_arg4)) n k).symm

theorem final8 (c : Dev nD) : (dats m 0 c).arrAt 8 (cfgs 0).N = kvOut m c := by
  have hp := kvOut_at m c
  generalize kvOut m c = G at hp ⊢
  refine (dats m 0 c).arrAt_eq_of_covers 8 G (by decide +kernel) fun t hf y => ?_
  idx_vars y
  have ht : t.val < 32 := lt_of_lt_of_eq t.isLt N_0
  have hb := hp t y0 ⟨t.val * 272 + y0.val, by omega⟩ rfl y1
  blk_simp
  rw [after0_8]
  refine hb.trans ?_
  blk_ext [idx t]

/-- The reference's array over the kernel's argument arrays. -/
def kbOut (c : Dev nD) : FVec Ideal S8704x384 .bf16 := Cert.Reference4Ideal.Value.kbRes (m ((c : Thread nD τ).loc main_arg1)) (m ((c : Thread nD τ).loc main_arg3)) (m ((c : Thread nD τ).loc main_arg4))

theorem kbOut_at (c : Dev nD) (t : Fin cfg0.N) (r : Fin 272) (n : Fin 8704) (hn : n.val = t.val * 272 + r.val) (k : Fin 384) :
    (outsAt0 m c t).2.1 (ix2 r k) = kbOut m c (ix2 n k) :=
  (out9 m c t r n hn k).trans (Cert.Reference4Ideal.Value.kbRes_at (m ((c : Thread nD τ).loc main_arg1)) (m ((c : Thread nD τ).loc main_arg3)) (m ((c : Thread nD τ).loc main_arg4)) n k).symm

theorem final9 (c : Dev nD) : (dats m 0 c).arrAt 9 (cfgs 0).N = kbOut m c := by
  have hp := kbOut_at m c
  generalize kbOut m c = G at hp ⊢
  refine (dats m 0 c).arrAt_eq_of_covers 9 G (by decide +kernel) fun t hf y => ?_
  idx_vars y
  have ht : t.val < 32 := lt_of_lt_of_eq t.isLt N_0
  have hb := hp t y0 ⟨t.val * 272 + y0.val, by omega⟩ rfl y1
  blk_simp
  rw [after0_9]
  refine hb.trans ?_
  blk_ext [idx t]

/-- The reference's array over the kernel's argument arrays. -/
def qOut (c : Dev nD) : FVec Ideal S8704x3072 .bf16 := Cert.Reference4Ideal.Value.qRes (m ((c : Thread nD τ).loc main_arg0)) (m ((c : Thread nD τ).loc main_arg2)) (m ((c : Thread nD τ).loc main_arg5))

theorem qOut_at (c : Dev nD) (t : Fin cfg0.N) (r : Fin 272) (n : Fin 8704) (hn : n.val = t.val * 272 + r.val) (k : Fin 3072) :
    (outsAt0 m c t).2.2 (ix2 r k) = qOut m c (ix2 n k) :=
  (out10 m c t r n hn k).trans (Cert.Reference4Ideal.Value.qRes_at (m ((c : Thread nD τ).loc main_arg0)) (m ((c : Thread nD τ).loc main_arg2)) (m ((c : Thread nD τ).loc main_arg5)) n k).symm

theorem final10 (c : Dev nD) : (dats m 0 c).arrAt 10 (cfgs 0).N = qOut m c := by
  have hp := qOut_at m c
  generalize qOut m c = G at hp ⊢
  refine (dats m 0 c).arrAt_eq_of_covers 10 G (by decide +kernel) fun t hf y => ?_
  idx_vars y
  have ht : t.val < 32 := lt_of_lt_of_eq t.isLt N_0
  have hb := hp t y0 ⟨t.val * 272 + y0.val, by omega⟩ rfl y1
  blk_simp
  rw [after0_10]
  refine hb.trans ?_
  blk_ext [idx t]

end Cert.Kernel4Ideal.Value

end
-- ==== Proof.Out.Spec.lean ====
/- One entry of the output projection with its residual, as the kernel and as the reference sum it. -/
module

public import Idealize.ShloMosaic.PureOps.Ideal
public import Mathlib.Algebra.BigOperators.Fin
public import Mathlib.Data.EReal.Operations

@[expose] public section

noncomputable section

namespace Layer

/-- Column `j` of the eight heads' values, 128 each: the head's latent attention against its value weights. -/
def head (o : Fin 8 → Fin 256 → EReal) (v : Fin 256 → Fin 8 → Fin 128 → EReal) (j : Fin 1024) : EReal :=
  ∑ q : Fin 256, o ⟨j.val / 128, by omega⟩ q * v q ⟨j.val / 128, by omega⟩ ⟨j.val % 128, by omega⟩

theorem head_of (o : Fin 8 → Fin 256 → EReal) (v : Fin 256 → Fin 8 → Fin 128 → EReal) (j : Fin 1024) (h : Fin 8) (e : Fin 128)
    (hj : j.val = h.val * 128 + e.val) : head o v j = ∑ q : Fin 256, o h q * v q h e := by
  have eh : (⟨j.val / 128, by omega⟩ : Fin 8) = h := Fin.ext (show j.val / 128 = h.val by omega)
  have ee : (⟨j.val % 128, by omega⟩ : Fin 128) = e := Fin.ext (show j.val % 128 = e.val by omega)
  unfold head
  rw [eh, ee]

/-- The three mixers' columns beside each other. -/
def beside (a b : Fin 512 → EReal) (h : Fin 1024 → EReal) (j : Fin 2048) : EReal :=
  if h0 : j.val < 512 then a ⟨j.val, h0⟩
  else if h1 : j.val - 512 < 512 then b ⟨j.val - 512, h1⟩
  else h ⟨j.val - 512 - 512, by omega⟩

/-- An entry with the projection of the three mixers added; `w` is the entry's column of the weights. -/
def mix (x : EReal) (a b : Fin 512 → EReal) (h : Fin 1024 → EReal) (w : Fin 2048 → EReal) : EReal :=
  x + (∑ j : Fin 512, a j * w ⟨j.val, by omega⟩) + (∑ j : Fin 512, b j * w ⟨512 + j.val, by omega⟩)
    + ∑ j : Fin 1024, h j * w ⟨1024 + j.val, by omega⟩

/-- One sum over the columns beside each other is the three sums. -/
theorem mix_eq (x : EReal) (a b : Fin 512 → EReal) (h : Fin 1024 → EReal) (w : Fin 2048 → EReal) :
    x + ∑ j : Fin 2048, beside a b h j * w j = mix x a b h w := by
  unfold mix
  have e1 : ∑ j : Fin 2048, beside a b h j * w j
      = (∑ j : Fin 1024, beside a b h ⟨j.val, by omega⟩ * w ⟨j.val, by omega⟩)
        + ∑ j : Fin 1024, beside a b h ⟨1024 + j.val, by omega⟩ * w ⟨1024 + j.val, by omega⟩ :=
    Fin.sum_univ_add (a := 1024) (b := 1024) (fun j : Fin (1024 + 1024) => beside a b h j * w j)
  have e2 : ∑ j : Fin 1024, beside a b h ⟨j.val, by omega⟩ * w ⟨j.val, by omega⟩
      = (∑ j : Fin 512, beside a b h ⟨j.val, by omega⟩ * w ⟨j.val, by omega⟩)
        + ∑ j : Fin 512, beside a b h ⟨512 + j.val, by omega⟩ * w ⟨512 + j.val, by omega⟩ :=
    Fin.sum_univ_add (a := 512) (b := 512) (fun j : Fin (512 + 512) => beside a b h ⟨j.val, by omega⟩ * w ⟨j.val, by omega⟩)
  have f1 : ∀ j : Fin 512, beside a b h ⟨j.val, by omega⟩ = a j := fun j => by
    unfold beside
    exact dif_pos (show j.val < 512 by omega)
  have f2 : ∀ j : Fin 512, beside a b h ⟨512 + j.val, by omega⟩ = b j := fun j => by
    unfold beside
    refine (dif_neg (show ¬ 512 + j.val < 512 by omega)).trans ((dif_pos (show 512 + j.val - 512 < 512 by omega)).trans ?_)
    exact congrArg b (Fin.ext (show 512 + j.val - 512 = j.val by omega))
  have f3 : ∀ j : Fin 1024, beside a b h ⟨1024 + j.val, by omega⟩ = h j := fun j => by
    unfold beside
    refine (dif_neg (show ¬ 1024 + j.val < 512 by omega)).trans ((dif_neg (show ¬ 1024 + j.val - 512 < 512 by omega)).trans ?_)
    exact congrArg h (Fin.ext (show 1024 + j.val - 512 - 512 = j.val by omega))
  rw [e1, e2]
  simp only [f1, f2, f3]
  rw [← add_assoc, ← add_assoc]

end Layer

end
-- ==== Proof.Out.Entry.lean ====
/- The output projection's kernel: what its stores hold at an index, and what a grid point leaves. -/
module

public import proofs.«01_k».proof.Proof.Gen.Kernel6Ideal.Value
public import proofs.«01_k».proof.Proof.Out.Spec
public import Idealize.ShloMosaic.Lib.Pipeline.ValueKit
public import Idealize.ShloMosaic.Lib.Pointwise

@[expose] public section

set_option maxRecDepth 100000

noncomputable section

namespace Cert.Kernel6Ideal.Value

open Cert.Kernel6Ideal Cert.Kernel6Ideal.Gen Idealize.ShloMosaic Idealize.ShloMosaic.TcCoe Idealize.SL.Sem

variable (m : (ℓ : Loc nD τ sig) → Buf (Elt Ideal) ℓ)

theorem pay1_at (v : FVec Ideal S512x2048 .f32) (s : Vec Ideal S512x1024 .bf16) (w : Vec Ideal S1x1024x2048 .bf16)
    (r : Fin 512) (k : Fin 2048) :
    k0_pay1 (F := Ideal) v s w (ix2 r k) = v (ix2 r k) + ∑ j : Fin 1024, s (ix2 r j) * w (ix3 0 j k) := by
  pointwise [k0_pay1]

/-- The latent attention of the batch whose tile this is. -/
theorem pay2_pos (i : grid0.Coords) (a b : Vec Ideal S512x2048 .bf16) (h : Scalar.cmpi .slt (BitVec.ofNat 32 (i 0).val) 16#32 = 1#1)
    (r : Fin 512) (k : Fin 2048) : k0_pay2 (F := Ideal) i a b (ix2 r k) = a (ix2 r k) := by
  unfold k0_pay2
  rw [h]
  pointwise []

theorem pay2_neg (i : grid0.Coords) (a b : Vec Ideal S512x2048 .bf16) (h : Scalar.cmpi .slt (BitVec.ofNat 32 (i 0).val) 16#32 = 0#1)
    (r : Fin 512) (k : Fin 2048) : k0_pay2 (F := Ideal) i a b (ix2 r k) = b (ix2 r k) := by
  unfold k0_pay2
  rw [h]
  pointwise []

theorem pay3_at (i : grid0.Coords) (a b : Vec Ideal S512x2048 .bf16) (w : Vec Ideal S1x1x256x128 .bf16) (r : Fin 512) (e : Fin 128) :
    k0_pay3 (F := Ideal) i a b w (ix2 r e) = ∑ q : Fin 256, k0_pay2 (F := Ideal) i a b (ix2 r ⟨q.val, by omega⟩) * w (ix4 0 0 q e) := by
  unfold k0_pay3
  generalize k0_pay2 (F := Ideal) i a b = v
  pointwise []

theorem pay4_at (i : grid0.Coords) (a b : Vec Ideal S512x2048 .bf16) (w : Vec Ideal S1x1x256x128 .bf16) (r : Fin 512) (e : Fin 128) :
    k0_pay4 (F := Ideal) i a b w (ix2 r e) = ∑ q : Fin 256, k0_pay2 (F := Ideal) i a b (ix2 r ⟨256 + q.val, by omega⟩) * w (ix4 0 0 q e) := by
  unfold k0_pay4
  generalize k0_pay2 (F := Ideal) i a b = v
  pointwise []

theorem pay5_at (i : grid0.Coords) (a b : Vec Ideal S512x2048 .bf16) (w : Vec Ideal S1x1x256x128 .bf16) (r : Fin 512) (e : Fin 128) :
    k0_pay5 (F := Ideal) i a b w (ix2 r e) = ∑ q : Fin 256, k0_pay2 (F := Ideal) i a b (ix2 r ⟨512 + q.val, by omega⟩) * w (ix4 0 0 q e) := by
  unfold k0_pay5
  generalize k0_pay2 (F := Ideal) i a b = v
  pointwise []

theorem pay6_at (v : FVec Ideal S512x2048 .bf16) (w : Vec Ideal S1x1x256x128 .bf16) (r : Fin 512) (e : Fin 128) :
    k0_pay6 (F := Ideal) v w (ix2 r e) = ∑ q : Fin 256, v (ix2 r ⟨768 + q.val, by omega⟩) * w (ix4 0 0 q e) := by
  pointwise [k0_pay6]

theorem pay7_at (v : FVec Ideal S512x2048 .bf16) (w : Vec Ideal S1x1x256x128 .bf16) (r : Fin 512) (e : Fin 128) :
    k0_pay7 (F := Ideal) v w (ix2 r e) = ∑ q : Fin 256, v (ix2 r ⟨1024 + q.val, by omega⟩) * w (ix4 0 0 q e) := by
  pointwise [k0_pay7]

theorem pay8_at (v : FVec Ideal S512x2048 .bf16) (w : Vec Ideal S1x1x256x128 .bf16) (r : Fin 512) (e : Fin 128) :
    k0_pay8 (F := Ideal) v w (ix2 r e) = ∑ q : Fin 256, v (ix2 r ⟨1280 + q.val, by omega⟩) * w (ix4 0 0 q e) := by
  pointwise [k0_pay8]

theorem pay9_at (v : FVec Ideal S512x2048 .bf16) (w : Vec Ideal S1x1x256x128 .bf16) (r : Fin 512) (e : Fin 128) :
    k0_pay10 (F := Ideal) (k0_pay9 (F := Ideal) v w) (ix2 r e) = ∑ q : Fin 256, v (ix2 r ⟨1536 + q.val, by omega⟩) * w (ix4 0 0 q e) := by
  pointwise [k0_pay9, k0_pay10]

theorem pay11_at (v : FVec Ideal S512x2048 .bf16) (w : Vec Ideal S1x1x256x128 .bf16) (r : Fin 512) (e : Fin 128) :
    k0_pay11 (F := Ideal) v w (ix2 r e) = ∑ q : Fin 256, v (ix2 r ⟨1792 + q.val, by omega⟩) * w (ix4 0 0 q e) := by
  pointwise [k0_pay11]

theorem pay12_pos (x : Vec Ideal S512x2048 .f32) (a b : Vec Ideal S512x512 .bf16) (w : Vec Ideal S1x512x2048 .bf16)
    (a' b' : Vec Ideal S512x512 .bf16) (w' : Vec Ideal S1x512x2048 .bf16) (r : Fin 512) (k : Fin 2048) :
    k0_pay12 (F := Ideal) 1#1 x a b w a' b' w' (ix2 r k) = x (ix2 r k) + (∑ j : Fin 512, a (ix2 r j) * w (ix3 0 j k))
      + ∑ j : Fin 512, a' (ix2 r j) * w' (ix3 0 j k) := by
  pointwise [k0_pay12]

theorem pay12_neg (x : Vec Ideal S512x2048 .f32) (a b : Vec Ideal S512x512 .bf16) (w : Vec Ideal S1x512x2048 .bf16)
    (a' b' : Vec Ideal S512x512 .bf16) (w' : Vec Ideal S1x512x2048 .bf16) (r : Fin 512) (k : Fin 2048) :
    k0_pay12 (F := Ideal) 0#1 x a b w a' b' w' (ix2 r k) = x (ix2 r k) + (∑ j : Fin 512, b (ix2 r j) * w (ix3 0 j k))
      + ∑ j : Fin 512, b' (ix2 r j) * w' (ix3 0 j k) := by
  pointwise [k0_pay12]

theorem ld0 (w : Vec Ideal S1x8x256x128 .bf16) (q : Fin 256) (e : Fin 128) :
    (View.ld w (Rect.unit ![0, 0, 0, 0] ![1, 1, 256, 128] inb_S1x8x256x128_S1x1x256x128_0_0_0_0) : Vec Ideal S1x1x256x128 .bf16) (ix4 0 0 q e) = w (ix4 0 0 q e) := by
  refine congrArg w (funext fun a => Fin.ext (Nat.add_comm _ _ |>.trans ?_))
  fin_cases a
  · rfl
  · rfl
  · exact Nat.one_mul _
  · exact Nat.one_mul _

theorem ld1 (w : Vec Ideal S1x8x256x128 .bf16) (q : Fin 256) (e : Fin 128) :
    (View.ld w (Rect.unit ![0, 1, 0, 0] ![1, 1, 256, 128] inb_S1x8x256x128_S1x1x256x128_0_1_0_0) : Vec Ideal S1x1x256x128 .bf16) (ix4 0 0 q e) = w (ix4 0 1 q e) := by
  refine congrArg w (funext fun a => Fin.ext (Nat.add_comm _ _ |>.trans ?_))
  fin_cases a
  · rfl
  · rfl
  · exact Nat.one_mul _
  · exact Nat.one_mul _

theorem ld2 (w : Vec Ideal S1x8x256x128 .bf16) (q : Fin 256) (e : Fin 128) :
    (View.ld w (Rect.unit ![0, 2, 0, 0] ![1, 1, 256, 128] inb_S1x8x256x128_S1x1x256x128_0_2_0_0) : Vec Ideal S1x1x256x128 .bf16) (ix4 0 0 q e) = w (ix4 0 2 q e) := by
  refine congrArg w (funext fun a => Fin.ext (Nat.add_comm _ _ |>.trans ?_))
  fin_cases a
  · rfl
  · rfl
  · exact Nat.one_mul _
  · exact Nat.one_mul _

theorem ld3 (w : Vec Ideal S1x8x256x128 .bf16) (q : Fin 256) (e : Fin 128) :
    (View.ld w (Rect.unit ![0, 3, 0, 0] ![1, 1, 256, 128] inb_S1x8x256x128_S1x1x256x128_0_3_0_0) : Vec Ideal S1x1x256x128 .bf16) (ix4 0 0 q e) = w (ix4 0 3 q e) := by
  refine congrArg w (funext fun a => Fin.ext (Nat.add_comm _ _ |>.trans ?_))
  fin_cases a
  · rfl
  · rfl
  · exact Nat.one_mul _
  · exact Nat.one_mul _

theorem ld4 (w : Vec Ideal S1x8x256x128 .bf16) (q : Fin 256) (e : Fin 128) :
    (View.ld w (Rect.unit ![0, 4, 0, 0] ![1, 1, 256, 128] inb_S1x8x256x128_S1x1x256x128_0_4_0_0) : Vec Ideal S1x1x256x128 .bf16) (ix4 0 0 q e) = w (ix4 0 4 q e) := by
  refine congrArg w (funext fun a => Fin.ext (Nat.add_comm _ _ |>.trans ?_))
  fin_cases a
  · rfl
  · rfl
  · exact Nat.one_mul _
  · exact Nat.one_mul _

theorem ld5 (w : Vec Ideal S1x8x256x128 .bf16) (q : Fin 256) (e : Fin 128) :
    (View.ld w (Rect.unit ![0, 5, 0, 0] ![1, 1, 256, 128] inb_S1x8x256x128_S1x1x256x128_0_5_0_0) : Vec Ideal S1x1x256x128 .bf16) (ix4 0 0 q e) = w (ix4 0 5 q e) := by
  refine congrArg w (funext fun a => Fin.ext (Nat.add_comm _ _ |>.trans ?_))
  fin_cases a
  · rfl
  · rfl
  · exact Nat.one_mul _
  · exact Nat.one_mul _

theorem ld6 (w : Vec Ideal S1x8x256x128 .bf16) (q : Fin 256) (e : Fin 128) :
    (View.ld w (Rect.unit ![0, 6, 0, 0] ![1, 1, 256, 128] inb_S1x8x256x128_S1x1x256x128_0_6_0_0) : Vec Ideal S1x1x256x128 .bf16) (ix4 0 0 q e) = w (ix4 0 6 q e) := by
  refine congrArg w (funext fun a => Fin.ext (Nat.add_comm _ _ |>.trans ?_))
  fin_cases a
  · rfl
  · rfl
  · exact Nat.one_mul _
  · exact Nat.one_mul _

theorem ld7 (w : Vec Ideal S1x8x256x128 .bf16) (q : Fin 256) (e : Fin 128) :
    (View.ld w (Rect.unit ![0, 7, 0, 0] ![1, 1, 256, 128] inb_S1x8x256x128_S1x1x256x128_0_7_0_0) : Vec Ideal S1x1x256x128 .bf16) (ix4 0 0 q e) = w (ix4 0 7 q e) := by
  refine congrArg w (funext fun a => Fin.ext (Nat.add_comm _ _ |>.trans ?_))
  fin_cases a
  · rfl
  · rfl
  · exact Nat.one_mul _
  · exact Nat.one_mul _

/-- What the scratch holds when it is read: the eight heads' values beside each other. -/
theorem scratch_at (i : grid0.Coords) (a b : Vec Ideal S512x2048 .bf16) (w : Vec Ideal S1x8x256x128 .bf16) (r : Fin 512) (j : Fin 1024) :
    (View.canon (Val := Elt Ideal) (s := S512x1024) (e := .bf16)
        [⟨Rect.unit ![0, 896] ![512, 128] inb_S512x1024_S512x128_0_896,
            k0_pay11 (F := Ideal) (k0_pay2 i a b) (View.ld w (Rect.unit ![0, 7, 0, 0] ![1, 1, 256, 128] inb_S1x8x256x128_S1x1x256x128_0_7_0_0))⟩,
          ⟨Rect.unit ![0, 768] ![512, 128] inb_S512x1024_S512x128_0_768,
            k0_pay10 (F := Ideal) (k0_pay9 (k0_pay2 i a b) (View.ld w (Rect.unit ![0, 6, 0, 0] ![1, 1, 256, 128] inb_S1x8x256x128_S1x1x256x128_0_6_0_0)))⟩,
          ⟨Rect.unit ![0, 640] ![512, 128] inb_S512x1024_S512x128_0_640,
            k0_pay8 (F := Ideal) (k0_pay2 i a b) (View.ld w (Rect.unit ![0, 5, 0, 0] ![1, 1, 256, 128] inb_S1x8x256x128_S1x1x256x128_0_5_0_0))⟩,
          ⟨Rect.unit ![0, 512] ![512, 128] inb_S512x1024_S512x128_0_512,
            k0_pay7 (F := Ideal) (k0_pay2 i a b) (View.ld w (Rect.unit ![0, 4, 0, 0] ![1, 1, 256, 128] inb_S1x8x256x128_S1x1x256x128_0_4_0_0))⟩,
          ⟨Rect.unit ![0, 384] ![512, 128] inb_S512x1024_S512x128_0_384,
            k0_pay6 (F := Ideal) (k0_pay2 i a b) (View.ld w (Rect.unit ![0, 3, 0, 0] ![1, 1, 256, 128] inb_S1x8x256x128_S1x1x256x128_0_3_0_0))⟩,
          ⟨Rect.unit ![0, 256] ![512, 128] inb_S512x1024_S512x128_0_256,
            k0_pay5 (F := Ideal) i a b (View.ld w (Rect.unit ![0, 2, 0, 0] ![1, 1, 256, 128] inb_S1x8x256x128_S1x1x256x128_0_2_0_0))⟩,
          ⟨Rect.unit ![0, 128] ![512, 128] inb_S512x1024_S512x128_0_128,
            k0_pay4 (F := Ideal) i a b (View.ld w (Rect.unit ![0, 1, 0, 0] ![1, 1, 256, 128] inb_S1x8x256x128_S1x1x256x128_0_1_0_0))⟩,
          ⟨Rect.unit ![0, 0] ![512, 128] inb_S512x1024_S512x128_0_0,
            k0_pay3 (F := Ideal) i a b (View.ld w (Rect.unit ![0, 0, 0, 0] ![1, 1, 256, 128] inb_S1x8x256x128_S1x1x256x128_0_0_0_0))⟩] : Vec Ideal S512x1024 .bf16) (ix2 r j)
      = Layer.head (fun h q => k0_pay2 (F := Ideal) i a b (ix2 r ⟨h.val * 256 + q.val, by omega⟩)) (fun q h e => w (ix4 0 h q e)) j := by
  canon_tiles x h using (View.cover_of_tiledBy _ ![512, 128] (by sl_kernel_rfl) _)
  all_goals
    obtain ⟨y, e, rfl⟩ : ∃ y e, x = ix2 y e := ⟨x 0, x 1, eq_ix2 x⟩
    obtain rfl : r = y := Fin.ext h0
  · refine (pay11_at _ _ r e).trans ((Layer.head_of _ _ j 7 e (h1.trans (by show _ = 7 * 128 + e.val; first | rfl | (show e.val = _; omega)))).trans ?_).symm
    exact Finset.sum_congr rfl fun q _ => congrArg₂ (fun y z : EReal => y * z) (congrArg (fun l => k0_pay2 (F := Ideal) i a b (ix2 r l)) (Fin.ext (by first | rfl | (show 0 * 256 + q.val = q.val; omega)))) (ld7 w q e).symm
  · refine (pay9_at _ _ r e).trans ((Layer.head_of _ _ j 6 e (h1.trans (by show _ = 6 * 128 + e.val; first | rfl | (show e.val = _; omega)))).trans ?_).symm
    exact Finset.sum_congr rfl fun q _ => congrArg₂ (fun y z : EReal => y * z) (congrArg (fun l => k0_pay2 (F := Ideal) i a b (ix2 r l)) (Fin.ext (by first | rfl | (show 0 * 256 + q.val = q.val; omega)))) (ld6 w q e).symm
  · refine (pay8_at _ _ r e).trans ((Layer.head_of _ _ j 5 e (h1.trans (by show _ = 5 * 128 + e.val; first | rfl | (show e.val = _; omega)))).trans ?_).symm
    exact Finset.sum_congr rfl fun q _ => congrArg₂ (fun y z : EReal => y * z) (congrArg (fun l => k0_pay2 (F := Ideal) i a b (ix2 r l)) (Fin.ext (by first | rfl | (show 0 * 256 + q.val = q.val; omega)))) (ld5 w q e).symm
  · refine (pay7_at _ _ r e).trans ((Layer.head_of _ _ j 4 e (h1.trans (by show _ = 4 * 128 + e.val; first | rfl | (show e.val = _; omega)))).trans ?_).symm
    exact Finset.sum_congr rfl fun q _ => congrArg₂ (fun y z : EReal => y * z) (congrArg (fun l => k0_pay2 (F := Ideal) i a b (ix2 r l)) (Fin.ext (by first | rfl | (show 0 * 256 + q.val = q.val; omega)))) (ld4 w q e).symm
  · refine (pay6_at _ _ r e).trans ((Layer.head_of _ _ j 3 e (h1.trans (by show _ = 3 * 128 + e.val; first | rfl | (show e.val = _; omega)))).trans ?_).symm
    exact Finset.sum_congr rfl fun q _ => congrArg₂ (fun y z : EReal => y * z) (congrArg (fun l => k0_pay2 (F := Ideal) i a b (ix2 r l)) (Fin.ext (by first | rfl | (show 0 * 256 + q.val = q.val; omega)))) (ld3 w q e).symm
  · refine (pay5_at _ _ _ _ r e).trans ((Layer.head_of _ _ j 2 e (h1.trans (by show _ = 2 * 128 + e.val; first | rfl | (show e.val = _; omega)))).trans ?_).symm
    exact Finset.sum_congr rfl fun q _ => congrArg₂ (fun y z : EReal => y * z) (congrArg (fun l => k0_pay2 (F := Ideal) i a b (ix2 r l)) (Fin.ext (by first | rfl | (show 0 * 256 + q.val = q.val; omega)))) (ld2 w q e).symm
  · refine (pay4_at _ _ _ _ r e).trans ((Layer.head_of _ _ j 1 e (h1.trans (by show _ = 1 * 128 + e.val; first | rfl | (show e.val = _; omega)))).trans ?_).symm
    exact Finset.sum_congr rfl fun q _ => congrArg₂ (fun y z : EReal => y * z) (congrArg (fun l => k0_pay2 (F := Ideal) i a b (ix2 r l)) (Fin.ext (by first | rfl | (show 0 * 256 + q.val = q.val; omega)))) (ld1 w q e).symm
  · refine (pay3_at _ _ _ _ r e).trans ((Layer.head_of _ _ j 0 e (h1.trans (by show _ = 0 * 128 + e.val; first | rfl | (show e.val = _; omega)))).trans ?_).symm
    exact Finset.sum_congr rfl fun q _ => congrArg₂ (fun y z : EReal => y * z) (congrArg (fun l => k0_pay2 (F := Ideal) i a b (ix2 r l)) (Fin.ext (by first | rfl | (show 0 * 256 + q.val = q.val; omega)))) (ld0 w q e).symm

theorem ldwA (w : Vec Ideal S1x2048x2048 .bf16) (j : Fin 512) (k : Fin 2048) :
    (View.ld w (Rect.unit ![0, 0, 0] ![1, 512, 2048] inb_S1x2048x2048_S1x512x2048_0_0_0) : Vec Ideal S1x512x2048 .bf16) (ix3 0 j k) = w (ix3 0 ⟨j.val, by omega⟩ k) := by
  refine congrArg w (funext fun a => Fin.ext ?_)
  fin_cases a
  · rfl
  · show 0 + 1 * j.val = j.val
    omega
  · show 0 + 1 * k.val = k.val
    omega

theorem ldwB (w : Vec Ideal S1x2048x2048 .bf16) (j : Fin 512) (k : Fin 2048) :
    (View.ld w (Rect.unit ![0, 512, 0] ![1, 512, 2048] inb_S1x2048x2048_S1x512x2048_0_512_0) : Vec Ideal S1x512x2048 .bf16) (ix3 0 j k) = w (ix3 0 ⟨512 + j.val, by omega⟩ k) := by
  refine congrArg w (funext fun a => Fin.ext ?_)
  fin_cases a
  · rfl
  · show 512 + 1 * j.val = 512 + j.val
    omega
  · show 0 + 1 * k.val = k.val
    omega

theorem ldwC (w : Vec Ideal S1x2048x2048 .bf16) (j : Fin 1024) (k : Fin 2048) :
    (View.ld w (Rect.unit ![0, 1024, 0] ![1, 1024, 2048] inb_S1x2048x2048_S1x1024x2048_0_1024_0) : Vec Ideal S1x1024x2048 .bf16) (ix3 0 j k) = w (ix3 0 ⟨1024 + j.val, by omega⟩ k) := by
  refine congrArg w (funext fun a => Fin.ext ?_)
  fin_cases a
  · rfl
  · show 1024 + 1 * j.val = 1024 + j.val
    omega
  · show 0 + 1 * k.val = k.val
    omega

/-- The first sixteen grid points are the prompt's tiles, the last one the sample's. -/
theorem cond : ∀ t : Fin cfg0.N, Scalar.cmpi .slt (BitVec.ofNat 32 (grid0.coords t 0).val) 16#32 = if t.val < 16 then 1#1 else 0#1 :=
  (by decide +kernel : ∀ t : Fin grid0.N, _)

theorem outs_pos (c : Dev nD) (t : Fin cfg0.N) (h : t.val < 16) (r : Fin 512) (k : Fin 2048) :
    outsAt0 m c t (ix2 r k) = Layer.mix ((iblk m c 0 t : Vec Ideal S512x2048 .f32) (ix2 r k))
      (fun j => (iblk m c 1 t : Vec Ideal S512x512 .bf16) (ix2 r j)) (fun j => (iblk m c 3 t : Vec Ideal S512x512 .bf16) (ix2 r j))
      (Layer.head (fun h q => (iblk m c 5 t : Vec Ideal S512x2048 .bf16) (ix2 r ⟨h.val * 256 + q.val, by omega⟩))
        (fun q h e => (iblk m c 7 t : Vec Ideal S1x8x256x128 .bf16) (ix4 0 h q e)))
      (fun j => (iblk m c 8 t : Vec Ideal S1x2048x2048 .bf16) (ix3 0 j k)) := by
  have hc : Scalar.cmpi .slt (BitVec.ofNat 32 (grid0.coords t 0).val) 16#32 = 1#1 := (cond t).trans (if_pos h)
  unfold outsAt0
  frame_out
  rw [View.readCov_eq_canon', hc]
  refine (pay1_at _ _ _ r k).trans ?_
  unfold Layer.mix
  refine congrArg₂ (fun y z : EReal => y + z) ((pay12_pos _ _ _ _ _ _ _ r k).trans ?_) (Finset.sum_congr rfl fun j _ => congrArg₂ (fun y z : EReal => y * z) ?_ (ldwC _ j k))
  · exact congrArg₂ (fun y z : EReal => _ + y + z) (Finset.sum_congr rfl fun j _ => congrArg (fun z : EReal => _ * z) (ldwA _ j k))
      (Finset.sum_congr rfl fun j _ => congrArg (fun z : EReal => _ * z) (ldwB _ j k))
  · refine (congrArg (View.canon _) (funext fun a => ?_)).trans ((scratch_at (grid0.coords t) (iblk m c 5 t) (iblk m c 6 t) (iblk m c 7 t) r j).trans ?_)
    · refine Fin.ext ?_
      fin_cases a
      · show 0 + 1 * r.val = r.val
        omega
      · show 0 + 1 * j.val = j.val
        omega
    · exact congrArg (fun o => Layer.head o _ j) (funext fun h => funext fun q => pay2_pos _ _ _ hc r _)

theorem outs_neg (c : Dev nD) (t : Fin cfg0.N) (h : ¬ t.val < 16) (r : Fin 512) (k : Fin 2048) :
    outsAt0 m c t (ix2 r k) = Layer.mix ((iblk m c 0 t : Vec Ideal S512x2048 .f32) (ix2 r k))
      (fun j => (iblk m c 2 t : Vec Ideal S512x512 .bf16) (ix2 r j)) (fun j => (iblk m c 4 t : Vec Ideal S512x512 .bf16) (ix2 r j))
      (Layer.head (fun h q => (iblk m c 6 t : Vec Ideal S512x2048 .bf16) (ix2 r ⟨h.val * 256 + q.val, by omega⟩))
        (fun q h e => (iblk m c 7 t : Vec Ideal S1x8x256x128 .bf16) (ix4 0 h q e)))
      (fun j => (iblk m c 8 t : Vec Ideal S1x2048x2048 .bf16) (ix3 0 j k)) := by
  have hc : Scalar.cmpi .slt (BitVec.ofNat 32 (grid0.coords t 0).val) 16#32 = 0#1 := (cond t).trans (if_neg h)
  unfold outsAt0
  frame_out
  rw [View.readCov_eq_canon', hc]
  refine (pay1_at _ _ _ r k).trans ?_
  unfold Layer.mix
  refine congrArg₂ (fun y z : EReal => y + z) ((pay12_neg _ _ _ _ _ _ _ r k).trans ?_) (Finset.sum_congr rfl fun j _ => congrArg₂ (fun y z : EReal => y * z) ?_ (ldwC _ j k))
  · exact congrArg₂ (fun y z : EReal => _ + y + z) (Finset.sum_congr rfl fun j _ => congrArg (fun z : EReal => _ * z) (ldwA _ j k))
      (Finset.sum_congr rfl fun j _ => congrArg (fun z : EReal => _ * z) (ldwB _ j k))
  · refine (congrArg (View.canon _) (funext fun a => ?_)).trans ((scratch_at (grid0.coords t) (iblk m c 5 t) (iblk m c 6 t) (iblk m c 7 t) r j).trans ?_)
    · refine Fin.ext ?_
      fin_cases a
      · show 0 + 1 * r.val = r.val
        omega
      · show 0 + 1 * j.val = j.val
        omega
    · exact congrArg (fun o => Layer.head o _ j) (funext fun h => funext fun q => pay2_neg _ _ _ hc r _)

end Cert.Kernel6Ideal.Value

end
-- ==== Proof.Out.Blocks.lean ====
/- The blocks the output projection's kernel reads, as entries of its argument arrays. -/
module

public import proofs.«01_k».proof.Proof.Gen.Kernel6Ideal.Value
public import proofs.«01_k».proof.Proof.Row
public import Idealize.ShloMosaic.Lib.Pipeline.ValueKit
public import Idealize.ShloMosaic.Lib.Pointwise

@[expose] public section

set_option maxRecDepth 100000

noncomputable section

namespace Cert.Kernel6Ideal.Value

open Cert.Kernel6Ideal Cert.Kernel6Ideal.Gen Idealize.ShloMosaic Idealize.ShloMosaic.TcCoe Idealize.SL.Sem

variable (m : (ℓ : Loc nD τ sig) → Buf (Elt Ideal) ℓ)

theorem idx : ∀ t : Fin cfg0.N, win0_0.index t = ![t.val, 0] ∧ win0_1.index t = ![min t.val 15, 0] ∧ win0_2.index t = ![0, 0]
    ∧ win0_3.index t = ![min t.val 15, 0] ∧ win0_4.index t = ![0, 0] ∧ win0_5.index t = ![min t.val 15, 0] ∧ win0_6.index t = ![0, 0]
    ∧ win0_7.index t = ![0, 0, 0, 0] ∧ win0_8.index t = ![0, 0, 0] ∧ win0_9.index t = ![t.val, 0] :=
  (by decide +kernel : ∀ t : Fin grid0.N, _)

/-- The prompt's and the sample's rows in one array. -/
def xHost (p : FVec Ideal S4x2048x2048 .f32) (s : FVec Ideal S128x4x2048 .f32) : FVec Ideal S8704x2048 .f32 :=
  concatenate S8704x2048 0 [⟨S8192x2048, shapeCast _ p shapeCasts_S4x2048x2048_S8192x2048⟩, ⟨S512x2048, shapeCast _ s shapeCasts_S128x4x2048_S512x2048⟩] concatenates_S8192x2048_S512x2048_S8704x2048_d0

theorem xHost_at (p : FVec Ideal S4x2048x2048 .f32) (s : FVec Ideal S128x4x2048 .f32) (n : Fin 8704) (k : Fin 2048) :
    xHost p s (ix2 n k) = Layer.rows (fun a b j => p (ix3 a b j)) (fun a b j => s (ix3 a b j)) n k := by
  pointwise [xHost]
  rfl

/-- A mixer's rows of the prompt, and of the sample. -/
def mixP (a : FVec Ideal S4x2048x512 .f32) : FVec Ideal S8192x512 .bf16 :=
  truncf .bf16 (shapeCast S8192x512 a shapeCasts_S4x2048x512_S8192x512) bitsLt_bf16_f32

def mixS (a : FVec Ideal S128x4x512 .f32) : FVec Ideal S512x512 .bf16 :=
  truncf .bf16 (shapeCast S512x512 a shapeCasts_S128x4x512_S512x512) bitsLt_bf16_f32

theorem mixP_at (a : FVec Ideal S4x2048x512 .f32) (n : Fin 8192) (k : Fin 512) :
    mixP a (ix2 n k) = a (ix3 ⟨n.val / 2048, by omega⟩ ⟨n.val % 2048, by omega⟩ k) := by
  pointwise [mixP]

theorem mixS_at (a : FVec Ideal S128x4x512 .f32) (n : Fin 512) (k : Fin 512) :
    mixS a (ix2 n k) = a (ix3 ⟨n.val / 4, by omega⟩ ⟨n.val % 4, by omega⟩ k) := by
  pointwise [mixS]

/-- The latent attention's rows of the prompt, and of the sample. -/
def latP (a : FVec Ideal S4x2048x8x256 .f32) : FVec Ideal S8192x2048 .bf16 :=
  truncf .bf16 (shapeCast S8192x2048 a shapeCasts_S4x2048x8x256_S8192x2048) bitsLt_bf16_f32

def latS (a : FVec Ideal S128x4x8x256 .f32) : FVec Ideal S512x2048 .bf16 :=
  truncf .bf16 (shapeCast S512x2048 a shapeCasts_S128x4x8x256_S512x2048) bitsLt_bf16_f32

theorem latP_at (a : FVec Ideal S4x2048x8x256 .f32) (n : Fin 8192) (h : Fin 8) (q : Fin 256) :
    latP a (ix2 n ⟨h.val * 256 + q.val, by omega⟩) = a (ix4 ⟨n.val / 2048, by omega⟩ ⟨n.val % 2048, by omega⟩ h q) := by
  pointwise [latP]

theorem latS_at (a : FVec Ideal S128x4x8x256 .f32) (n : Fin 512) (h : Fin 8) (q : Fin 256) :
    latS a (ix2 n ⟨h.val * 256 + q.val, by omega⟩) = a (ix4 ⟨n.val / 4, by omega⟩ ⟨n.val % 4, by omega⟩ h q) := by
  pointwise [latS]

/-- The heads' value weights, the head first. -/
def vHost (v : FVec Ideal S4x256x8x128 .f32) : FVec Ideal S4x8x256x128 .bf16 :=
  truncf .bf16 (transpose S4x8x256x128 [0, 2, 1, 3] v transposes_S4x256x8x128_S4x8x256x128_0_2_1_3) bitsLt_bf16_f32

theorem vHost_at (v : FVec Ideal S4x256x8x128 .f32) (l : Fin 4) (h : Fin 8) (q : Fin 256) (e : Fin 128) :
    vHost v (ix4 l h q e) = v (ix4 l q h e) := by
  pointwise [vHost]

theorem V_x (c : Dev nD) : V m c main_v2 = xHost (m ((c : Thread nD τ).loc main_arg0)) (m ((c : Thread nD τ).loc main_arg1)) := by
  simp only [V, hostOps0]
  after_results_simp
  rfl

theorem V_1 (c : Dev nD) : V m c main_v4 = mixP (m ((c : Thread nD τ).loc main_arg2)) := by
  simp only [V, hostOps0]
  after_results_simp
  rfl

theorem V_2 (c : Dev nD) : V m c main_v6 = mixS (m ((c : Thread nD τ).loc main_arg3)) := by
  simp only [V, hostOps0]
  after_results_simp
  rfl

theorem V_3 (c : Dev nD) : V m c main_v8 = mixP (m ((c : Thread nD τ).loc main_arg4)) := by
  simp only [V, hostOps0]
  after_results_simp
  rfl

theorem V_4 (c : Dev nD) : V m c main_v10 = mixS (m ((c : Thread nD τ).loc main_arg5)) := by
  simp only [V, hostOps0]
  after_results_simp
  rfl

theorem V_5 (c : Dev nD) : V m c main_v12 = latP (m ((c : Thread nD τ).loc main_arg6)) := by
  simp only [V, hostOps0]
  after_results_simp
  rfl

theorem V_6 (c : Dev nD) : V m c main_v14 = latS (m ((c : Thread nD τ).loc main_arg7)) := by
  simp only [V, hostOps0]
  after_results_simp
  rfl

theorem V_7 (c : Dev nD) : V m c main_v16 = vHost (m ((c : Thread nD τ).loc main_arg8)) := by
  simp only [V, hostOps0]
  after_results_simp
  rfl

theorem V_8 (c : Dev nD) : V m c main_v17 = truncf (F := Ideal) .bf16 (m ((c : Thread nD τ).loc main_arg9) : FVec Ideal S4x2048x2048 .f32) bitsLt_bf16_f32 := by
  simp only [V, hostOps0]
  after_results_simp

theorem b0_at (c : Dev nD) (t : Fin cfg0.N) (r : Fin 512) (k : Fin 2048) (n : Fin 8704) (hn : n.val = t.val * 512 + r.val) :
    iblk m c 0 t (ix2 r k) = Layer.rows (fun a b j => (m ((c : Thread nD τ).loc main_arg0) : FVec Ideal S4x2048x2048 .f32) (ix3 a b j))
      (fun a b j => (m ((c : Thread nD τ).loc main_arg1) : FVec Ideal S128x4x2048 .f32) (ix3 a b j)) n k := by
  refine Eq.trans ?_ (xHost_at _ _ n k)
  blk_simp [iblk, idx t]
  refine (congrFun (V_x m c) _).trans ?_
  blk_ext [idx t]

theorem b1_at (c : Dev nD) (t : Fin cfg0.N) (ht : t.val < 16) (r : Fin 512) (k : Fin 512) (n : Fin 8192) (hn : n.val = t.val * 512 + r.val) :
    iblk m c 1 t (ix2 r k) = (m ((c : Thread nD τ).loc main_arg2) : FVec Ideal S4x2048x512 .f32) (ix3 ⟨n.val / 2048, by omega⟩ ⟨n.val % 2048, by omega⟩ k) := by
  refine Eq.trans ?_ (mixP_at _ n k)
  blk_simp [iblk, idx t]
  refine (congrFun (V_1 m c) _).trans ?_
  blk_ext [idx t]

theorem b2_at (c : Dev nD) (t : Fin cfg0.N) (r : Fin 512) (k : Fin 512) :
    iblk m c 2 t (ix2 r k) = (m ((c : Thread nD τ).loc main_arg3) : FVec Ideal S128x4x512 .f32) (ix3 ⟨r.val / 4, by omega⟩ ⟨r.val % 4, by omega⟩ k) := by
  refine Eq.trans ?_ (mixS_at _ r k)
  blk_simp [iblk, idx t]
  refine (congrFun (V_2 m c) _).trans ?_
  blk_ext [idx t]

theorem b3_at (c : Dev nD) (t : Fin cfg0.N) (ht : t.val < 16) (r : Fin 512) (k : Fin 512) (n : Fin 8192) (hn : n.val = t.val * 512 + r.val) :
    iblk m c 3 t (ix2 r k) = (m ((c : Thread nD τ).loc main_arg4) : FVec Ideal S4x2048x512 .f32) (ix3 ⟨n.val / 2048, by omega⟩ ⟨n.val % 2048, by omega⟩ k) := by
  refine Eq.trans ?_ (mixP_at _ n k)
  blk_simp [iblk, idx t]
  refine (congrFun (V_3 m c) _).trans ?_
  blk_ext [idx t]

theorem b4_at (c : Dev nD) (t : Fin cfg0.N) (r : Fin 512) (k : Fin 512) :
    iblk m c 4 t (ix2 r k) = (m ((c : Thread nD τ).loc main_arg5) : FVec Ideal S128x4x512 .f32) (ix3 ⟨r.val / 4, by omega⟩ ⟨r.val % 4, by omega⟩ k) := by
  refine Eq.trans ?_ (mixS_at _ r k)
  blk_simp [iblk, idx t]
  refine (congrFun (V_4 m c) _).trans ?_
  blk_ext [idx t]

theorem b5_at (c : Dev nD) (t : Fin cfg0.N) (ht : t.val < 16) (r : Fin 512) (h : Fin 8) (q : Fin 256) (n : Fin 8192) (hn : n.val = t.val * 512 + r.val) :
    iblk m c 5 t (ix2 r ⟨h.val * 256 + q.val, by omega⟩) = (m ((c : Thread nD τ).loc main_arg6) : FVec Ideal S4x2048x8x256 .f32) (ix4 ⟨n.val / 2048, by omega⟩ ⟨n.val % 2048, by omega⟩ h q) := by
  refine Eq.trans ?_ (latP_at _ n h q)
  blk_simp [iblk, idx t]
  refine (congrFun (V_5 m c) _).trans ?_
  blk_ext [idx t]

theorem b6_at (c : Dev nD) (t : Fin cfg0.N) (r : Fin 512) (h : Fin 8) (q : Fin 256) :
    iblk m c 6 t (ix2 r ⟨h.val * 256 + q.val, by omega⟩) = (m ((c : Thread nD τ).loc main_arg7) : FVec Ideal S128x4x8x256 .f32) (ix4 ⟨r.val / 4, by omega⟩ ⟨r.val % 4, by omega⟩ h q) := by
  refine Eq.trans ?_ (latS_at _ r h q)
  blk_simp [iblk, idx t]
  refine (congrFun (V_6 m c) _).trans ?_
  blk_ext [idx t]

theorem b7_at (c : Dev nD) (t : Fin cfg0.N) (h : Fin 8) (q : Fin 256) (e : Fin 128) :
    iblk m c 7 t (ix4 0 h q e) = (m ((c : Thread nD τ).loc main_arg8) : FVec Ideal S4x256x8x128 .f32) (ix4 0 q h e) := by
  refine Eq.trans ?_ (vHost_at _ 0 h q e)
  blk_simp [iblk, idx t]
  refine (congrFun (V_7 m c) _).trans ?_
  blk_ext [idx t]

theorem b8_at (c : Dev nD) (t : Fin cfg0.N) (j k : Fin 2048) :
    iblk m c 8 t (ix3 0 j k) = (m ((c : Thread nD τ).loc main_arg9) : FVec Ideal S4x2048x2048 .f32) (ix3 0 j k) := by
  blk_simp [iblk, idx t]
  refine (congrFun (V_8 m c) _).trans ?_
  show (m ((c : Thread nD τ).loc main_arg9) : FVec Ideal S4x2048x2048 .f32) _ = _
  blk_ext [idx t]

end Cert.Kernel6Ideal.Value

end
-- ==== Proof.Out.Ref.lean ====
/- What the reference of the output projection computes at an index, for the prompt's rows and for the sample's. -/
module

public import proofs.«01_k».proof.Proof.Gen.Reference6Ideal.Run
public import proofs.«01_k».proof.Proof.Row
public import proofs.«01_k».proof.Proof.Out.Spec
public import Idealize.ShloMosaic.Lib.Pipeline.ValueKit
public import Idealize.ShloMosaic.Lib.Pointwise

@[expose] public section

set_option maxRecDepth 100000

noncomputable section

namespace Cert.Reference6Ideal.Value

open Cert.Reference6Ideal Cert.Reference6Ideal.Gen Idealize.ShloMosaic Idealize.ShloMosaic.TcCoe Idealize.SL.Sem

variable (m : (ℓ : Loc nD τ sig) → Buf (Elt Ideal) ℓ)

/-- The heads' values of the prompt. -/
def headP (o : FVec Ideal S4x2048x8x256 .f32) (v : FVec Ideal S4x256x8x128 .f32) : FVec Ideal S4x2048x1024 .f32 :=
  shapeCast _ (transpose S4x2048x8x128 [2, 3, 0, 1] (Host.dotGeneral dot_S256x8x128_S4x2048x8x256_S8x128x4x2048_0_3_2_01_1_2 none (shapeCast _ (extractStridedSlice S1x256x8x128 ![0, 0, 0, 0] v slices_S4x256x8x128_S1x256x8x128_0_0_0_0) shapeCasts_S1x256x8x128_S256x8x128) o) transposes_S8x128x4x2048_S4x2048x8x128_2_3_0_1) shapeCasts_S4x2048x8x128_S4x2048x1024

/-- The prompt's mixers beside each other. -/
def catP (a b : FVec Ideal S4x2048x512 .f32) (h : FVec Ideal S4x2048x1024 .f32) : FVec Ideal S4x2048x2048 .f32 :=
  concatenate S4x2048x2048 2 [⟨S4x2048x512, a⟩, ⟨S4x2048x512, b⟩, ⟨S4x2048x1024, h⟩] concatenates_S4x2048x512_S4x2048x512_S4x2048x1024_S4x2048x2048_d2

/-- The prompt's result. -/
def resP (x c : FVec Ideal S4x2048x2048 .f32) (w : FVec Ideal S4x2048x2048 .f32) : FVec Ideal S8192x2048 .f32 :=
  shapeCast _ (addf x (Host.dotGeneral dot_S4x2048x2048_S2048x2048_S4x2048x2048_2_0_01_1_n_n none c (shapeCast _ (extractStridedSlice S1x2048x2048 ![0, 0, 0] w slices_S4x2048x2048_S1x2048x2048_0_0_0) shapeCasts_S1x2048x2048_S2048x2048))) shapeCasts_S4x2048x2048_S8192x2048

theorem headP_at (o : FVec Ideal S4x2048x8x256 .f32) (v : FVec Ideal S4x256x8x128 .f32) (b : Fin 4) (s : Fin 2048) (j : Fin 1024) :
    headP o v (ix3 b s j) = Layer.head (fun h q => o (ix4 b s h q)) (fun q h e => v (ix4 0 q h e)) j := by
  pointwise [headP]
  exact Finset.sum_congr rfl fun q _ => mul_comm _ _

theorem catP_at (a b : FVec Ideal S4x2048x512 .f32) (h : FVec Ideal S4x2048x1024 .f32) (i : Fin 4) (s : Fin 2048) (j : Fin 2048) :
    catP a b h (ix3 i s j) = Layer.beside (fun q => a (ix3 i s q)) (fun q => b (ix3 i s q)) (fun q => h (ix3 i s q)) j := by
  pointwise [catP]
  rfl

theorem resP_at (x c : FVec Ideal S4x2048x2048 .f32) (w : FVec Ideal S4x2048x2048 .f32) (n : Fin 8192) (k : Fin 2048) :
    resP x c w (ix2 n k) = x (ix3 ⟨n.val / 2048, by omega⟩ ⟨n.val % 2048, by omega⟩ k)
      + ∑ j : Fin 2048, c (ix3 ⟨n.val / 2048, by omega⟩ ⟨n.val % 2048, by omega⟩ j) * w (ix3 0 j k) := by
  pointwise [resP]

/-- The heads' values of the sample. -/
def headS (o : FVec Ideal S128x4x8x256 .f32) (v : FVec Ideal S4x256x8x128 .f32) : FVec Ideal S128x4x1024 .f32 :=
  shapeCast _ (transpose S128x4x8x128 [2, 3, 0, 1] (Host.dotGeneral dot_S256x8x128_S128x4x8x256_S8x128x128x4_0_3_2_01_1_2 none (shapeCast _ (extractStridedSlice S1x256x8x128 ![0, 0, 0, 0] v slices_S4x256x8x128_S1x256x8x128_0_0_0_0) shapeCasts_S1x256x8x128_S256x8x128) o) transposes_S8x128x128x4_S128x4x8x128_2_3_0_1) shapeCasts_S128x4x8x128_S128x4x1024

/-- The sample's mixers beside each other. -/
def catS (a b : FVec Ideal S128x4x512 .f32) (h : FVec Ideal S128x4x1024 .f32) : FVec Ideal S128x4x2048 .f32 :=
  concatenate S128x4x2048 2 [⟨S128x4x512, a⟩, ⟨S128x4x512, b⟩, ⟨S128x4x1024, h⟩] concatenates_S128x4x512_S128x4x512_S128x4x1024_S128x4x2048_d2

/-- The sample's result. -/
def resS (x c : FVec Ideal S128x4x2048 .f32) (w : FVec Ideal S4x2048x2048 .f32) : FVec Ideal S512x2048 .f32 :=
  shapeCast _ (addf x (Host.dotGeneral dot_S128x4x2048_S2048x2048_S128x4x2048_2_0_01_1_n_n none c (shapeCast _ (extractStridedSlice S1x2048x2048 ![0, 0, 0] w slices_S4x2048x2048_S1x2048x2048_0_0_0) shapeCasts_S1x2048x2048_S2048x2048))) shapeCasts_S128x4x2048_S512x2048

theorem headS_at (o : FVec Ideal S128x4x8x256 .f32) (v : FVec Ideal S4x256x8x128 .f32) (b : Fin 128) (s : Fin 4) (j : Fin 1024) :
    headS o v (ix3 b s j) = Layer.head (fun h q => o (ix4 b s h q)) (fun q h e => v (ix4 0 q h e)) j := by
  pointwise [headS]
  exact Finset.sum_congr rfl fun q _ => mul_comm _ _

theorem catS_at (a b : FVec Ideal S128x4x512 .f32) (h : FVec Ideal S128x4x1024 .f32) (i : Fin 128) (s : Fin 4) (j : Fin 2048) :
    catS a b h (ix3 i s j) = Layer.beside (fun q => a (ix3 i s q)) (fun q => b (ix3 i s q)) (fun q => h (ix3 i s q)) j := by
  pointwise [catS]
  rfl

theorem resS_at (x c : FVec Ideal S128x4x2048 .f32) (w : FVec Ideal S4x2048x2048 .f32) (n : Fin 512) (k : Fin 2048) :
    resS x c w (ix2 n k) = x (ix3 ⟨n.val / 4, by omega⟩ ⟨n.val % 4, by omega⟩ k)
      + ∑ j : Fin 2048, c (ix3 ⟨n.val / 4, by omega⟩ ⟨n.val % 4, by omega⟩ j) * w (ix3 0 j k) := by
  pointwise [resS]

/-- The reference's result, of its argument arrays. -/
def res (a0 : FVec Ideal S4x2048x2048 .f32) (a1 : FVec Ideal S128x4x2048 .f32) (a2 : FVec Ideal S4x2048x512 .f32) (a3 : FVec Ideal S128x4x512 .f32) (a4 : FVec Ideal S4x2048x512 .f32) (a5 : FVec Ideal S128x4x512 .f32) (a6 : FVec Ideal S4x2048x8x256 .f32) (a7 : FVec Ideal S128x4x8x256 .f32) (a8 : FVec Ideal S4x256x8x128 .f32) (a9 : FVec Ideal S4x2048x2048 .f32) : FVec Ideal S8704x2048 .f32 :=
  concatenate S8704x2048 0 [⟨S8192x2048, resP a0 (catP a2 a4 (headP a6 a8)) a9⟩, ⟨S512x2048, resS a1 (catS a3 a5 (headS a7 a8)) a9⟩] concatenates_S8192x2048_S512x2048_S8704x2048_d0

theorem stack_at (p : FVec Ideal S8192x2048 .f32) (s : FVec Ideal S512x2048 .f32) (n : Fin 8704) (k : Fin 2048) :
    concatenate S8704x2048 0 [⟨S8192x2048, p⟩, ⟨S512x2048, s⟩] concatenates_S8192x2048_S512x2048_S8704x2048_d0 (ix2 n k)
      = if h : n.val < 8192 then p (ix2 ⟨n.val, h⟩ k) else s (ix2 ⟨n.val - 8192, by omega⟩ k) := by
  pointwise []

theorem res_pos (a0 : FVec Ideal S4x2048x2048 .f32) (a1 : FVec Ideal S128x4x2048 .f32) (a2 : FVec Ideal S4x2048x512 .f32) (a3 : FVec Ideal S128x4x512 .f32) (a4 : FVec Ideal S4x2048x512 .f32) (a5 : FVec Ideal S128x4x512 .f32) (a6 : FVec Ideal S4x2048x8x256 .f32) (a7 : FVec Ideal S128x4x8x256 .f32) (a8 : FVec Ideal S4x256x8x128 .f32) (a9 : FVec Ideal S4x2048x2048 .f32)
    (n : Fin 8704) (k : Fin 2048) (h : n.val < 8192) :
    res a0 a1 a2 a3 a4 a5 a6 a7 a8 a9 (ix2 n k) = Layer.mix (a0 (ix3 ⟨n.val / 2048, by omega⟩ ⟨n.val % 2048, by omega⟩ k))
      (fun j => a2 (ix3 ⟨n.val / 2048, by omega⟩ ⟨n.val % 2048, by omega⟩ j)) (fun j => a4 (ix3 ⟨n.val / 2048, by omega⟩ ⟨n.val % 2048, by omega⟩ j))
      (Layer.head (fun h q => a6 (ix4 ⟨n.val / 2048, by omega⟩ ⟨n.val % 2048, by omega⟩ h q)) (fun q h e => a8 (ix4 0 q h e)))
      (fun j => a9 (ix3 0 j k)) := by
  refine (stack_at _ _ n k).trans ((dif_pos h).trans ((resP_at _ _ _ _ k).trans ?_))
  refine Eq.trans ?_ (Layer.mix_eq _ _ _ _ _)
  refine congrArg (fun z : EReal => _ + z) (Finset.sum_congr rfl fun j _ => congrArg (fun z : EReal => z * _) ((catP_at _ _ _ _ _ j).trans ?_))
  exact congrArg (fun g => Layer.beside _ _ g j) (funext fun q => headP_at _ _ _ _ q)

theorem res_neg (a0 : FVec Ideal S4x2048x2048 .f32) (a1 : FVec Ideal S128x4x2048 .f32) (a2 : FVec Ideal S4x2048x512 .f32) (a3 : FVec Ideal S128x4x512 .f32) (a4 : FVec Ideal S4x2048x512 .f32) (a5 : FVec Ideal S128x4x512 .f32) (a6 : FVec Ideal S4x2048x8x256 .f32) (a7 : FVec Ideal S128x4x8x256 .f32) (a8 : FVec Ideal S4x256x8x128 .f32) (a9 : FVec Ideal S4x2048x2048 .f32)
    (n : Fin 8704) (k : Fin 2048) (h : ¬ n.val < 8192) :
    res a0 a1 a2 a3 a4 a5 a6 a7 a8 a9 (ix2 n k) = Layer.mix (a1 (ix3 ⟨(n.val - 8192) / 4, by omega⟩ ⟨(n.val - 8192) % 4, by omega⟩ k))
      (fun j => a3 (ix3 ⟨(n.val - 8192) / 4, by omega⟩ ⟨(n.val - 8192) % 4, by omega⟩ j)) (fun j => a5 (ix3 ⟨(n.val - 8192) / 4, by omega⟩ ⟨(n.val - 8192) % 4, by omega⟩ j))
      (Layer.head (fun h q => a7 (ix4 ⟨(n.val - 8192) / 4, by omega⟩ ⟨(n.val - 8192) % 4, by omega⟩ h q)) (fun q h e => a8 (ix4 0 q h e)))
      (fun j => a9 (ix3 0 j k)) := by
  refine (stack_at _ _ n k).trans ((dif_neg h).trans ((resS_at _ _ _ _ k).trans ?_))
  refine Eq.trans ?_ (Layer.mix_eq _ _ _ _ _)
  refine congrArg (fun z : EReal => _ + z) (Finset.sum_congr rfl fun j _ => congrArg (fun z : EReal => z * _) ((catS_at _ _ _ _ _ j).trans ?_))
  exact congrArg (fun g => Layer.beside _ _ g j) (funext fun q => headS_at _ _ _ _ q)

/-- The run, with its result named. -/
theorem run_named (ρ : Dev nD → PrngReg) :
    θ_run defs (onTc (τ := τ) (main (F := Ideal))) ⟨m, fun _ => 0, ρ⟩ fun r => ∀ c : Dev nD,
      r.2.mem ((c.tc : Thread nD τ).loc main_v22) = res (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h c).1.trans rfl, (h c).2⟩) (run m ρ)

end Cert.Reference6Ideal.Value

end
-- ==== Proof.Out.Equation.lean ====
/- The output projection's result array is the reference's. -/
module

public import proofs.«01_k».proof.Proof.Out.Entry
public import proofs.«01_k».proof.Proof.Out.Blocks
public import proofs.«01_k».proof.Proof.Out.Ref

@[expose] public section

set_option maxRecDepth 100000

noncomputable section

namespace Cert.Kernel6Ideal.Value

open Cert.Kernel6Ideal Cert.Kernel6Ideal.Gen Idealize.ShloMosaic Idealize.ShloMosaic.TcCoe Idealize.SL.Sem

variable (m : (ℓ : Loc nD τ sig) → Buf (Elt Ideal) ℓ)

/-- The reference's result over the kernel's argument arrays. -/
def refOut (c : Dev nD) : FVec Ideal S8704x2048 .f32 :=
  Cert.Reference6Ideal.Value.res (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem mix_congr {x x' : EReal} {a a' b b' : Fin 512 → EReal} {o o' : Fin 8 → Fin 256 → EReal} {v v' : Fin 256 → Fin 8 → Fin 128 → EReal}
    {w w' : Fin 2048 → EReal} (h0 : x = x') (h1 : a = a') (h2 : b = b') (h3 : o = o') (h4 : v = v') (h5 : w = w') :
    Layer.mix x a b (Layer.head o v) w = Layer.mix x' a' b' (Layer.head o' v') w' := by
  subst h0 h1 h2 h3 h4 h5
  rfl

/-- What a grid point leaves. -/
theorem point (c : Dev nD) (t : Fin cfg0.N) (r : Fin 512) (k : Fin 2048) (n : Fin 8704) (hn : n.val = t.val * 512 + r.val) :
    outsAt0 m c t (ix2 r k) = refOut m c (ix2 n k) := by
  have ht : t.val < 17 := lt_of_lt_of_eq t.isLt N_0
  by_cases h : t.val < 16
  · have hl : n.val < 8192 := by omega
    refine (outs_pos m c t h r k).trans (Eq.trans ?_ (Cert.Reference6Ideal.Value.res_pos _ _ _ _ _ _ _ _ _ _ n k hl).symm)
    exact mix_congr ((b0_at m c t r k n hn).trans (dif_pos hl)) (funext fun j => b1_at m c t h r j ⟨n.val, hl⟩ hn)
      (funext fun j => b3_at m c t h r j ⟨n.val, hl⟩ hn) (funext fun a => funext fun q => b5_at m c t h r a q ⟨n.val, hl⟩ hn)
      (funext fun q => funext fun a => funext fun e => b7_at m c t a q e) (funext fun j => b8_at m c t j k)
  · have hl : ¬ n.val < 8192 := by omega
    have er : r = ⟨n.val - 8192, by omega⟩ := Fin.ext (show r.val = n.val - 8192 by omega)
    rw [er]
    refine (outs_neg m c t h _ k).trans (Eq.trans ?_ (Cert.Reference6Ideal.Value.res_neg _ _ _ _ _ _ _ _ _ _ n k hl).symm)
    exact mix_congr ((b0_at m c t _ k n (by show n.val = t.val * 512 + (n.val - 8192); omega)).trans (dif_neg hl)) (funext fun j => b2_at m c t _ j)
      (funext fun j => b4_at m c t _ j) (funext fun a => funext fun q => b6_at m c t _ a q)
      (funext fun q => funext fun a => funext fun e => b7_at m c t a q e) (funext fun j => b8_at m c t j k)

theorem final (c : Dev nD) : (dats m 0 c).arrAt 9 (cfgs 0).N = refOut m c := by
  generalize hG : refOut m c = G
  refine (dats m 0 c).arrAt_eq_of_covers 9 G (by decide +kernel) fun t hf y => ?_
  idx_vars y
  have ht : t.val < 17 := lt_of_lt_of_eq t.isLt N_0
  have hb := point m c t y0 y1 ⟨t.val * 512 + y0.val, by omega⟩ rfl
  rw [hG] at hb
  blk_simp
  rw [after0_9]
  refine hb.trans ?_
  blk_ext [idx t]

end Cert.Kernel6Ideal.Value

end
-- ==== Proof.Ret.Spec.lean ====
/- The retention's state of one sequence and one head: the turned keys and the sums over a grid point's rows. -/
module

public import proofs.«01_k».proof.Proof.Row

@[expose] public section

noncomputable section

namespace Layer

open Idealize.ShloMosaic

/-- The angle of position `p` in lane `j` of 64. -/
def bend (p : BitVec 32) (j : Fin 64) : EReal :=
  (FloatOps.sitofp .f32 p : Ideal .f32) * Ideal.pow (Ideal.ofBits FTy.f32 1176256512#32)
    (Ideal.div (-(Ideal.ofBits FTy.f32 1073741824#32 * (FloatOps.sitofp .f32 (BitVec.ofNat 32 j.val) : Ideal .f32))) (Ideal.ofBits FTy.f32 1124073472#32))

/-- The cosine and the sine of the sample's position `i` in lane `j`. -/
def bendCos (i : Fin 4) (j : Fin 64) : EReal := Ideal.cos (bend (8192#32 + BitVec.ofNat 32 i.val) j)

def bendSin (i : Fin 4) (j : Fin 64) : EReal := Ideal.sin (bend (8192#32 + BitVec.ofNat 32 i.val) j)

/-- The halves of 128 lanes turned by the angles with cosines `co` and sines `si`. -/
def swing (co si : Fin 64 → EReal) (x : Fin 128 → EReal) (l : Fin 128) : EReal :=
  if h : l.val < 64 then x l * co ⟨l.val, h⟩ - x ⟨l.val + 64, by omega⟩ * si ⟨l.val, h⟩
  else x l * co ⟨l.val - 64, by omega⟩ + x ⟨l.val - 64, by omega⟩ * si ⟨l.val - 64, by omega⟩

/-- The cosines of both halves. -/
def pair (co : Fin 64 → EReal) (l : Fin 128) : EReal :=
  if h : l.val < 64 then co ⟨l.val, h⟩ else co ⟨l.val - 64, by omega⟩

/-- The sines of both halves, the first with its sign changed. -/
def sign (si : Fin 64 → EReal) (l : Fin 128) : EReal :=
  if h : l.val < 64 then -si ⟨l.val, h⟩ else si ⟨l.val - 64, by omega⟩

theorem swing_eq (co si : Fin 64 → EReal) (x : Fin 128 → EReal) (l : Fin 128) :
    x l * pair co l + x ⟨(l.val + 128 - 64) % 128, Nat.mod_lt _ (by decide)⟩ * sign si l = swing co si x l := by
  unfold swing pair sign
  by_cases h : l.val < 64
  · rw [dif_pos h, dif_pos h, dif_pos h, mul_neg, sub_eq_add_neg]
    rw [show (⟨(l.val + 128 - 64) % 128, Nat.mod_lt _ (by decide)⟩ : Fin 128) = ⟨l.val + 64, by omega⟩ from Fin.ext (by show (l.val + 128 - 64) % 128 = l.val + 64; omega)]
  · rw [dif_neg h, dif_neg h, dif_neg h]
    rw [show (⟨(l.val + 128 - 64) % 128, Nat.mod_lt _ (by decide)⟩ : Fin 128) = ⟨l.val - 64, by omega⟩ from Fin.ext (by show (l.val + 128 - 64) % 128 = l.val - 64; omega)]

/-- The new state at an entry of lane `d`: the old one `p` scaled by `w`, and the turned keys `k`, scaled and decayed by
    `g`, against the values `v`. -/
def keep (p w : EReal) (k : Fin 4 → Fin 128 → EReal) (g v : Fin 4 → EReal) (d : Fin 128) : EReal :=
  p * w + ∑ j : Fin 4, swing (bendCos j) (bendSin j) (k j) d * Ideal.ofBits .f32 0x3DB504F3#32 * g j * v j

/-- The sequences' numbers. -/
def word : Fin 8 → BitVec 32 := ![0x00000000#32, 0x3F800000#32, 0x40000000#32, 0x40400000#32, 0x40800000#32, 0x40A00000#32, 0x40C00000#32, 0x40E00000#32]

/-- The heads' decays over a sequence. -/
def dec : Fin 4 → BitVec 32 := ![0x3F617810#32, 0x3F705F01#32, 0x3F7817E0#32, 0x3F7C05FC#32]

theorem word_eq (s : Fin 8) : Ideal.ofBits .f32 (word s) = ((s.val : ℝ) : EReal) := by
  fin_cases s <;> simp [word, Ideal.ofBits, Ideal.ieee, -EReal.coe_mul] <;> norm_num

theorem count_eq (a : Fin 8) : (FloatOps.sitofp .f32 (BitVec.ofNat 32 a.val) : Ideal .f32) = ((a.val : ℝ) : EReal) := by
  show (((BitVec.ofNat 32 a.val).toInt : ℝ) : EReal) = _
  fin_cases a <;> simp

/-- The sum over a grid point's rows, those of the other sequences left out, is the sum over the sequence's rows. -/
theorem sum_own (s : Fin 8) (g : Fin 32 → BitVec 1) (f v : Fin 32 → EReal)
    (hg : ∀ r : Fin 32, g r = FloatOps.cmpf .oeq (FloatOps.sitofp .f32 (BitVec.ofNat 32 (r.val / 4)) : Ideal .f32) (Ideal.ofBits .f32 (word s))) :
    ∑ r : Fin 32, Scalar.select (g r) (f r) 0 * v r = ∑ j : Fin 4, f ⟨s.val * 4 + j.val, by omega⟩ * v ⟨s.val * 4 + j.val, by omega⟩ := by
  have e : ∀ r : Fin 32, Scalar.select (g r) (f r) 0 * v r = if r.val / 4 = s.val then f r * v r else 0 := by
    intro r
    rw [hg r, count_eq ⟨r.val / 4, by omega⟩, word_eq]
    by_cases h : r.val / 4 = s.val
    · simp [Scalar.select, FloatOps.cmpf, Ideal.cmp, h]
    · simp [Scalar.select, FloatOps.cmpf, Ideal.cmp, h]
  rw [Finset.sum_congr rfl fun r _ => e r]
  show ∑ r : Fin (8 * 4), (if r.val / 4 = s.val then f r * v r else 0) = _
  rw [← (finProdFinEquiv (m := 8) (n := 4)).sum_comp, Fintype.sum_prod_type, Finset.sum_eq_single s]
  · refine Finset.sum_congr rfl fun j _ => ?_
    have hv : (finProdFinEquiv (m := 8) (n := 4) (s, j)).val = j.val + 4 * s.val := rfl
    have hi : (finProdFinEquiv (m := 8) (n := 4) (s, j) : Fin 32) = ⟨s.val * 4 + j.val, by omega⟩ := Fin.ext (by rw [hv]; show _ = s.val * 4 + j.val; omega)
    rw [if_pos (by rw [hv]; omega)]
    exact congrArg (fun r : Fin 32 => f r * v r) hi
  · intro a _ ha
    refine Finset.sum_eq_zero fun j _ => if_neg ?_
    have hv : (finProdFinEquiv (m := 8) (n := 4) (a, j)).val = j.val + 4 * a.val := rfl
    rw [hv]
    intro h
    exact ha (Fin.ext (by omega))
  · intro h
    exact absurd (Finset.mem_univ s) h

end Layer

end
-- ==== Proof.Ret.Entry.lean ====
/- What a grid point of the retention's call leaves of the state, at an index of its block. -/
module

public import proofs.«01_k».proof.Proof.Gen.Kernel7Ideal.Value
public import proofs.«01_k».proof.Proof.Ret.Spec
public import Idealize.ShloMosaic.Lib.Pipeline.ValueKit
public import Idealize.ShloMosaic.Lib.Pointwise

@[expose] public section

set_option maxRecDepth 100000

noncomputable section

namespace Cert.Kernel7Ideal.Value

open Cert.Kernel7Ideal Cert.Kernel7Ideal.Gen Idealize.ShloMosaic Idealize.ShloMosaic.TcCoe Idealize.SL.Sem

/-- One sequence's new state of one head: the old one scaled, and the sequence's keys against their values. -/
def cell (ws wc : BitVec 32) (co si k v kd rs : FVec Ideal S32x128 .f32) (s0 : FVec Ideal S1x1x1x128x128 .f32) : FVec Ideal S1x1x128x128 .f32 :=
  shapeCast S1x1x128x128 (addf (mulf (shapeCast S128x128 s0 shapeCasts_S1x1x1x128x128_S128x128) (broadcast S128x128 (Scalar.ofBits .f32 wc)))
    (matmul dot_S32x128_S32x128_S128x128_0_0_1_1_n_n none
      (truncf .bf16 (select (cmpf .oeq (shapeCast S32x128 rs shapeCasts_S32x128_S32x128) (broadcast S32x128 (Scalar.ofBits .f32 ws)))
        (mulf (mulf (addf (mulf (shapeCast S32x128 k shapeCasts_S32x128_S32x128) (shapeCast S32x128 co shapeCasts_S32x128_S32x128))
            (mulf (dynamicRotate 1 64#32 none (shapeCast S32x128 k shapeCasts_S32x128_S32x128) rotates_S32x128_d1) (shapeCast S32x128 si shapeCasts_S32x128_S32x128)))
            (broadcast S32x128 (Scalar.ofBits .f32 0x3DB504F3#32)))
          (shapeCast S32x128 kd shapeCasts_S32x128_S32x128))
        (broadcast S32x128 (Scalar.ofBits .f32 0x00000000#32))) bitsLt_bf16_f32)
      (truncf .bf16 (shapeCast S32x128 v shapeCasts_S32x128_S32x128) bitsLt_bf16_f32)
      (constant S128x128 .f32 0x00000000#32))) shapeCasts_S128x128_S1x1x128x128

/-- The state at an entry: `p` the old one, `k j d` the keys and `k' j d` their other halves, `v` the values. -/
def sumOf (wc : BitVec 32) (p : EReal) (t : Fin 32 → BitVec 1) (co si k k' kd v : Fin 32 → EReal) : EReal :=
  p * Ideal.ofBits .f32 wc
    + ∑ r : Fin 32, Scalar.select (t r) ((k r * co r + k' r * si r) * Ideal.ofBits .f32 0x3DB504F3#32 * kd r) 0 * v r

theorem cell_at (ws wc : BitVec 32) (co si k v kd rs : FVec Ideal S32x128 .f32) (s0 : FVec Ideal S1x1x1x128x128 .f32) (i j : Fin 1) (d e : Fin 128) :
    cell ws wc co si k v kd rs s0 (ix4 i j d e) = sumOf wc (s0 (ix5 0 0 0 d e)) (fun r => FloatOps.cmpf .oeq (rs (ix2 r d)) (Ideal.ofBits .f32 ws))
      (fun r => co (ix2 r d)) (fun r => si (ix2 r d)) (fun r => k (ix2 r d)) (fun r => k (ix2 r ⟨(d.val + 128 - 64) % 128, Nat.mod_lt _ (by decide)⟩))
      (fun r => kd (ix2 r d)) (fun r => v (ix2 r e)) := by
  unfold sumOf
  pointwise [cell]

theorem ld2 (w : Vec Ideal S32x512 .f32) (o : ℕ) (ho : ∀ a, ![0, o] a + S32x128.size a ≤ S32x512.size a) (hs : o + 128 ≤ 512) (r : Fin 32) (d : Fin 128) :
    View.ld w (Rect.unit (s := S32x512) ![0, o] S32x128.size ho) (ix2 r d) = w (ix2 r ⟨o + d.val, by omega⟩) := by
  refine congrArg w (funext fun a => Fin.ext ?_)
  fin_cases a
  · show 0 + 1 * r.val = r.val; omega
  · show o + 1 * d.val = o + d.val; omega

theorem ld5 (w : Vec Ideal S1x8x4x128x128 .f32) (s h : ℕ) (ho : ∀ a, ![0, s, h, 0, 0] a + S1x1x1x128x128.size a ≤ S1x8x4x128x128.size a) (hs : s < 8) (hh : h < 4) (d e : Fin 128) :
    View.ld w (Rect.unit (s := S1x8x4x128x128) ![0, s, h, 0, 0] S1x1x1x128x128.size ho) (ix5 0 0 0 d e) = w (ix5 0 ⟨s, hs⟩ ⟨h, hh⟩ d e) := by
  refine congrArg w (funext fun a => Fin.ext ?_)
  fin_cases a
  · rfl
  · show s + 1 * 0 = s; omega
  · show h + 1 * 0 = h; omega
  · show 0 + 1 * d.val = d.val; omega
  · show 0 + 1 * e.val = e.val; omega

theorem ld0 (w : Vec Ideal S32x128 .f32) : View.ld w r0_0 = w := by
  funext i
  refine congrArg w (funext fun a => Fin.ext ?_)
  fin_cases a
  · show 0 + 1 * (i 0).val = (i 0).val; omega
  · show 0 + 1 * (i 1).val = (i 1).val; omega

/-- A grid point's state at an index, of the blocks it reads. -/
def left (b1 b2 : Vec Ideal S32x512 .f32) (b4 b5 : Vec Ideal S32x128 .f32) (b8 : Vec Ideal S32x512 .f32) (b10 : Vec Ideal S32x128 .f32)
    (b11 : Vec Ideal S1x8x4x128x128 .f32) (s : Fin 8) (h : Fin 4) (d e : Fin 128) : EReal :=
  sumOf (Layer.dec h) (b11 (ix5 0 s h d e)) (fun r => FloatOps.cmpf .oeq (b10 (ix2 r d)) (Ideal.ofBits .f32 (Layer.word s)))
    (fun r => b4 (ix2 r d)) (fun r => b5 (ix2 r d)) (fun r => b1 (ix2 r ⟨h.val * 128 + d.val, by omega⟩))
    (fun r => b1 (ix2 r ⟨h.val * 128 + (d.val + 128 - 64) % 128, by omega⟩))
    (fun r => b8 (ix2 r ⟨h.val * 128 + d.val, by omega⟩)) (fun r => b2 (ix2 r ⟨h.val * 128 + e.val, by omega⟩))

theorem left_of (b1 b2 : Vec Ideal S32x512 .f32) (b4 b5 : Vec Ideal S32x128 .f32) (b8 : Vec Ideal S32x512 .f32) (b10 : Vec Ideal S32x128 .f32)
    (b11 : Vec Ideal S1x8x4x128x128 .f32) (o s h : ℕ) (hs : s < 8) (hh : h < 4) (eo : o = h * 128)
    (ho : ∀ a, ![0, o] a + S32x128.size a ≤ S32x512.size a)
    (hl : ∀ a, ![0, s, h, 0, 0] a + S1x1x1x128x128.size a ≤ S1x8x4x128x128.size a) (f : FVec Ideal S1x1x128x128 .f32)
    (hf : f = cell (Layer.word ⟨s, hs⟩) (Layer.dec ⟨h, hh⟩) (View.ld b4 r0_0 : Vec Ideal S32x128 .f32) (View.ld b5 r0_0 : Vec Ideal S32x128 .f32) (View.ld b1 (Rect.unit (s := S32x512) ![0, o] S32x128.size ho) : Vec Ideal S32x128 .f32)
      (View.ld b2 (Rect.unit (s := S32x512) ![0, o] S32x128.size ho) : Vec Ideal S32x128 .f32) (View.ld b8 (Rect.unit (s := S32x512) ![0, o] S32x128.size ho) : Vec Ideal S32x128 .f32) (View.ld b10 r0_0 : Vec Ideal S32x128 .f32)
      (View.ld b11 (Rect.unit (s := S1x8x4x128x128) ![0, s, h, 0, 0] S1x1x1x128x128.size hl) : Vec Ideal S1x1x1x128x128 .f32))
    (i j : Fin 1) (d e : Fin 128) :
    f (ix4 i j d e)
      = left b1 b2 b4 b5 b8 b10 b11 ⟨s, hs⟩ ⟨h, hh⟩ d e := by
  subst eo hf
  rw [cell_at, ld0, ld0, ld0, ld5 b11 s h hl hs hh]
  unfold left
  rw [funext fun r => ld2 b1 _ ho (by omega) r d, funext fun r => ld2 b1 _ ho (by omega) r ⟨(d.val + 128 - 64) % 128, Nat.mod_lt _ (by decide)⟩,
    funext fun r => ld2 b8 _ ho (by omega) r d, funext fun r => ld2 b2 _ ho (by omega) r e]

theorem left_eq (b1 b2 : Vec Ideal S32x512 .f32) (b4 b5 : Vec Ideal S32x128 .f32) (b8 : Vec Ideal S32x512 .f32) (b10 : Vec Ideal S32x128 .f32)
    (b11 : Vec Ideal S1x8x4x128x128 .f32) (s : Fin 8) (h : Fin 4) (d e : Fin 128) (a b : ℕ) (ha : a < 8) (hb : b < 4) (x : S1x1x128x128.Idx)
    (h0 : s.val = a) (h1 : h.val = b) (h2 : d.val = (x 2).val) (h3 : e.val = (x 3).val) :
    ∃ i j : Fin 1, x = ix4 i j d e ∧ left b1 b2 b4 b5 b8 b10 b11 ⟨a, ha⟩ ⟨b, hb⟩ d e = left b1 b2 b4 b5 b8 b10 b11 s h d e := by
  have e0 : s = ⟨a, ha⟩ := Fin.ext h0
  have e1 : h = ⟨b, hb⟩ := Fin.ext h1
  refine ⟨x 0, x 1, ?_, by rw [e0, e1]⟩
  rw [show d = x 2 from Fin.ext h2, show e = x 3 from Fin.ext h3]
  exact eq_ix4 x

set_option maxHeartbeats 2000000 in
theorem outs (b0 b1 b2 b3 : Vec Ideal S32x512 .f32) (b4 b5 : Vec Ideal S32x128 .f32) (b6 : Vec Ideal S4x32x32 .f32) (b7 b8 : Vec Ideal S32x512 .f32)
    (b9 : Vec Ideal S1x512 .f32) (b10 : Vec Ideal S32x128 .f32) (b11 : Vec Ideal S1x8x4x128x128 .f32) (s : Fin 8) (h : Fin 4) (d e : Fin 128) :
    out0_13 b0 b1 b2 b3 b4 b5 b6 b7 b8 b9 b10 b11 (ix4 s h d e) = left b1 b2 b4 b5 b8 b10 b11 s h d e := by
  unfold_out out0_13
  canon_tiles x hx using (View.cover_of_tiledBy _ ![1, 1, 128, 128] (by sl_kernel_rfl) _)
  · obtain ⟨i, j, rfl, hq⟩ := left_eq b1 b2 b4 b5 b8 b10 b11 s h d e 7 3 (by decide) (by decide) x (by have : s.val = _ := hx0; omega) (by have : h.val = _ := hx1; omega) hx2 hx3
    refine (left_of b1 b2 b4 b5 b8 b10 b11 384 7 3 (by decide) (by decide) rfl inb_S32x512_S32x128_0_384 inb_S1x8x4x128x128_S1x1x1x128x128_0_7_3_0_0 _ ?_ i j d e).trans hq
    rfl
  · obtain ⟨i, j, rfl, hq⟩ := left_eq b1 b2 b4 b5 b8 b10 b11 s h d e 6 3 (by decide) (by decide) x (by have : s.val = _ := hx0; omega) (by have : h.val = _ := hx1; omega) hx2 hx3
    refine (left_of b1 b2 b4 b5 b8 b10 b11 384 6 3 (by decide) (by decide) rfl inb_S32x512_S32x128_0_384 inb_S1x8x4x128x128_S1x1x1x128x128_0_6_3_0_0 _ ?_ i j d e).trans hq
    rfl
  · obtain ⟨i, j, rfl, hq⟩ := left_eq b1 b2 b4 b5 b8 b10 b11 s h d e 5 3 (by decide) (by decide) x (by have : s.val = _ := hx0; omega) (by have : h.val = _ := hx1; omega) hx2 hx3
    refine (left_of b1 b2 b4 b5 b8 b10 b11 384 5 3 (by decide) (by decide) rfl inb_S32x512_S32x128_0_384 inb_S1x8x4x128x128_S1x1x1x128x128_0_5_3_0_0 _ ?_ i j d e).trans hq
    rfl
  · obtain ⟨i, j, rfl, hq⟩ := left_eq b1 b2 b4 b5 b8 b10 b11 s h d e 4 3 (by decide) (by decide) x (by have : s.val = _ := hx0; omega) (by have : h.val = _ := hx1; omega) hx2 hx3
    refine (left_of b1 b2 b4 b5 b8 b10 b11 384 4 3 (by decide) (by decide) rfl inb_S32x512_S32x128_0_384 inb_S1x8x4x128x128_S1x1x1x128x128_0_4_3_0_0 _ ?_ i j d e).trans hq
    rfl
  · obtain ⟨i, j, rfl, hq⟩ := left_eq b1 b2 b4 b5 b8 b10 b11 s h d e 3 3 (by decide) (by decide) x (by have : s.val = _ := hx0; omega) (by have : h.val = _ := hx1; omega) hx2 hx3
    refine (left_of b1 b2 b4 b5 b8 b10 b11 384 3 3 (by decide) (by decide) rfl inb_S32x512_S32x128_0_384 inb_S1x8x4x128x128_S1x1x1x128x128_0_3_3_0_0 _ ?_ i j d e).trans hq
    rfl
  · obtain ⟨i, j, rfl, hq⟩ := left_eq b1 b2 b4 b5 b8 b10 b11 s h d e 2 3 (by decide) (by decide) x (by have : s.val = _ := hx0; omega) (by have : h.val = _ := hx1; omega) hx2 hx3
    refine (left_of b1 b2 b4 b5 b8 b10 b11 384 2 3 (by decide) (by decide) rfl inb_S32x512_S32x128_0_384 inb_S1x8x4x128x128_S1x1x1x128x128_0_2_3_0_0 _ ?_ i j d e).trans hq
    rfl
  · obtain ⟨i, j, rfl, hq⟩ := left_eq b1 b2 b4 b5 b8 b10 b11 s h d e 1 3 (by decide) (by decide) x (by have : s.val = _ := hx0; omega) (by have : h.val = _ := hx1; omega) hx2 hx3
    refine (left_of b1 b2 b4 b5 b8 b10 b11 384 1 3 (by decide) (by decide) rfl inb_S32x512_S32x128_0_384 inb_S1x8x4x128x128_S1x1x1x128x128_0_1_3_0_0 _ ?_ i j d e).trans hq
    rfl
  · obtain ⟨i, j, rfl, hq⟩ := left_eq b1 b2 b4 b5 b8 b10 b11 s h d e 0 3 (by decide) (by decide) x (by have : s.val = _ := hx0; omega) (by have : h.val = _ := hx1; omega) hx2 hx3
    refine (left_of b1 b2 b4 b5 b8 b10 b11 384 0 3 (by decide) (by decide) rfl inb_S32x512_S32x128_0_384 inb_S1x8x4x128x128_S1x1x1x128x128_0_0_3_0_0 _ ?_ i j d e).trans hq
    rfl
  · obtain ⟨i, j, rfl, hq⟩ := left_eq b1 b2 b4 b5 b8 b10 b11 s h d e 7 2 (by decide) (by decide) x (by have : s.val = _ := hx0; omega) (by have : h.val = _ := hx1; omega) hx2 hx3
    refine (left_of b1 b2 b4 b5 b8 b10 b11 256 7 2 (by decide) (by decide) rfl inb_S32x512_S32x128_0_256 inb_S1x8x4x128x128_S1x1x1x128x128_0_7_2_0_0 _ ?_ i j d e).trans hq
    rfl
  · obtain ⟨i, j, rfl, hq⟩ := left_eq b1 b2 b4 b5 b8 b10 b11 s h d e 6 2 (by decide) (by decide) x (by have : s.val = _ := hx0; omega) (by have : h.val = _ := hx1; omega) hx2 hx3
    refine (left_of b1 b2 b4 b5 b8 b10 b11 256 6 2 (by decide) (by decide) rfl inb_S32x512_S32x128_0_256 inb_S1x8x4x128x128_S1x1x1x128x128_0_6_2_0_0 _ ?_ i j d e).trans hq
    rfl
  · obtain ⟨i, j, rfl, hq⟩ := left_eq b1 b2 b4 b5 b8 b10 b11 s h d e 5 2 (by decide) (by decide) x (by have : s.val = _ := hx0; omega) (by have : h.val = _ := hx1; omega) hx2 hx3
    refine (left_of b1 b2 b4 b5 b8 b10 b11 256 5 2 (by decide) (by decide) rfl inb_S32x512_S32x128_0_256 inb_S1x8x4x128x128_S1x1x1x128x128_0_5_2_0_0 _ ?_ i j d e).trans hq
    rfl
  · obtain ⟨i, j, rfl, hq⟩ := left_eq b1 b2 b4 b5 b8 b10 b11 s h d e 4 2 (by decide) (by decide) x (by have : s.val = _ := hx0; omega) (by have : h.val = _ := hx1; omega) hx2 hx3
    refine (left_of b1 b2 b4 b5 b8 b10 b11 256 4 2 (by decide) (by decide) rfl inb_S32x512_S32x128_0_256 inb_S1x8x4x128x128_S1x1x1x128x128_0_4_2_0_0 _ ?_ i j d e).trans hq
    rfl
  · obtain ⟨i, j, rfl, hq⟩ := left_eq b1 b2 b4 b5 b8 b10 b11 s h d e 3 2 (by decide) (by decide) x (by have : s.val = _ := hx0; omega) (by have : h.val = _ := hx1; omega) hx2 hx3
    refine (left_of b1 b2 b4 b5 b8 b10 b11 256 3 2 (by decide) (by decide) rfl inb_S32x512_S32x128_0_256 inb_S1x8x4x128x128_S1x1x1x128x128_0_3_2_0_0 _ ?_ i j d e).trans hq
    rfl
  · obtain ⟨i, j, rfl, hq⟩ := left_eq b1 b2 b4 b5 b8 b10 b11 s h d e 2 2 (by decide) (by decide) x (by have : s.val = _ := hx0; omega) (by have : h.val = _ := hx1; omega) hx2 hx3
    refine (left_of b1 b2 b4 b5 b8 b10 b11 256 2 2 (by decide) (by decide) rfl inb_S32x512_S32x128_0_256 inb_S1x8x4x128x128_S1x1x1x128x128_0_2_2_0_0 _ ?_ i j d e).trans hq
    rfl
  · obtain ⟨i, j, rfl, hq⟩ := left_eq b1 b2 b4 b5 b8 b10 b11 s h d e 1 2 (by decide) (by decide) x (by have : s.val = _ := hx0; omega) (by have : h.val = _ := hx1; omega) hx2 hx3
    refine (left_of b1 b2 b4 b5 b8 b10 b11 256 1 2 (by decide) (by decide) rfl inb_S32x512_S32x128_0_256 inb_S1x8x4x128x128_S1x1x1x128x128_0_1_2_0_0 _ ?_ i j d e).trans hq
    rfl
  · obtain ⟨i, j, rfl, hq⟩ := left_eq b1 b2 b4 b5 b8 b10 b11 s h d e 0 2 (by decide) (by decide) x (by have : s.val = _ := hx0; omega) (by have : h.val = _ := hx1; omega) hx2 hx3
    refine (left_of b1 b2 b4 b5 b8 b10 b11 256 0 2 (by decide) (by decide) rfl inb_S32x512_S32x128_0_256 inb_S1x8x4x128x128_S1x1x1x128x128_0_0_2_0_0 _ ?_ i j d e).trans hq
    rfl
  · obtain ⟨i, j, rfl, hq⟩ := left_eq b1 b2 b4 b5 b8 b10 b11 s h d e 7 1 (by decide) (by decide) x (by have : s.val = _ := hx0; omega) (by have : h.val = _ := hx1; omega) hx2 hx3
    refine (left_of b1 b2 b4 b5 b8 b10 b11 128 7 1 (by decide) (by decide) rfl inb_S32x512_S32x128_0_128 inb_S1x8x4x128x128_S1x1x1x128x128_0_7_1_0_0 _ ?_ i j d e).trans hq
    rfl
  · obtain ⟨i, j, rfl, hq⟩ := left_eq b1 b2 b4 b5 b8 b10 b11 s h d e 6 1 (by decide) (by decide) x (by have : s.val = _ := hx0; omega) (by have : h.val = _ := hx1; omega) hx2 hx3
    refine (left_of b1 b2 b4 b5 b8 b10 b11 128 6 1 (by decide) (by decide) rfl inb_S32x512_S32x128_0_128 inb_S1x8x4x128x128_S1x1x1x128x128_0_6_1_0_0 _ ?_ i j d e).trans hq
    rfl
  · obtain ⟨i, j, rfl, hq⟩ := left_eq b1 b2 b4 b5 b8 b10 b11 s h d e 5 1 (by decide) (by decide) x (by have : s.val = _ := hx0; omega) (by have : h.val = _ := hx1; omega) hx2 hx3
    refine (left_of b1 b2 b4 b5 b8 b10 b11 128 5 1 (by decide) (by decide) rfl inb_S32x512_S32x128_0_128 inb_S1x8x4x128x128_S1x1x1x128x128_0_5_1_0_0 _ ?_ i j d e).trans hq
    rfl
  · obtain ⟨i, j, rfl, hq⟩ := left_eq b1 b2 b4 b5 b8 b10 b11 s h d e 4 1 (by decide) (by decide) x (by have : s.val = _ := hx0; omega) (by have : h.val = _ := hx1; omega) hx2 hx3
    refine (left_of b1 b2 b4 b5 b8 b10 b11 128 4 1 (by decide) (by decide) rfl inb_S32x512_S32x128_0_128 inb_S1x8x4x128x128_S1x1x1x128x128_0_4_1_0_0 _ ?_ i j d e).trans hq
    rfl
  · obtain ⟨i, j, rfl, hq⟩ := left_eq b1 b2 b4 b5 b8 b10 b11 s h d e 3 1 (by decide) (by decide) x (by have : s.val = _ := hx0; omega) (by have : h.val = _ := hx1; omega) hx2 hx3
    refine (left_of b1 b2 b4 b5 b8 b10 b11 128 3 1 (by decide) (by decide) rfl inb_S32x512_S32x128_0_128 inb_S1x8x4x128x128_S1x1x1x128x128_0_3_1_0_0 _ ?_ i j d e).trans hq
    rfl
  · obtain ⟨i, j, rfl, hq⟩ := left_eq b1 b2 b4 b5 b8 b10 b11 s h d e 2 1 (by decide) (by decide) x (by have : s.val = _ := hx0; omega) (by have : h.val = _ := hx1; omega) hx2 hx3
    refine (left_of b1 b2 b4 b5 b8 b10 b11 128 2 1 (by decide) (by decide) rfl inb_S32x512_S32x128_0_128 inb_S1x8x4x128x128_S1x1x1x128x128_0_2_1_0_0 _ ?_ i j d e).trans hq
    rfl
  · obtain ⟨i, j, rfl, hq⟩ := left_eq b1 b2 b4 b5 b8 b10 b11 s h d e 1 1 (by decide) (by decide) x (by have : s.val = _ := hx0; omega) (by have : h.val = _ := hx1; omega) hx2 hx3
    refine (left_of b1 b2 b4 b5 b8 b10 b11 128 1 1 (by decide) (by decide) rfl inb_S32x512_S32x128_0_128 inb_S1x8x4x128x128_S1x1x1x128x128_0_1_1_0_0 _ ?_ i j d e).trans hq
    rfl
  · obtain ⟨i, j, rfl, hq⟩ := left_eq b1 b2 b4 b5 b8 b10 b11 s h d e 0 1 (by decide) (by decide) x (by have : s.val = _ := hx0; omega) (by have : h.val = _ := hx1; omega) hx2 hx3
    refine (left_of b1 b2 b4 b5 b8 b10 b11 128 0 1 (by decide) (by decide) rfl inb_S32x512_S32x128_0_128 inb_S1x8x4x128x128_S1x1x1x128x128_0_0_1_0_0 _ ?_ i j d e).trans hq
    rfl
  · obtain ⟨i, j, rfl, hq⟩ := left_eq b1 b2 b4 b5 b8 b10 b11 s h d e 7 0 (by decide) (by decide) x (by have : s.val = _ := hx0; omega) (by have : h.val = _ := hx1; omega) hx2 hx3
    refine (left_of b1 b2 b4 b5 b8 b10 b11 0 7 0 (by decide) (by decide) rfl inb_S32x512_S32x128_0_0 inb_S1x8x4x128x128_S1x1x1x128x128_0_7_0_0_0 _ ?_ i j d e).trans hq
    rfl
  · obtain ⟨i, j, rfl, hq⟩ := left_eq b1 b2 b4 b5 b8 b10 b11 s h d e 6 0 (by decide) (by decide) x (by have : s.val = _ := hx0; omega) (by have : h.val = _ := hx1; omega) hx2 hx3
    refine (left_of b1 b2 b4 b5 b8 b10 b11 0 6 0 (by decide) (by decide) rfl inb_S32x512_S32x128_0_0 inb_S1x8x4x128x128_S1x1x1x128x128_0_6_0_0_0 _ ?_ i j d e).trans hq
    rfl
  · obtain ⟨i, j, rfl, hq⟩ := left_eq b1 b2 b4 b5 b8 b10 b11 s h d e 5 0 (by decide) (by decide) x (by have : s.val = _ := hx0; omega) (by have : h.val = _ := hx1; omega) hx2 hx3
    refine (left_of b1 b2 b4 b5 b8 b10 b11 0 5 0 (by decide) (by decide) rfl inb_S32x512_S32x128_0_0 inb_S1x8x4x128x128_S1x1x1x128x128_0_5_0_0_0 _ ?_ i j d e).trans hq
    rfl
  · obtain ⟨i, j, rfl, hq⟩ := left_eq b1 b2 b4 b5 b8 b10 b11 s h d e 4 0 (by decide) (by decide) x (by have : s.val = _ := hx0; omega) (by have : h.val = _ := hx1; omega) hx2 hx3
    refine (left_of b1 b2 b4 b5 b8 b10 b11 0 4 0 (by decide) (by decide) rfl inb_S32x512_S32x128_0_0 inb_S1x8x4x128x128_S1x1x1x128x128_0_4_0_0_0 _ ?_ i j d e).trans hq
    rfl
  · obtain ⟨i, j, rfl, hq⟩ := left_eq b1 b2 b4 b5 b8 b10 b11 s h d e 3 0 (by decide) (by decide) x (by have : s.val = _ := hx0; omega) (by have : h.val = _ := hx1; omega) hx2 hx3
    refine (left_of b1 b2 b4 b5 b8 b10 b11 0 3 0 (by decide) (by decide) rfl inb_S32x512_S32x128_0_0 inb_S1x8x4x128x128_S1x1x1x128x128_0_3_0_0_0 _ ?_ i j d e).trans hq
    rfl
  · obtain ⟨i, j, rfl, hq⟩ := left_eq b1 b2 b4 b5 b8 b10 b11 s h d e 2 0 (by decide) (by decide) x (by have : s.val = _ := hx0; omega) (by have : h.val = _ := hx1; omega) hx2 hx3
    refine (left_of b1 b2 b4 b5 b8 b10 b11 0 2 0 (by decide) (by decide) rfl inb_S32x512_S32x128_0_0 inb_S1x8x4x128x128_S1x1x1x128x128_0_2_0_0_0 _ ?_ i j d e).trans hq
    rfl
  · obtain ⟨i, j, rfl, hq⟩ := left_eq b1 b2 b4 b5 b8 b10 b11 s h d e 1 0 (by decide) (by decide) x (by have : s.val = _ := hx0; omega) (by have : h.val = _ := hx1; omega) hx2 hx3
    refine (left_of b1 b2 b4 b5 b8 b10 b11 0 1 0 (by decide) (by decide) rfl inb_S32x512_S32x128_0_0 inb_S1x8x4x128x128_S1x1x1x128x128_0_1_0_0_0 _ ?_ i j d e).trans hq
    rfl
  · obtain ⟨i, j, rfl, hq⟩ := left_eq b1 b2 b4 b5 b8 b10 b11 s h d e 0 0 (by decide) (by decide) x (by have : s.val = _ := hx0; omega) (by have : h.val = _ := hx1; omega) hx2 hx3
    refine (left_of b1 b2 b4 b5 b8 b10 b11 0 0 0 (by decide) (by decide) rfl inb_S32x512_S32x128_0_0 inb_S1x8x4x128x128_S1x1x1x128x128_0_0_0_0_0 _ ?_ i j d e).trans hq
    rfl

end Cert.Kernel7Ideal.Value

end
-- ==== Proof.Ret.Blocks.lean ====
/- The blocks the retention's kernel reads, as entries of its argument arrays. -/
module

public import proofs.«01_k».proof.Proof.Gen.Kernel7Ideal.Value
public import proofs.«01_k».proof.Proof.Ret.Spec
public import Idealize.ShloMosaic.Lib.Pipeline.ValueKit
public import Idealize.ShloMosaic.Lib.Pointwise

@[expose] public section

set_option maxRecDepth 100000

noncomputable section

namespace Cert.Kernel7Ideal.Value

open Cert.Kernel7Ideal Cert.Kernel7Ideal.Gen Idealize.ShloMosaic Idealize.ShloMosaic.TcCoe Idealize.SL.Sem

variable (m : (ℓ : Loc nD τ sig) → Buf (Elt Ideal) ℓ)

theorem idx : ∀ t : Fin cfg0.N, win0_1.index t = ![256 + t.val, 1] ∧ win0_2.index t = ![256 + t.val, 2]
    ∧ win0_4.index t = ![256 + t.val, 0] ∧ win0_5.index t = ![256 + t.val, 0] ∧ win0_8.index t = ![0, 0]
    ∧ win0_10.index t = ![0, 0] ∧ win0_11.index t = ![0, t.val, 0, 0, 0] ∧ win0_13.index t = ![t.val, 0, 0, 0] :=
  (by decide +kernel : ∀ t : Fin grid0.N, _)

/-- The sample's projection in the call's rows and columns. -/
def projHost (x : FVec Ideal S128x4x2048 .f32) : FVec Ideal S8704x6144 .f32 :=
  concatenate S8704x6144 0 [⟨S8192x6144, broadcastInDim S8192x6144 ![] bcast_S_S8192x6144 (constant S_ .f32 0x00000000#32)⟩, ⟨S512x6144, concatenate S512x6144 1 [⟨S512x2048, shapeCast _ x shapeCasts_S128x4x2048_S512x2048⟩, ⟨S512x4096, broadcastInDim S512x4096 ![] bcast_S_S512x4096 (constant S_ .f32 0x00000000#32)⟩] concatenates_S512x2048_S512x4096_S512x6144_d1⟩] concatenates_S8192x6144_S512x6144_S8704x6144_d0

theorem projHost_all (x : FVec Ideal S128x4x2048 .f32) (n : Fin 8704) (k : Fin 6144) :
    projHost x (ix2 n k) = if h : n.val < 8192 then 0 else if hk : k.val < 2048 then x (ix3 ⟨(n.val - 8192) / 4, by omega⟩ ⟨(n.val - 8192) % 4, by omega⟩ ⟨k.val, hk⟩) else 0 := by
  pointwise [projHost]
  all_goals rfl

theorem projHost_at (x : FVec Ideal S128x4x2048 .f32) (b : Fin 128) (j : Fin 4) (n : Fin 8704) (hn : n.val = 8192 + (b.val * 4 + j.val)) (k : Fin 6144) (q : Fin 2048) (hk : k.val = q.val) :
    projHost x (ix2 n k) = x (ix3 b j q) := by
  rw [projHost_all, dif_neg (by omega), dif_pos (by omega)]
  rw [show (⟨(n.val - 8192) / 4, by omega⟩ : Fin 128) = b from Fin.ext (by show (n.val - 8192) / 4 = b.val; omega),
    show (⟨(n.val - 8192) % 4, by omega⟩ : Fin 4) = j from Fin.ext (by show (n.val - 8192) % 4 = j.val; omega),
    show (⟨k.val, by omega⟩ : Fin 2048) = q from Fin.ext hk]

/-- The positions of the rows. -/
def posHost : IVec S8704 32 :=
  concatenate S8704 0 [⟨S8192, shapeCast _ (broadcastInDim S4x2048 ![0, 1] bcast_S1x2048_S4x2048_0_1 (shapeCast _ (iotaInDim S2048 32 0) shapeCasts_S2048_S1x2048)) shapeCasts_S4x2048_S8192⟩, ⟨S512, shapeCast _ (broadcastInDim S128x4 ![0, 1] bcast_S1x4_S128x4_0_1 (shapeCast _ (addi (broadcastInDim S4 ![] bcast_S_S4 (constantI S_ 32 8192#32)) (iotaInDim S4 32 0)) shapeCasts_S4_S1x4)) shapeCasts_S128x4_S512⟩] concatenates_S8192_S512_S8704_d0

theorem posHost_all (n : Fin 8704) : posHost (ix1 n) = if n.val < 8192 then BitVec.ofNat 32 (n.val % 2048) else 8192#32 + BitVec.ofNat 32 ((n.val - 8192) % 4) := by
  pointwise [posHost]
  rfl

theorem posHost_at (b : Fin 128) (j : Fin 4) (n : Fin 8704) (hn : n.val = 8192 + (b.val * 4 + j.val)) : posHost (ix1 n) = 8192#32 + BitVec.ofNat 32 j.val := by
  rw [posHost_all, if_neg (by omega), show (n.val - 8192) % 4 = j.val by omega]

/-- The angles of the rows. -/
def angHost (p : IVec S8704 32) : FVec Ideal S8704x64 .f32 :=
  mulf (broadcastInDim S8704x64 ![0, 1] bcast_S8704x1_S8704x64_0_1 (broadcastInDim S8704x1 ![0] bcast_S8704_S8704x1_0 (sitofp .f32 p))) (broadcastInDim S8704x64 ![0, 1] bcast_S1x64_S8704x64_0_1 (broadcastInDim S1x64 ![1] bcast_S64_S1x64_1 (Host.powf (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32))))))

theorem angHost_at (p : IVec S8704 32) (n : Fin 8704) (l : Fin 64) : angHost p (ix2 n l) = Layer.bend (p (ix1 n)) l := by
  pointwise [angHost]
  rfl

/-- The cosines, twice over. -/
def cosHost (a : FVec Ideal S8704x64 .f32) : FVec Ideal S8704x128 .f32 :=
  concatenate S8704x128 1 [⟨S8704x64, Host.cos a⟩, ⟨S8704x64, Host.cos a⟩] concatenates_S8704x64_S8704x64_S8704x128_d1

/-- The sines, with their signs changed first. -/
def sinHost (a : FVec Ideal S8704x64 .f32) : FVec Ideal S8704x128 .f32 :=
  concatenate S8704x128 1 [⟨S8704x64, Host.negf (Host.sin a)⟩, ⟨S8704x64, Host.sin a⟩] concatenates_S8704x64_S8704x64_S8704x128_d1

theorem cosHost_all (a : FVec Ideal S8704x64 .f32) (n : Fin 8704) (l : Fin 128) : cosHost a (ix2 n l) = Layer.pair (fun j => Ideal.cos (a (ix2 n j))) l := by
  pointwise [cosHost]
  rfl

theorem sinHost_all (a : FVec Ideal S8704x64 .f32) (n : Fin 8704) (l : Fin 128) : sinHost a (ix2 n l) = Layer.sign (fun j => Ideal.sin (a (ix2 n j))) l := by
  pointwise [sinHost]
  rfl

theorem cosHost_at (b : Fin 128) (j : Fin 4) (n : Fin 8704) (hn : n.val = 8192 + (b.val * 4 + j.val)) (l : Fin 128) :
    cosHost (angHost posHost) (ix2 n l) = Layer.pair (Layer.bendCos j) l := by
  rw [cosHost_all, funext fun q => congrArg Ideal.cos ((angHost_at posHost n q).trans (congrArg (fun p => Layer.bend p q) (posHost_at b j n hn)))]
  rfl

theorem sinHost_at (b : Fin 128) (j : Fin 4) (n : Fin 8704) (hn : n.val = 8192 + (b.val * 4 + j.val)) (l : Fin 128) :
    sinHost (angHost posHost) (ix2 n l) = Layer.sign (Layer.bendSin j) l := by
  rw [sinHost_all, funext fun q => congrArg Ideal.sin ((angHost_at posHost n q).trans (congrArg (fun p => Layer.bend p q) (posHost_at b j n hn)))]
  rfl

/-- The keys' decays, the same for each sequence and lane. -/
def decHost (d : FVec Ideal S4x4 .f32) : FVec Ideal S32x512 .f32 :=
  shapeCast S32x512 (broadcastInDim S8x4x4x128 ![0, 1, 2, 3] bcast_S1x4x4x1_S8x4x4x128_0_1_2_3 (broadcastInDim S1x4x4x1 ![1, 2] bcast_S4x4_S1x4x4x1_1_2 d)) shapeCasts_S8x4x4x128_S32x512

theorem decHost_all (d : FVec Ideal S4x4 .f32) (r : Fin 32) (k : Fin 512) : decHost d (ix2 r k) = d (ix2 ⟨r.val % 4, by omega⟩ ⟨k.val / 128, by omega⟩) := by
  pointwise [decHost]
  all_goals rfl

/-- The rows' sequences. -/
def seqHost : FVec Ideal S32x128 .f32 :=
  shapeCast S32x128 (broadcastInDim S8x4x128 ![0, 1, 2] bcast_S8x1x1_S8x4x128_0_1_2 (broadcastInDim S8x1x1 ![0] bcast_S8_S8x1x1_0 (sitofp .f32 (iotaInDim S8 32 0)))) shapeCasts_S8x4x128_S32x128

theorem seqHost_at (r : Fin 32) (l : Fin 128) : seqHost (ix2 r l) = (FloatOps.sitofp .f32 (BitVec.ofNat 32 (r.val / 4)) : Ideal .f32) := by
  pointwise [seqHost]
  all_goals rfl

theorem V_p (c : Dev nD) : V m c main_v4 = projHost (m ((c : Thread nD τ).loc main_arg0)) := by
  simp only [V, hostOps0]
  after_results_simp
  rfl

theorem V_c (c : Dev nD) : V m c main_v34 = cosHost (angHost posHost) := by
  simp only [V, hostOps0]
  after_results_simp
  rfl

theorem V_s (c : Dev nD) : V m c main_v36 = sinHost (angHost posHost) := by
  simp only [V, hostOps0]
  after_results_simp
  rfl

theorem V_d (c : Dev nD) : V m c main_v57 = decHost (fun i => FloatOps.ofBits .f32 (lit2 (S4x4.rowMajor i))) := by
  simp only [V, hostOps0]
  after_results_simp
  rfl

theorem V_q (c : Dev nD) : V m c main_v61 = seqHost := by
  simp only [V, hostOps0]
  after_results_simp
  rfl

theorem V_a (c : Dev nD) : V m c main_arg1 = m ((c : Thread nD τ).loc main_arg1) := by
  simp only [V, hostOps0]
  after_results_simp

theorem b1_at (c : Dev nD) (t : Fin cfg0.N) (r : Fin 32) (k : Fin 512) (b : Fin 128) (j : Fin 4) (hb : t.val * 32 + r.val = b.val * 4 + j.val) :
    iblk m c 1 t (ix2 r k) = (m ((c : Thread nD τ).loc main_arg0) : FVec Ideal S128x4x2048 .f32) (ix3 b j ⟨512 + k.val, by omega⟩) := by
  refine Eq.trans ?_ (projHost_at _ b j ⟨8192 + (b.val * 4 + j.val), by omega⟩ rfl ⟨512 + k.val, by omega⟩ ⟨512 + k.val, by omega⟩ rfl)
  blk_simp [iblk, idx t]
  refine (congrFun (V_p m c) _).trans ?_
  blk_ext [idx t]

theorem b2_at (c : Dev nD) (t : Fin cfg0.N) (r : Fin 32) (k : Fin 512) (b : Fin 128) (j : Fin 4) (hb : t.val * 32 + r.val = b.val * 4 + j.val) :
    iblk m c 2 t (ix2 r k) = (m ((c : Thread nD τ).loc main_arg0) : FVec Ideal S128x4x2048 .f32) (ix3 b j ⟨1024 + k.val, by omega⟩) := by
  refine Eq.trans ?_ (projHost_at _ b j ⟨8192 + (b.val * 4 + j.val), by omega⟩ rfl ⟨1024 + k.val, by omega⟩ ⟨1024 + k.val, by omega⟩ rfl)
  blk_simp [iblk, idx t]
  refine (congrFun (V_p m c) _).trans ?_
  blk_ext [idx t]

theorem b4_at (c : Dev nD) (t : Fin cfg0.N) (r : Fin 32) (l : Fin 128) (b : Fin 128) (j : Fin 4) (hb : t.val * 32 + r.val = b.val * 4 + j.val) :
    iblk m c 4 t (ix2 r l) = Layer.pair (Layer.bendCos j) l := by
  refine Eq.trans ?_ (cosHost_at b j ⟨8192 + (b.val * 4 + j.val), by omega⟩ rfl l)
  blk_simp [iblk, idx t]
  refine (congrFun (V_c m c) _).trans ?_
  blk_ext [idx t]

theorem b5_at (c : Dev nD) (t : Fin cfg0.N) (r : Fin 32) (l : Fin 128) (b : Fin 128) (j : Fin 4) (hb : t.val * 32 + r.val = b.val * 4 + j.val) :
    iblk m c 5 t (ix2 r l) = Layer.sign (Layer.bendSin j) l := by
  refine Eq.trans ?_ (sinHost_at b j ⟨8192 + (b.val * 4 + j.val), by omega⟩ rfl l)
  blk_simp [iblk, idx t]
  refine (congrFun (V_s m c) _).trans ?_
  blk_ext [idx t]

theorem b8_at (c : Dev nD) (t : Fin cfg0.N) (r : Fin 32) (k : Fin 512) :
    iblk m c 8 t (ix2 r k) = Ideal.ofBits .f32 (lit2 (S4x4.rowMajor (ix2 ⟨r.val % 4, by omega⟩ ⟨k.val / 128, by omega⟩))) := by
  refine Eq.trans ?_ (decHost_all (fun i => FloatOps.ofBits .f32 (lit2 (S4x4.rowMajor i))) r k)
  blk_simp [iblk, idx t]
  refine (congrFun (V_d m c) _).trans ?_
  blk_ext [idx t]

theorem b10_at (c : Dev nD) (t : Fin cfg0.N) (r : Fin 32) (l : Fin 128) :
    iblk m c 10 t (ix2 r l) = (FloatOps.sitofp .f32 (BitVec.ofNat 32 (r.val / 4)) : Ideal .f32) := by
  refine Eq.trans ?_ (seqHost_at r l)
  blk_simp [iblk, idx t]
  refine (congrFun (V_q m c) _).trans ?_
  blk_ext [idx t]

theorem b11_at (c : Dev nD) (t : Fin cfg0.N) (s : Fin 8) (h : Fin 4) (d e : Fin 128) (b : Fin 128) (hb : b.val = t.val * 8 + s.val) :
    iblk m c 11 t (ix5 0 s h d e) = (m ((c : Thread nD τ).loc main_arg1) : FVec Ideal S4x128x4x128x128 .f32) (ix5 0 b h d e) := by
  blk_simp [iblk, idx t]
  refine (congrFun (V_a m c) _).trans ?_
  blk_ext [idx t]

end Cert.Kernel7Ideal.Value

end
-- ==== Proof.Ret.Ref.lean ====
/- What the reference of the retention's state computes at an index. -/
module

public import proofs.«01_k».proof.Proof.Gen.Reference7Ideal.Run
public import proofs.«01_k».proof.Proof.Ret.Spec
public import Idealize.ShloMosaic.Lib.Pipeline.ValueKit
public import Idealize.ShloMosaic.Lib.Pointwise

@[expose] public section

set_option maxRecDepth 100000

noncomputable section

namespace Cert.Reference7Ideal.Value

open Cert.Reference7Ideal Cert.Reference7Ideal.Gen Idealize.ShloMosaic Idealize.ShloMosaic.TcCoe Idealize.SL.Sem

variable (m : (ℓ : Loc nD τ sig) → Buf (Elt Ideal) ℓ)

/-- The angles of the sample's positions. -/
def ang : FVec Ideal S4x64 .f32 :=
  mulf (broadcastInDim S4x64 ![0, 1] bcast_S4x1_S4x64_0_1 (broadcastInDim S4x1 ![0] bcast_S4_S4x1_0 (sitofp .f32 (addi (broadcastInDim S4 ![] bcast_S_S4 (constantI S_ 32 8192#32)) (iotaInDim S4 32 0))))) (broadcastInDim S4x64 ![0, 1] bcast_S1x64_S4x64_0_1 (broadcastInDim S1x64 ![1] bcast_S64_S1x64_1 (Host.powf (broadcastInDim S64 ![] bcast_S_S64 (constant S_ .f32 0x461C4000#32)) (Host.divf (Host.negf (addf (broadcastInDim S64 ![] bcast_S_S64 (constant S_ .f32 0x00000000#32)) (mulf (broadcastInDim S64 ![] bcast_S_S64 (constant S_ .f32 0x40000000#32)) (sitofp .f32 (iotaInDim S64 32 0))))) (broadcastInDim S64 ![] bcast_S_S64 (constant S_ .f32 0x43000000#32))))))

theorem ang_at (j : Fin 4) (l : Fin 64) : ang (ix2 j l) = Layer.bend (8192#32 + BitVec.ofNat 32 j.val) l := by
  pointwise [ang]
  rfl

/-- The keys by their heads. -/
def keys (x : FVec Ideal S128x4x2048 .f32) : FVec Ideal S128x4x4x128 .f32 :=
  shapeCast _ (extractStridedSlice S128x4x512 ![0, 0, 512] x slices_S128x4x2048_S128x4x512_0_0_512) shapeCasts_S128x4x512_S128x4x4x128

theorem keys_at (x : FVec Ideal S128x4x2048 .f32) (b : Fin 128) (j h : Fin 4) (d : Fin 128) :
    keys x (ix4 b j h d) = x (ix3 b j ⟨512 + (h.val * 128 + d.val), by omega⟩) := by
  pointwise [keys]

/-- The values by their heads. -/
def vals (x : FVec Ideal S128x4x2048 .f32) : FVec Ideal S128x4x4x128 .f32 :=
  shapeCast _ (extractStridedSlice S128x4x512 ![0, 0, 1024] x slices_S128x4x2048_S128x4x512_0_0_1024) shapeCasts_S128x4x512_S128x4x4x128

theorem vals_at (x : FVec Ideal S128x4x2048 .f32) (b : Fin 128) (j h : Fin 4) (d : Fin 128) :
    vals x (ix4 b j h d) = x (ix3 b j ⟨1024 + (h.val * 128 + d.val), by omega⟩) := by
  pointwise [vals]

/-- The keys turned by the angles `a`. -/
def turned (a : FVec Ideal S4x64 .f32) (k : FVec Ideal S128x4x4x128 .f32) : FVec Ideal S128x4x4x128 .f32 :=
  concatenate S128x4x4x128 3 [⟨S128x4x4x64, (subf (mulf (extractStridedSlice S128x4x4x64 ![0, 0, 0, 0] k slices_S128x4x4x128_S128x4x4x64_0_0_0_0) (broadcastInDim S128x4x4x64 ![0, 1, 2, 3] bcast_S1x4x1x64_S128x4x4x64_0_1_2_3 (shapeCast _ (Host.cos a) shapeCasts_S4x64_S1x4x1x64))) (mulf (extractStridedSlice S128x4x4x64 ![0, 0, 0, 64] k slices_S128x4x4x128_S128x4x4x64_0_0_0_64) (broadcastInDim S128x4x4x64 ![0, 1, 2, 3] bcast_S1x4x1x64_S128x4x4x64_0_1_2_3 (shapeCast _ (Host.sin a) shapeCasts_S4x64_S1x4x1x64))))⟩, ⟨S128x4x4x64, (addf (mulf (extractStridedSlice S128x4x4x64 ![0, 0, 0, 64] k slices_S128x4x4x128_S128x4x4x64_0_0_0_64) (broadcastInDim S128x4x4x64 ![0, 1, 2, 3] bcast_S1x4x1x64_S128x4x4x64_0_1_2_3 (shapeCast _ (Host.cos a) shapeCasts_S4x64_S1x4x1x64))) (mulf (extractStridedSlice S128x4x4x64 ![0, 0, 0, 0] k slices_S128x4x4x128_S128x4x4x64_0_0_0_0) (broadcastInDim S128x4x4x64 ![0, 1, 2, 3] bcast_S1x4x1x64_S128x4x4x64_0_1_2_3 (shapeCast _ (Host.sin a) shapeCasts_S4x64_S1x4x1x64))))⟩] concatenates_S128x4x4x64_S128x4x4x64_S128x4x4x128_d3

theorem turned_all (a : FVec Ideal S4x64 .f32) (k : FVec Ideal S128x4x4x128 .f32) (b : Fin 128) (j h : Fin 4) (d : Fin 128) :
    turned a k (ix4 b j h d) = if hd : d.val < 64 then k (ix4 b j h ⟨d.val, by omega⟩) * Ideal.cos (a (ix2 j ⟨d.val, hd⟩)) - k (ix4 b j h ⟨64 + d.val, by omega⟩) * Ideal.sin (a (ix2 j ⟨d.val, hd⟩))
      else k (ix4 b j h ⟨64 + (d.val - 64), by omega⟩) * Ideal.cos (a (ix2 j ⟨d.val - 64, by omega⟩)) + k (ix4 b j h ⟨d.val - 64, by omega⟩) * Ideal.sin (a (ix2 j ⟨d.val - 64, by omega⟩)) := by
  pointwise [turned]

theorem turned_at (k : FVec Ideal S128x4x4x128 .f32) (b : Fin 128) (j h : Fin 4) (d : Fin 128) :
    turned ang k (ix4 b j h d) = Layer.swing (Layer.bendCos j) (Layer.bendSin j) (fun l => k (ix4 b j h l)) d := by
  rw [turned_all]
  unfold Layer.swing Layer.bendCos Layer.bendSin
  have key : ∀ p q : Fin 128, p.val = q.val → k (ix4 b j h p) = k (ix4 b j h q) := fun p q e => by rw [Fin.ext e]
  by_cases hd : d.val < 64
  · rw [dif_pos hd, dif_pos hd, ang_at, key ⟨64 + d.val, by omega⟩ ⟨d.val + 64, by omega⟩ (by show 64 + d.val = d.val + 64; omega)]
  · rw [dif_neg hd, dif_neg hd, ang_at, key ⟨64 + (d.val - 64), by omega⟩ d (by show 64 + (d.val - 64) = d.val; omega)]

/-- The new state, of the turned keys `k`, the values `v`, the old state `s` and the decays. -/
def fresh (k v : FVec Ideal S128x4x4x128 .f32) (s : FVec Ideal S4x128x4x128x128 .f32) (g : FVec Ideal S4x4 .f32) (w : FVec Ideal S4 .f32) : FVec Ideal S128x4x128x128 .f32 :=
  addf (mulf (shapeCast _ (extractStridedSlice S1x128x4x128x128 ![0, 0, 0, 0, 0] s slices_S4x128x4x128x128_S1x128x4x128x128_0_0_0_0_0) shapeCasts_S1x128x4x128x128_S128x4x128x128) (broadcastInDim S128x4x128x128 ![0, 1, 2, 3] bcast_S1x4x1x1_S128x4x128x128_0_1_2_3 (broadcastInDim S1x4x1x1 ![1] bcast_S4_S1x4x1x1_1 w))) (Host.dotGeneral dot_S128x4x4x128_S128x4x4x128_S128x4x128x128_1_1_3_3_02_02 none (mulf (mulf k (broadcastInDim S128x4x4x128 ![] bcast_S_S128x4x4x128 (constant S_ .f32 0x3DB504F3#32))) (broadcastInDim S128x4x4x128 ![0, 1, 2, 3] bcast_S1x4x4x1_S128x4x4x128_0_1_2_3 (broadcastInDim S1x4x4x1 ![1, 2] bcast_S4x4_S1x4x4x1_1_2 g))) v)

theorem fresh_at (k v : FVec Ideal S128x4x4x128 .f32) (s : FVec Ideal S4x128x4x128x128 .f32) (g : FVec Ideal S4x4 .f32) (w : FVec Ideal S4 .f32) (b : Fin 128) (h : Fin 4) (d e : Fin 128) :
    fresh k v s g w (ix4 b h d e) = s (ix5 0 b h d e) * w (ix1 h)
      + ∑ j : Fin 4, k (ix4 b j h d) * Ideal.ofBits .f32 0x3DB504F3#32 * g (ix2 j h) * v (ix4 b j h e) := by
  pointwise [fresh]

/-- The reference's result. -/
def res (x : FVec Ideal S128x4x2048 .f32) (s : FVec Ideal S4x128x4x128x128 .f32) : FVec Ideal S128x4x128x128 .f32 :=
  fresh (turned ang (keys x)) (vals x) s (fun i => FloatOps.ofBits .f32 (lit0 (S4x4.rowMajor i))) (fun i => FloatOps.ofBits .f32 (lit1 (S4.rowMajor i)))

theorem res_at (x : FVec Ideal S128x4x2048 .f32) (s : FVec Ideal S4x128x4x128x128 .f32) (b : Fin 128) (h : Fin 4) (d e : Fin 128) :
    res x s (ix4 b h d e) = Layer.keep (s (ix5 0 b h d e)) (Ideal.ofBits .f32 (lit1 (S4.rowMajor (ix1 h))))
      (fun j l => x (ix3 b j ⟨512 + (h.val * 128 + l.val), by omega⟩)) (fun j => Ideal.ofBits .f32 (lit0 (S4x4.rowMajor (ix2 j h))))
      (fun j => x (ix3 b j ⟨1024 + (h.val * 128 + e.val), by omega⟩)) d := by
  refine (fresh_at _ _ s _ _ b h d e).trans ?_
  unfold Layer.keep
  refine congrArg (fun q : EReal => _ + q) (Finset.sum_congr rfl fun j _ => ?_)
  rw [turned_at, vals_at, funext fun l => keys_at x b j h l]
  rfl

theorem run_named (ρ : Dev nD → PrngReg) :
    θ_run defs (onTc (τ := τ) (main (F := Ideal))) ⟨m, fun _ => 0, ρ⟩ fun r => ∀ c : Dev nD,
      r.2.mem ((c.tc : Thread nD τ).loc main_v51) = res (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans rfl, (h c).2⟩) (run m ρ)

end Cert.Reference7Ideal.Value

end
-- ==== Proof.Ret.Equation.lean ====
/- The retention's state is the reference's. -/
module

public import proofs.«01_k».proof.Proof.Ret.Entry
public import proofs.«01_k».proof.Proof.Ret.Blocks
public import proofs.«01_k».proof.Proof.Ret.Ref

@[expose] public section

set_option maxRecDepth 100000

noncomputable section

namespace Cert.Kernel7Ideal.Value

open Cert.Kernel7Ideal Cert.Kernel7Ideal.Gen Idealize.ShloMosaic Idealize.ShloMosaic.TcCoe Idealize.SL.Sem

variable (m : (ℓ : Loc nD τ sig) → Buf (Elt Ideal) ℓ)

/-- The reference's result over the kernel's argument arrays. -/
def refOut (c : Dev nD) : FVec Ideal S128x4x128x128 .f32 :=
  Cert.Reference7Ideal.Value.res (m ((c : Thread nD τ).loc main_arg0)) (m ((c : Thread nD τ).loc main_arg1))

/-- The two programs' tables of the keys' decays are the same. -/
theorem table_eq (j h : Fin 4) : lit2 (S4x4.rowMajor (ix2 j h)) = Cert.Reference7Ideal.lit0 (Cert.Reference7Ideal.S4x4.rowMajor (ix2 j h)) := by
  fin_cases j <;> fin_cases h <;> rfl

/-- The reference's table of the states' decays. -/
theorem decay_eq (h : Fin 4) : Layer.dec h = Cert.Reference7Ideal.lit1 (Cert.Reference7Ideal.S4.rowMajor (ix1 h)) := by
  fin_cases h <;> rfl

/-- A grid point's state, of what its blocks hold. -/
theorem left_keep (b1 b2 : Vec Ideal S32x512 .f32) (b4 b5 : Vec Ideal S32x128 .f32) (b8 : Vec Ideal S32x512 .f32) (b10 : Vec Ideal S32x128 .f32)
    (b11 : Vec Ideal S1x8x4x128x128 .f32) (s : Fin 8) (h : Fin 4) (d e : Fin 128) (p : EReal) (k : Fin 4 → Fin 128 → EReal) (g v : Fin 4 → EReal)
    (h10 : ∀ (r : Fin 32) (l : Fin 128), b10 (ix2 r l) = (FloatOps.sitofp .f32 (BitVec.ofNat 32 (r.val / 4)) : Ideal .f32))
    (h11 : b11 (ix5 0 s h d e) = p)
    (h1 : ∀ (j : Fin 4) (l : Fin 128), b1 (ix2 ⟨s.val * 4 + j.val, by omega⟩ ⟨h.val * 128 + l.val, by omega⟩) = k j l)
    (h2 : ∀ j : Fin 4, b2 (ix2 ⟨s.val * 4 + j.val, by omega⟩ ⟨h.val * 128 + e.val, by omega⟩) = v j)
    (h4 : ∀ j : Fin 4, b4 (ix2 ⟨s.val * 4 + j.val, by omega⟩ d) = Layer.pair (Layer.bendCos j) d)
    (h5 : ∀ j : Fin 4, b5 (ix2 ⟨s.val * 4 + j.val, by omega⟩ d) = Layer.sign (Layer.bendSin j) d)
    (h8 : ∀ j : Fin 4, b8 (ix2 ⟨s.val * 4 + j.val, by omega⟩ ⟨h.val * 128 + d.val, by omega⟩) = g j) :
    left b1 b2 b4 b5 b8 b10 b11 s h d e = Layer.keep p (Ideal.ofBits .f32 (Layer.dec h)) k g v d := by
  unfold left sumOf Layer.keep
  refine congrArg₂ (fun x y : EReal => x + y) (congrArg (fun x : EReal => x * _) h11) ?_
  refine (Layer.sum_own s _ _ _ fun r => ?_).trans ?_
  · exact congrArg (fun q : EReal => (FloatOps.cmpf (F := Ideal) (φ := .f32) .oeq q (Ideal.ofBits .f32 (Layer.word s)) : BitVec 1)) (h10 r d)
  · refine Finset.sum_congr rfl fun j _ => ?_
    rw [← Layer.swing_eq]
    refine congrArg₂ (fun x y : EReal => x * y) (congrArg₂ (fun x y : EReal => x * y) (congrArg (fun x : EReal => x * _) ?_) (h8 j)) (h2 j)
    exact congrArg₂ (fun x y : EReal => x + y) (congrArg₂ (fun x y : EReal => x * y) (h1 j d) (h4 j))
      (congrArg₂ (fun x y : EReal => x * y) (h1 j ⟨(d.val + 128 - 64) % 128, Nat.mod_lt _ (by decide)⟩) (h5 j))

/-- What a grid point leaves. -/
theorem point (c : Dev nD) (t : Fin cfg0.N) (s : Fin 8) (h : Fin 4) (d e : Fin 128) (b : Fin 128) (hb : b.val = t.val * 8 + s.val) :
    left (iblk m c 1 t) (iblk m c 2 t) (iblk m c 4 t) (iblk m c 5 t) (iblk m c 8 t) (iblk m c 10 t) (iblk m c 11 t) s h d e = refOut m c (ix4 b h d e) := by
  refine Eq.trans ?_ (Cert.Reference7Ideal.Value.res_at _ _ b h d e).symm
  rw [← decay_eq h]
  have hr : ∀ j : Fin 4, t.val * 32 + (s.val * 4 + j.val) = b.val * 4 + j.val := fun j => by omega
  refine left_keep _ _ _ _ _ _ _ s h d e _ _ _ _ (fun r l => b10_at m c t r l) (b11_at m c t s h d e b hb) (fun j l => b1_at m c t _ _ b j (hr j))
    (fun j => b2_at m c t _ _ b j (hr j)) (fun j => b4_at m c t _ d b j (hr j)) (fun j => b5_at m c t _ d b j (hr j)) (fun j => (b8_at m c t _ _).trans ?_)
  rw [← table_eq]
  refine congrArg (fun q => Ideal.ofBits .f32 (lit2 (S4x4.rowMajor q))) (congrArg₂ (fun x y : Fin 4 => ix2 x y) (Fin.ext ?_) (Fin.ext ?_))
  · show (s.val * 4 + j.val) % 4 = j.val; omega
  · show (h.val * 128 + d.val) / 128 = h.val; omega

theorem final (c : Dev nD) : (dats m 0 c).arrAt 13 (cfgs 0).N = refOut m c := by
  generalize hG : refOut m c = G
  refine (dats m 0 c).arrAt_eq_of_covers 13 G (by decide +kernel) fun t hf y => ?_
  idx_vars y
  have ht : t.val < 16 := lt_of_lt_of_eq t.isLt N_0
  have hb := (outs (iblk m c 0 t) (iblk m c 1 t) (iblk m c 2 t) (iblk m c 3 t) (iblk m c 4 t) (iblk m c 5 t) (iblk m c 6 t) (iblk m c 7 t) (iblk m c 8 t)
    (iblk m c 9 t) (iblk m c 10 t) (iblk m c 11 t) y0 y1 y2 y3).trans (point m c t y0 y1 y2 y3 ⟨t.val * 8 + y0.val, by omega⟩ rfl)
  rw [hG] at hb
  blk_simp
  rw [after0_13]
  refine hb.trans ?_
  blk_ext [idx t]

end Cert.Kernel7Ideal.Value

end
-- ==== Proof.Final.Run.lean ====
/- The last norm's kernel runs. The first sixteen of its seventeen points store a tile of the prompt's result and leave
   the sample's buffer alone; the last point stores the sample's result and leaves the prompt's buffer alone, which
   is then written back as the point before left it. -/
module

public import proofs.«01_k».proof.Proof.Gen.Kernel5Ideal.Frame
public import proofs.«01_k».proof.Proof.Gen.Kernel5Ideal.Skeleton
public import Idealize.ShloMosaic.Lib.Pipeline.ValueKit
public import Idealize.ShloMosaic.Lib.Pointwise
public import Idealize.ShloMosaic.Lib.VecWindow

@[expose] public section

set_option maxRecDepth 100000

noncomputable section

namespace Cert.Kernel5Ideal.Value

open Cert.Kernel5Ideal Cert.Kernel5Ideal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem prompt_iff : ∀ t : Fin cfg0.N, k0_cond1 (grid0.coords t) = 1#1 ↔ t.val < 16 :=
  (by decide +kernel : ∀ t : Fin grid0.N, k0_cond1 (grid0.coords t) = 1#1 ↔ t.val < 16)

theorem sample_iff : ∀ t : Fin cfg0.N, k0_cond2 (grid0.coords t) = 1#1 ↔ 16 ≤ t.val :=
  (by decide +kernel : ∀ t : Fin grid0.N, k0_cond2 (grid0.coords t) = 1#1 ↔ 16 ≤ t.val)

/-- At a point of the prompt the body writes the normed tile into the first result's buffer. -/
theorem run_prompt (c : Dev nD) (i : grid0.Coords) (a1 : Memref sig .tc .vmem S512x2048 .f32) (h1 : a1.IsWhole)
    (a2 : Memref sig .tc .vmem S1x2048 .f32) (h2 : a2.IsWhole) (a3 : Memref sig .tc .vmem S512x2048 .f32) (h3 : a3.IsWhole)
    (a4 : Memref sig .tc .vmem S512x2048 .f32) (h4 : a4.IsWhole) (hp : k0_cond1 i = 1#1) (hs : ¬ k0_cond2 i = 1#1)
    (x : Vec F S512x2048 .f32) (g : Vec F S1x2048 .f32) (E : Set ℕ) (K : PUnit → sProp 𝕄) :
    iprop(owns (c : Thread nD τ) a1 fullShare x ∗ owns (c : Thread nD τ) a2 fullShare g ∗ (∃ d, owns (c : Thread nD τ) a3 fullShare d)
        ∗ (iprop(owns (c : Thread nD τ) a1 fullShare x ∗ owns (c : Thread nD τ) a2 fullShare g ∗ owns (c : Thread nD τ) a3 fullShare (k0_pay1 x g)) -∗ K ⟨⟩))
      ⊢ wp frame (wpE (defs₀ (F := F)) Variants.none c none) E (cc0_final_norm i a1 h1 a2 h2 a3 h3 a4 h4) K := by
  simp only [cc0_final_norm_eq_skeleton]; unfold cc0_final_norm_skel
  unfold owns
  iintro ⟨⟨%f1, %hf1, H1⟩, ⟨%f2, %hf2, H2⟩, ⟨%d3, %f3, -, H3⟩, Hk⟩
  obtain rfl := h1.eq_unread hf1; obtain rfl := h2.eq_unread hf2
  sl_exec (disch := first | sl_exact hp | sl_exact hs)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H3
  ipureintro
  refine (View.read_writes_full _ _ _ _ _).trans ?_
  exact congrArg₂ k0_pay1 ((View.readAt_full _ _ _).trans hf1) ((View.readAt_full _ _ _).trans hf2)

/-- At the last point it writes the normed tile into the second result's buffer. -/
theorem run_sample (c : Dev nD) (i : grid0.Coords) (a1 : Memref sig .tc .vmem S512x2048 .f32) (h1 : a1.IsWhole)
    (a2 : Memref sig .tc .vmem S1x2048 .f32) (h2 : a2.IsWhole) (a3 : Memref sig .tc .vmem S512x2048 .f32) (h3 : a3.IsWhole)
    (a4 : Memref sig .tc .vmem S512x2048 .f32) (h4 : a4.IsWhole) (hp : ¬ k0_cond1 i = 1#1) (hs : k0_cond2 i = 1#1)
    (x : Vec F S512x2048 .f32) (g : Vec F S1x2048 .f32) (E : Set ℕ) (K : PUnit → sProp 𝕄) :
    iprop(owns (c : Thread nD τ) a1 fullShare x ∗ owns (c : Thread nD τ) a2 fullShare g ∗ (∃ d, owns (c : Thread nD τ) a4 fullShare d)
        ∗ (iprop(owns (c : Thread nD τ) a1 fullShare x ∗ owns (c : Thread nD τ) a2 fullShare g ∗ owns (c : Thread nD τ) a4 fullShare (k0_pay1 x g)) -∗ K ⟨⟩))
      ⊢ wp frame (wpE (defs₀ (F := F)) Variants.none c none) E (cc0_final_norm i a1 h1 a2 h2 a3 h3 a4 h4) K := by
  simp only [cc0_final_norm_eq_skeleton]; unfold cc0_final_norm_skel
  unfold owns
  iintro ⟨⟨%f1, %hf1, H1⟩, ⟨%f2, %hf2, H2⟩, ⟨%d3, %f3, -, H3⟩, Hk⟩
  obtain rfl := h1.eq_unread hf1; obtain rfl := h2.eq_unread hf2
  sl_exec (disch := first | sl_exact hp | sl_exact hs)
  sl_step
  iapply Hk
  isplitl [H1]
  · iexists _; isplitr; · ipureintro; exact h1.read_unread _
    iexact H1
  isplitl [H2]
  · iexists _; isplitr; · ipureintro; exact h2.read_unread _
    iexact H2
  iexists _; isplitr
  swap; · iexact H3
  ipureintro
  refine (View.read_writes_full _ _ _ _ _).trans ?_
  exact congrArg₂ k0_pay1 ((View.readAt_full _ _ _).trans hf1) ((View.readAt_full _ _ _).trans hf2)

/-- The point whose tile the first result's buffer holds after point `t`. -/
def held (t : Fin cfg0.N) : Fin cfg0.N := ⟨min t.val 15, lt_of_le_of_lt (min_le_left _ _) t.isLt⟩

/-- The proof data: what each window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 (held t)) (iblk m c 1 (held t))
    | ⟨3, _⟩ => k0_pay1 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay1 (iblk m c 0 (held t)) (iblk m c 1 (held t)) := by
  dsimp only [dats]
theorem after0_3 (c : Dev nD) (t : Fin cfg0.N) : (dats m 0 c).after 3 t = k0_pay1 (iblk m c 0 t) (iblk m c 1 t) := by
  dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem held_prompt (t : Fin cfg0.N) (h : t.val < 16) : held t = t := Fin.ext (min_eq_left (by omega))

theorem idle2_prompt (t : Fin cfg0.N) (h : t.val < 16) : cfg0.idle 2 (cfg0.grid.coords t) = false := by
  show (!(k0_cond1 (grid0.coords t) == 1#1)) = false
  rw [(prompt_iff t).mpr h]; rfl

theorem idle3_prompt (t : Fin cfg0.N) (h : t.val < 16) : cfg0.idle 3 (cfg0.grid.coords t) = true := by
  have := mt (sample_iff t).mp (by omega)
  show (!(k0_cond2 (grid0.coords t) == 1#1)) = true
  simpa using this

theorem idle2_sample (t : Fin cfg0.N) (h : ¬ t.val < 16) : cfg0.idle 2 (cfg0.grid.coords t) = true := by
  have := mt (prompt_iff t).mp h
  show (!(k0_cond1 (grid0.coords t) == 1#1)) = true
  simpa using this

theorem idle3_sample (t : Fin cfg0.N) (h : ¬ t.val < 16) : cfg0.idle 3 (cfg0.grid.coords t) = false := by
  show (!(k0_cond2 (grid0.coords t) == 1#1)) = false
  rw [(sample_iff t).mpr (by omega)]; rfl

theorem flush3_prompt (t : Fin cfg0.N) (h : t.val < 16) : (cfg0.win 3).flush t = false := by
  have := mt (flush0_3 t).mp (by omega)
  simpa using this

/-- The first result's block is written back at the points of the prompt but the last of them, and at the last point. -/
theorem flush2_iff : ∀ t : Fin cfg0.N, (cfg0.win 2).flush t = true ↔ t.val ≠ 15 :=
  (by decide +kernel : ∀ t : Fin grid0.N, win0_2.flush t = true ↔ t.val ≠ 15)

/-- At the last point the first result's buffer still holds what the point before left. -/
theorem before2_sample (c : Dev nD) (t : Fin cfg0.N) (h : ¬ t.val < 16) (d) :
    (dats m 0 c).before 2 t d = (dats m 0 c).after 2 t := by
  have hN : t.val < 17 := lt_of_lt_of_eq t.isLt (show cfg0.N = 17 from N_0)
  have h16 : t.val = 16 := by omega
  rw [(dats m 0 c).before_of_pos 2 t (by omega) rfl d]
  have hf : (cfg0.win 2).flush ⟨t.val - 1, Nat.lt_of_le_of_lt (Nat.sub_le _ _) t.isLt⟩ = false := by
    have := mt (flush2_iff ⟨t.val - 1, Nat.lt_of_le_of_lt (Nat.sub_le _ _) t.isLt⟩).mp (by show ¬ (t.val - 1 ≠ 15); omega)
    simpa using this
  rw [hf, if_neg Bool.false_ne_true]
  unfold Dat.left
  rw [idle2_prompt _ (show t.val - 1 < 16 by omega)]
  show (dats m 0 c).after 2 ⟨t.val - 1, _⟩ = _
  rw [after0_2, after0_2]
  have e : held ⟨t.val - 1, Nat.lt_of_le_of_lt (Nat.sub_le _ _) t.isLt⟩ = held t := Fin.ext (by
    show min (t.val - 1) 15 = min t.val 15; omega)
  rw [e]

/-! ## The body at a point -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What it returns at a point of the prompt: the second result's buffer as it was. -/
def promptPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare ((dats m 0 c).before 3 t d)))

/-- What it returns at the last point. -/
def samplePost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_prompt (c : Dev nD) (t : Fin cfg0.N) (h : t.val < 16) :
    bodyPre m c t ⊢ wp frame (wpE (defs₀ (F := F)) Variants.none c none) Set.univ (bodyAt0 t) (fun _ => promptPost m c t) := by
  unfold bodyPre promptPost bodyAt0
  simp only [before0_0, before0_1]
  rw [show (dats m 0 c).owesAt () t.succ = (dats m 0 c).owesAt () t.castSucc from rfl,
    show (dats m 0 c).Φ t.succ = (dats m 0 c).Φ t.castSucc from rfl, after0_0, after0_1, after0_2, held_prompt t h]
  iintro ⟨HΦ, Ho, ⟨%d0, H0⟩, ⟨%d1, H1⟩, ⟨%d2, H2⟩, ⟨%d3, H3⟩⟩
  iapply (run_prompt c (grid0.coords t) _ _ _ _ _ _ _ _ ((prompt_iff t).mpr h) (mt (sample_iff t).mp (by omega)) (iblk m c 0 t) (iblk m c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  isplitl [H2]; · iexact H2
  iexists _; iexact H3

theorem sound_sample (c : Dev nD) (t : Fin cfg0.N) (h : ¬ t.val < 16) :
    bodyPre m c t ⊢ wp frame (wpE (defs₀ (F := F)) Variants.none c none) Set.univ (bodyAt0 t) (fun _ => samplePost m c t) := by
  unfold bodyPre samplePost bodyAt0
  simp only [before0_0, before0_1, before2_sample m c t h]
  rw [show (dats m 0 c).owesAt () t.succ = (dats m 0 c).owesAt () t.castSucc from rfl,
    show (dats m 0 c).Φ t.succ = (dats m 0 c).Φ t.castSucc from rfl, after0_0, after0_1, after0_3]
  iintro ⟨HΦ, Ho, ⟨%d0, H0⟩, ⟨%d1, H1⟩, ⟨%d2, H2⟩, ⟨%d3, H3⟩⟩
  iapply (run_sample c (grid0.coords t) _ _ _ _ _ _ _ _ (mt (prompt_iff t).mp h) ((sample_iff t).mpr (by omega)) (iblk m c 0 t) (iblk m c 1 t) Set.univ _)
  isplitl [H0]; · iexact H0
  isplitl [H1]; · iexact H1
  isplitl [H3]; · iexists _; iexact H3
  iintro ⟨H0, H1, H3⟩
  isplitl [HΦ]; · iexact HΦ
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  by_cases h : t.val < 16
  · rw [idle2_prompt t h, idle3_prompt t h, flush3_prompt t h]
    exact triple_restated (sound_prompt m c t h) rfl .rfl fun _ => .rfl
  · have hN : t.val < 17 := lt_of_lt_of_eq t.isLt (show cfg0.N = 17 from N_0)
    rw [idle2_sample t h, idle3_sample t h, (flush2_iff t).mpr (by omega)]
    exact triple_restated (sound_sample m c t h) rfl .rfl fun _ => .rfl

/-! ## The run -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun _ => Idealize.SL.BI.Entails.refl _) (hout := fun _ => Idealize.SL.BI.Entails.refl _)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame, at any floats: the arguments end unchanged and every semaphore counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-- The run with the two results' arrays named. -/
theorem run_blocks : θ_run defs (onTc (τ := τ) (main (F := F))) ⟨m, fun _ => 0, ρ⟩ fun r => ∀ c : Dev nD,
      r.2.mem ((c : Thread nD τ).loc main_v4_0) = (dats m 0 c).arrAt 2 cfg0.N
      ∧ r.2.mem ((c : Thread nD τ).loc main_v4_1) = (dats m 0 c).arrAt 3 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1 2, (h c).1 3,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.Kernel5Ideal.Value

end
-- ==== Proof.Final.Ref.lean ====
/- What the reference of the last norm computes at an index. -/
module

public import proofs.«01_k».proof.Proof.Gen.Reference5Ideal.Run
public import proofs.«01_k».proof.Proof.Row
public import Idealize.ShloMosaic.Lib.Pipeline.ValueKit
public import Idealize.ShloMosaic.Lib.Pointwise

@[expose] public section

set_option maxRecDepth 100000

noncomputable section

namespace Cert.Reference5Ideal.Value

open Cert.Reference5Ideal Cert.Reference5Ideal.Gen Idealize.ShloMosaic Idealize.ShloMosaic.TcCoe Idealize.SL.Sem

variable (m : (ℓ : Loc nD τ sig) → Buf (Elt Ideal) ℓ)

/-- The prompt's rows, normalised by their root mean square. -/
def normP (x : FVec Ideal S4x2048x2048 .f32) (g : FVec Ideal S2048 .f32) : FVec Ideal S4x2048x2048 .f32 :=
  mulf (mulf x (broadcastInDim S4x2048x2048 ![0, 1, 2] bcast_S4x2048x1_S4x2048x2048_0_1_2 (Host.rsqrt (addf (Host.divf (broadcastInDim S4x2048x1 ![0, 1] bcast_S4x2048_S4x2048x1_0_1 (Host.reduceAdd (mulf x x) (constant S_ .f32 0x00000000#32) reducesTo_S4x2048x2048_S4x2048_d2 h_S_)) (broadcastInDim S4x2048x1 ![] bcast_S_S4x2048x1 (constant S_ .f32 0x45000000#32))) (broadcastInDim S4x2048x1 ![] bcast_S_S4x2048x1 (constant S_ .f32 0x358637BD#32)))))) (broadcastInDim S4x2048x2048 ![0, 1, 2] bcast_S1x1x2048_S4x2048x2048_0_1_2 (broadcastInDim S1x1x2048 ![2] bcast_S2048_S1x1x2048_2 g))

theorem normP_at (x : FVec Ideal S4x2048x2048 .f32) (g : FVec Ideal S2048 .f32) (b : Fin 4) (s : Fin 2048) (k : Fin 2048) :
    normP x g (ix3 b s k) = Layer.norm (fun j => x (ix3 b s j)) (fun j => g (ix1 j)) k := by
  pointwise [normP]
  rfl

/-- The prompt's result. -/
def resP (x : FVec Ideal S4x2048x2048 .f32) (g : FVec Ideal S2048 .f32) : FVec Ideal S8192x2048 .f32 :=
  shapeCast _ (normP x g) shapeCasts_S4x2048x2048_S8192x2048

theorem flatP_at (x : FVec Ideal S4x2048x2048 .f32) (n : Fin 8192) (k : Fin 2048) :
    shapeCast S8192x2048 x shapeCasts_S4x2048x2048_S8192x2048 (ix2 n k) = x (ix3 ⟨n.val / 2048, by omega⟩ ⟨n.val % 2048, by omega⟩ k) := by
  pointwise []

theorem resP_at (x : FVec Ideal S4x2048x2048 .f32) (g : FVec Ideal S2048 .f32) (n : Fin 8192) (k : Fin 2048) :
    resP x g (ix2 n k) = Layer.norm (fun j => x (ix3 ⟨n.val / 2048, by omega⟩ ⟨n.val % 2048, by omega⟩ j)) (fun j => g (ix1 j)) k :=
  (flatP_at _ n k).trans (normP_at x g _ _ k)

/-- The sample's rows, normalised by their root mean square. -/
def normS (x : FVec Ideal S128x4x2048 .f32) (g : FVec Ideal S2048 .f32) : FVec Ideal S128x4x2048 .f32 :=
  mulf (mulf x (broadcastInDim S128x4x2048 ![0, 1, 2] bcast_S128x4x1_S128x4x2048_0_1_2 (Host.rsqrt (addf (Host.divf (broadcastInDim S128x4x1 ![0, 1] bcast_S128x4_S128x4x1_0_1 (Host.reduceAdd (mulf x x) (constant S_ .f32 0x00000000#32) reducesTo_S128x4x2048_S128x4_d2 h_S_)) (broadcastInDim S128x4x1 ![] bcast_S_S128x4x1 (constant S_ .f32 0x45000000#32))) (broadcastInDim S128x4x1 ![] bcast_S_S128x4x1 (constant S_ .f32 0x358637BD#32)))))) (broadcastInDim S128x4x2048 ![0, 1, 2] bcast_S1x1x2048_S128x4x2048_0_1_2 (broadcastInDim S1x1x2048 ![2] bcast_S2048_S1x1x2048_2 g))

theorem normS_at (x : FVec Ideal S128x4x2048 .f32) (g : FVec Ideal S2048 .f32) (b : Fin 128) (s : Fin 4) (k : Fin 2048) :
    normS x g (ix3 b s k) = Layer.norm (fun j => x (ix3 b s j)) (fun j => g (ix1 j)) k := by
  pointwise [normS]
  rfl

/-- The sample's result. -/
def resS (x : FVec Ideal S128x4x2048 .f32) (g : FVec Ideal S2048 .f32) : FVec Ideal S512x2048 .f32 :=
  shapeCast _ (normS x g) shapeCasts_S128x4x2048_S512x2048

theorem flatS_at (x : FVec Ideal S128x4x2048 .f32) (n : Fin 512) (k : Fin 2048) :
    shapeCast S512x2048 x shapeCasts_S128x4x2048_S512x2048 (ix2 n k) = x (ix3 ⟨n.val / 4, by omega⟩ ⟨n.val % 4, by omega⟩ k) := by
  pointwise []

theorem resS_at (x : FVec Ideal S128x4x2048 .f32) (g : FVec Ideal S2048 .f32) (n : Fin 512) (k : Fin 2048) :
    resS x g (ix2 n k) = Layer.norm (fun j => x (ix3 ⟨n.val / 4, by omega⟩ ⟨n.val % 4, by omega⟩ j)) (fun j => g (ix1 j)) k :=
  (flatS_at _ n k).trans (normS_at x g _ _ k)

/-- The run, with its two results named. -/
theorem run_named (ρ : Dev nD → PrngReg) :
    θ_run defs (onTc (τ := τ) (main (F := Ideal))) ⟨m, fun _ => 0, ρ⟩ fun r => ∀ c : Dev nD,
      r.2.mem ((c.tc : Thread nD τ).loc main_v13) = resP (m ((c.tc : Thread nD τ).loc main_arg0)) (m ((c.tc : Thread nD τ).loc main_arg2))
      ∧ r.2.mem ((c.tc : Thread nD τ).loc main_v27) = resS (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h c).1.trans rfl, (h c).2.1.trans rfl, (h c).2.2⟩) (run m ρ)

end Cert.Reference5Ideal.Value

end
-- ==== Proof.Final.Equation.lean ====
/- The last norm's result arrays are the reference's: what a grid point stores as entries of the argument arrays, and
   the two results tile by tile. -/
module

public import proofs.«01_k».proof.Proof.Final.Run
public import proofs.«01_k».proof.Proof.Final.Ref
public import proofs.«01_k».proof.Proof.Row

@[expose] public section

set_option maxRecDepth 100000

noncomputable section

namespace Cert.Kernel5Ideal.Value

open Cert.Kernel5Ideal Cert.Kernel5Ideal.Gen Idealize.ShloMosaic Idealize.ShloMosaic.TcCoe Idealize.SL.Sem

variable (m : (ℓ : Loc nD τ sig) → Buf (Elt Ideal) ℓ)

theorem pay1_at (x : Vec Ideal S512x2048 .f32) (g : Vec Ideal S1x2048 .f32) (r : Fin 512) (k : Fin 2048) :
    k0_pay1 (F := Ideal) x g (ix2 r k) = Layer.norm (fun j => x (ix2 r j)) (fun j => g (ix2 0 j)) k := by
  pointwise [k0_pay1]
  rfl

theorem idx : ∀ t : Fin cfg0.N, win0_0.index t = ![t.val, 0] ∧ win0_1.index t = ![0, 0]
    ∧ win0_2.index t = ![(held t).val, 0] ∧ win0_3.index t = ![0, 0] :=
  (by decide +kernel : ∀ t : Fin grid0.N, _)

/-- The prompt's and the sample's rows in one array. -/
def xHost (p : FVec Ideal S4x2048x2048 .f32) (s : FVec Ideal S128x4x2048 .f32) : FVec Ideal S8704x2048 .f32 :=
  concatenate S8704x2048 0 [⟨S8192x2048, shapeCast _ p shapeCasts_S4x2048x2048_S8192x2048⟩, ⟨S512x2048, shapeCast _ s shapeCasts_S128x4x2048_S512x2048⟩] concatenates_S8192x2048_S512x2048_S8704x2048_d0

theorem xHost_at (p : FVec Ideal S4x2048x2048 .f32) (s : FVec Ideal S128x4x2048 .f32) (n : Fin 8704) (k : Fin 2048) :
    xHost p s (ix2 n k) = Layer.rows (fun a b j => p (ix3 a b j)) (fun a b j => s (ix3 a b j)) n k := by
  pointwise [xHost]
  rfl

/-- The gain row of the norm. -/
def gHost (g : FVec Ideal S2048 .f32) : FVec Ideal S1x2048 .f32 := broadcastInDim S1x2048 ![1] bcast_S2048_S1x2048_1 g

theorem gHost_at (g : FVec Ideal S2048 .f32) (k : Fin 2048) : gHost g (ix2 0 k) = g (ix1 k) := by
  pointwise [gHost]

theorem V_x (c : Dev nD) : V m c main_v2 = xHost (m ((c : Thread nD τ).loc main_arg0)) (m ((c : Thread nD τ).loc main_arg1)) := by
  simp only [V, hostOps0]
  after_results_simp
  rfl

theorem V_g (c : Dev nD) : V m c main_v3 = gHost (m ((c : Thread nD τ).loc main_arg2)) := by
  simp only [V, hostOps0]
  after_results_simp
  rfl

/-- The prompt's argument array. -/
abbrev prompt (c : Dev nD) : FVec Ideal S4x2048x2048 .f32 := m ((c : Thread nD τ).loc main_arg0)

/-- The sample's argument array. -/
abbrev sample (c : Dev nD) : FVec Ideal S128x4x2048 .f32 := m ((c : Thread nD τ).loc main_arg1)

/-- The gain's argument array. -/
abbrev gain (c : Dev nD) : FVec Ideal S2048 .f32 := m ((c : Thread nD τ).loc main_arg2)

theorem x_at (c : Dev nD) (t : Fin cfg0.N) (r : Fin 512) (k : Fin 2048) (n : Fin 8704) (hn : n.val = t.val * 512 + r.val) :
    iblk m c 0 t (ix2 r k) = Layer.rows (fun a b j => prompt m c (ix3 a b j)) (fun a b j => sample m c (ix3 a b j)) n k := by
  refine Eq.trans ?_ (xHost_at _ _ n k)
  blk_simp [iblk, idx t]
  refine (congrFun (V_x m c) _).trans ?_
  blk_ext [idx t]

theorem g_at (c : Dev nD) (t : Fin cfg0.N) (k : Fin 2048) : iblk m c 1 t (ix2 0 k) = gain m c (ix1 k) := by
  refine Eq.trans ?_ (gHost_at _ k)
  blk_simp [iblk, idx t]
  refine (congrFun (V_g m c) _).trans ?_
  blk_ext [idx t]

/-- What grid point `t` stores at row `r` of its tile: row `n` of the stacked activations, normed. -/
theorem norm_at (c : Dev nD) (t : Fin cfg0.N) (r : Fin 512) (k : Fin 2048) (n : Fin 8704) (hn : n.val = t.val * 512 + r.val) :
    k0_pay1 (F := Ideal) (iblk m c 0 t) (iblk m c 1 t) (ix2 r k)
      = Layer.norm (Layer.rows (fun a b j => prompt m c (ix3 a b j)) (fun a b j => sample m c (ix3 a b j)) n) (fun j => gain m c (ix1 j)) k := by
  refine (pay1_at _ _ r k).trans ?_
  exact congrArg₂ (fun x g => Layer.norm x g k) (funext fun j => x_at m c t r j n hn) (funext fun j => g_at m c t j)

/-- The reference's results over the kernel's argument arrays. -/
def refP (c : Dev nD) : FVec Ideal S8192x2048 .f32 := Cert.Reference5Ideal.Value.resP (prompt m c) (gain m c)
def refS (c : Dev nD) : FVec Ideal S512x2048 .f32 := Cert.Reference5Ideal.Value.resS (sample m c) (gain m c)

theorem prompt_at (c : Dev nD) (t : Fin cfg0.N) (h : t.val < 16) (r : Fin 512) (k : Fin 2048) (n : Fin 8192) (hn : n.val = t.val * 512 + r.val) :
    k0_pay1 (F := Ideal) (iblk m c 0 t) (iblk m c 1 t) (ix2 r k) = refP m c (ix2 n k) := by
  refine (norm_at m c t r k ⟨n.val, by omega⟩ hn).trans (Eq.trans ?_ (Cert.Reference5Ideal.Value.resP_at _ _ n k).symm)
  refine congrArg (fun x => Layer.norm x _ k) (funext fun j => ?_)
  unfold Layer.rows
  rw [dif_pos n.isLt]

theorem sample_at (c : Dev nD) (t : Fin cfg0.N) (h : t.val = 16) (r : Fin 512) (k : Fin 2048) :
    k0_pay1 (F := Ideal) (iblk m c 0 t) (iblk m c 1 t) (ix2 r k) = refS m c (ix2 r k) := by
  refine (norm_at m c t r k ⟨8192 + r.val, by omega⟩ (by show 8192 + r.val = _; omega)).trans (Eq.trans ?_ (Cert.Reference5Ideal.Value.resS_at _ _ r k).symm)
  refine congrArg (fun x => Layer.norm x _ k) (funext fun j => ?_)
  unfold Layer.rows
  rw [dif_neg (show ¬ 8192 + r.val < 8192 by omega)]
  simp only [Nat.add_sub_cancel_left]

theorem final2 (c : Dev nD) : (dats m 0 c).arrAt 2 (cfgs 0).N = refP m c := by
  generalize hG : refP m c = G
  refine (dats m 0 c).arrAt_eq_of_covers 2 G (by decide +kernel) fun t hf y => ?_
  idx_vars y
  have ht : t.val < 17 := lt_of_lt_of_eq t.isLt N_0
  have hh : (held t).val < 16 := by show min t.val 15 < 16; omega
  have hb := prompt_at m c (held t) hh y0 y1 ⟨(held t).val * 512 + y0.val, by omega⟩ rfl
  rw [hG] at hb
  blk_simp
  rw [after0_2]
  refine hb.trans ?_
  blk_ext [idx t]

theorem final3 (c : Dev nD) : (dats m 0 c).arrAt 3 (cfgs 0).N = refS m c := by
  generalize hG : refS m c = G
  refine (dats m 0 c).arrAt_eq_of_covers 3 G (by decide +kernel) fun t hf y => ?_
  idx_vars y
  have ht : t.val < 17 := lt_of_lt_of_eq t.isLt N_0
  have h16 := (flush0_3 t).mp hf
  have hb := sample_at m c t (by omega) y0 y1
  rw [hG] at hb
  blk_simp
  rw [after0_3]
  refine hb.trans ?_
  blk_ext [idx t]

end Cert.Kernel5Ideal.Value

end
-- ==== Proof.Loop.lean ====
/- The kernel's loop over the key blocks before the diagonal, as an iteration.

   One trip takes the three running buffers — the maximum, the sum and the weighted sum of every
   query column — to three new ones. `step` is that map, `iter` its iteration over the key blocks, and
   `loop_readCov` says that what the loop leaves in the buffers is `iter`. -/
module

public import proofs.«01_k».proof.Proof.Gen.KernelIdeal.Value
public import Idealize.ShloMosaic.Lib.Pipeline.ValueKit
public import Idealize.ShloMosaic.Lib.Pointwise
public import Idealize.ShloMosaic.Lib.VecWindow

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-- The running maximum, the running sum and the running weighted sum of all query columns. -/
abbrev St (F : FTy → Type) := Vec F S1x2048 .f32 × Vec F S1x2048 .f32 × Vec F S256x2048 .f32

/-- One unmasked key block taken into the running buffers. -/
def step (kb : Vec F S256x384 .bf16) (qt : Vec F S384x2048 .bf16) (s : St F) : St F :=
  (k0_pay13 kb qt s.1, k0_pay12 kb qt s.1 s.2.1, k0_pay38 (k0_pay14 kb qt s.1 s.2.2) (k0_pay15 kb qt s.1))

/-- Key block `k` of a batch's keys: rows `256 k` to `256 k + 255`. -/
def chunk (X : Vec F S2048x384 .bf16) (k : ℕ) : Vec F S256x384 .bf16 :=
  fun x => X (ix2 ⟨(256 * k + (x 0).val) % 2048, Nat.mod_lt _ (by decide)⟩ (x 1))

/-- The first `n` key blocks taken into the running buffers. -/
def iter (X : Vec F S2048x384 .bf16) (qt : Vec F S384x2048 .bf16) (s : St F) : ℕ → St F
  | 0 => s
  | n + 1 => step (chunk X n) qt (iter X qt s n)

/-- A load of 256 rows at a multiple of 256 reads a key block. -/
theorem readAt_chunk (v : View sig .tc .vmem S2048x384 .bf16) (f : v.ty.Contents (Elt F)) {off : Fin 2 → ℕ} (k : ℕ)
    (hk : k < 8) (h : off = ![256 * k, 0]) (inb : ∀ a, off a + S256x384.size a ≤ S2048x384.size a) :
    v.readAt (Elt F) (Rect.unit (s := S2048x384) off S256x384.size inb).toLoadRect f = chunk (v.read (Elt F) f) k := by
  subst h
  funext x
  show v.read (Elt F) f _ = v.read (Elt F) f _
  refine congrArg _ (funext fun a => Fin.ext ?_)
  match a with
  | ⟨0, _⟩ =>
    show 256 * k + 1 * (x 0).val = (256 * k + (x 0).val) % 2048
    have : (x 0).val < 256 := (x 0).isLt
    rw [Nat.mod_eq_of_lt (by omega)]; omega
  | ⟨1, _⟩ =>
    show 0 + 1 * (x 1).val = (x 1).val
    omega

theorem off_row : ∀ k : Fin 8, (Scalar.indexCast (Scalar.muli (Scf.iv 0#32 1#32 k.val) 256#32) : Index).toNat = 256 * k.val := by
  decide

theorem trips_eq : ∀ a : Fin 8, Scf.trips 0#32 (Scalar.addi 0#32 (Scalar.muli (Scalar.divsi (Scalar.subi (BitVec.ofNat 32 a.val) 0#32) 1#32) 1#32)) 1#32 = a.val := by
  decide

/-- The loop makes as many trips as there are key blocks before the diagonal one. -/
theorem loop_trips (i : grid0.Coords) : (k0_t1_loop i).trips = (i 1).val := trips_eq (i 1)

theorem off1_eq (i : grid0.Coords) (k : Fin (k0_t1_loop i).trips) : k0_off1 i k = ![256 * k.val, 0] := by
  have hk : k.val < 8 := lt_of_lt_of_le k.isLt ((loop_trips i).le.trans (Nat.le_of_lt (i 1).isLt))
  exact congrArg (fun n => ![n, 0]) (off_row ⟨k.val, hk⟩)

theorem congr3 {α β γ δ : Type} (f : α → β → γ → δ) {a a' : α} {b b' : β} {c c' : γ} (h₁ : a = a') (h₂ : b = b') (h₃ : c = c') :
    f a b c = f a' b' c' := by subst h₁ h₂ h₃; rfl

theorem congr4 {α β γ δ ε : Type} (f : α → β → γ → δ → ε) {a a' : α} {b b' : β} {c c' : γ} {d d' : δ} (h₁ : a = a') (h₂ : b = b')
    (h₃ : c = c') (h₄ : d = d') : f a b c d = f a' b' c' d' := by subst h₁ h₂ h₃ h₄; rfl

section

variable (𝒱 : Variants) (c : Dev nD) (bd : Option 𝒱.V) (i : grid0.Coords)
  (arg2 : Memref sig .tc .vmem S256x3072 .bf16) (harg2 : arg2.IsWhole) (arg3 : Memref sig .tc .vmem S2048x384 .bf16) (harg3 : arg3.IsWhole)
  (arg4 : Memref sig .tc .vmem S256x2048 .bf16) (harg4 : arg4.IsWhole) (arg5 : Memref sig .tc .vmem S384x2048 .bf16) (harg5 : arg5.IsWhole)
  (arg6 : Memref sig .tc .vmem S1x2048 .f32) (harg6 : arg6.IsWhole) (arg7 : Memref sig .tc .vmem S1x2048 .f32) (harg7 : arg7.IsWhole)
  (arg8 : Memref sig .tc .vmem S256x2048 .f32) (harg8 : arg8.IsWhole) (arg1 : BitVec 32) (v68 : FVec F S1x2048 .f32)
  (X3 : BufTy.Contents (Elt F) arg3.view.ty) (X5 : BufTy.Contents (Elt F) arg5.view.ty)

/-- What one trip writes, read back: `step` of what it found. -/
theorem trip_read (k : Fin (k0_t1_loop i).trips) (f6 : BufTy.Contents (Elt F) arg6.view.ty)
    (f7 : BufTy.Contents (Elt F) arg7.view.ty) (f8 : BufTy.Contents (Elt F) arg8.view.ty) :
    (arg6.view.read (Elt F) (arg6.view.writes (Elt F) f6 (tripL_k0_t1 𝒱 c bd i arg2 harg2 arg3 harg3 arg4 harg4 arg5 harg5 arg6 harg6 arg7 harg7 arg8 harg8 arg1 v68 X3 X5 k f6 f7 f8).1),
      arg7.view.read (Elt F) (arg7.view.writes (Elt F) f7 (tripL_k0_t1 𝒱 c bd i arg2 harg2 arg3 harg3 arg4 harg4 arg5 harg5 arg6 harg6 arg7 harg7 arg8 harg8 arg1 v68 X3 X5 k f6 f7 f8).2.1),
      arg8.view.read (Elt F) (arg8.view.writes (Elt F) f8 (tripL_k0_t1 𝒱 c bd i arg2 harg2 arg3 harg3 arg4 harg4 arg5 harg5 arg6 harg6 arg7 harg7 arg8 harg8 arg1 v68 X3 X5 k f6 f7 f8).2.2))
    = step (chunk (arg3.view.read (Elt F) X3) k.val) (arg5.view.read (Elt F) X5)
        (arg6.view.read (Elt F) f6, arg7.view.read (Elt F) f7, arg8.view.read (Elt F) f8) := by
  have hk : k.val < 8 := lt_of_lt_of_le k.isLt ((loop_trips i).le.trans (Nat.le_of_lt (i 1).isLt))
  have e3 := readAt_chunk arg3.view X3 k.val hk (off1_eq i k) (k0_off1_inb i k)
  have e5 := View.readAt_full arg5.view X5 (off := ![0, 0]) inb_S384x2048_S384x2048_0_0
  have e6 := View.readAt_full arg6.view f6 (off := ![0, 0]) inb_S1x2048_S1x2048_0_0
  have e7 := View.readAt_full arg7.view f7 (off := ![0, 0]) inb_S1x2048_S1x2048_0_0
  have e8 := View.readAt_full arg8.view f8 (off := ![0, 0]) inb_S256x2048_S256x2048_0_0
  unfold tripL_k0_t1 trip_k0_t1
  dsimp only
  unfold trip_k0_t1.sl.r trip_k0_t1.sl.r_1
  exact Prod.ext ((View.read_writes_full arg6.view f6 _ _ []).trans (congr3 k0_pay13 e3 e5 e6))
    (Prod.ext ((View.read_writes_full arg7.view f7 _ _ []).trans (congr4 k0_pay12 e3 e5 e6 e7))
      ((View.read_writes_full arg8.view f8 _ _ []).trans
        (congrArg₂ k0_pay38 (congr4 k0_pay14 e3 e5 e6 e8) (congr3 k0_pay15 e3 e5 e6))))

/-- What the first `n` trips write, read back: `iter` of what the loop found. -/
theorem loop_read (G6 : BufTy.Contents (Elt F) arg6.view.ty) (G7 : BufTy.Contents (Elt F) arg7.view.ty)
    (G8 : BufTy.Contents (Elt F) arg8.view.ty) (n : ℕ) (hn : n ≤ (k0_t1_loop i).trips) :
    (arg6.view.read (Elt F) (arg6.view.writes (Elt F) G6 (pb_k0_t1 𝒱 c bd i arg2 harg2 arg3 harg3 arg4 harg4 arg5 harg5 arg6 harg6 arg7 harg7 arg8 harg8 arg1 v68 X3 X5 G6 G7 G8 n).1),
      arg7.view.read (Elt F) (arg7.view.writes (Elt F) G7 (pb_k0_t1 𝒱 c bd i arg2 harg2 arg3 harg3 arg4 harg4 arg5 harg5 arg6 harg6 arg7 harg7 arg8 harg8 arg1 v68 X3 X5 G6 G7 G8 n).2.1),
      arg8.view.read (Elt F) (arg8.view.writes (Elt F) G8 (pb_k0_t1 𝒱 c bd i arg2 harg2 arg3 harg3 arg4 harg4 arg5 harg5 arg6 harg6 arg7 harg7 arg8 harg8 arg1 v68 X3 X5 G6 G7 G8 n).2.2))
    = iter (arg3.view.read (Elt F) X3) (arg5.view.read (Elt F) X5)
        (arg6.view.read (Elt F) G6, arg7.view.read (Elt F) G7, arg8.view.read (Elt F) G8) n := by
  induction n with
  | zero => rfl
  | succ n ih =>
    rw [pb_k0_t1_succ 𝒱 c bd i arg2 harg2 arg3 harg3 arg4 harg4 arg5 harg5 arg6 harg6 arg7 harg7 arg8 harg8 arg1 v68 X3 X5 G6 G7 G8 ⟨n, hn⟩]
    simp only [View.writes_append]
    rw [trip_read]
    exact congrArg (step _ _) (ih (Nat.le_of_succ_le hn))

/-- The same, for buffers that were filled whole before the loop, in the form in which the run reads them. -/
theorem loop_readCov (w6 : Vec F S1x2048 .f32) (w7 : Vec F S1x2048 .f32) (w8 : Vec F S256x2048 .f32)
    (n : ℕ) (hn : n = (i 1).val) :
    (arg6.view.readCov (Val := Elt F) ((pb_k0_t1 𝒱 c bd i arg2 harg2 arg3 harg3 arg4 harg4 arg5 harg5 arg6 harg6 arg7 harg7 arg8 harg8 arg1 v68 X3 X5
          (arg6.view.writes (Elt F) arg6.view.junk [⟨Rect.unit ![0, 0] ![1, 2048] inb_S1x2048_S1x2048_0_0, w6⟩])
          (arg7.view.writes (Elt F) arg7.view.junk [⟨Rect.unit ![0, 0] ![1, 2048] inb_S1x2048_S1x2048_0_0, w7⟩])
          (arg8.view.writes (Elt F) arg8.view.junk [⟨Rect.unit ![0, 0] ![256, 2048] inb_S256x2048_S256x2048_0_0, w8⟩]) n).1
          ++ [⟨Rect.unit ![0, 0] ![1, 2048] inb_S1x2048_S1x2048_0_0, w6⟩]) (Rect.unit ![0, 0] ![1, 2048] inb_S1x2048_S1x2048_0_0).toLoadRect,
      arg7.view.readCov (Val := Elt F) ((pb_k0_t1 𝒱 c bd i arg2 harg2 arg3 harg3 arg4 harg4 arg5 harg5 arg6 harg6 arg7 harg7 arg8 harg8 arg1 v68 X3 X5
          (arg6.view.writes (Elt F) arg6.view.junk [⟨Rect.unit ![0, 0] ![1, 2048] inb_S1x2048_S1x2048_0_0, w6⟩])
          (arg7.view.writes (Elt F) arg7.view.junk [⟨Rect.unit ![0, 0] ![1, 2048] inb_S1x2048_S1x2048_0_0, w7⟩])
          (arg8.view.writes (Elt F) arg8.view.junk [⟨Rect.unit ![0, 0] ![256, 2048] inb_S256x2048_S256x2048_0_0, w8⟩]) n).2.1
          ++ [⟨Rect.unit ![0, 0] ![1, 2048] inb_S1x2048_S1x2048_0_0, w7⟩]) (Rect.unit ![0, 0] ![1, 2048] inb_S1x2048_S1x2048_0_0).toLoadRect,
      arg8.view.readCov (Val := Elt F) ((pb_k0_t1 𝒱 c bd i arg2 harg2 arg3 harg3 arg4 harg4 arg5 harg5 arg6 harg6 arg7 harg7 arg8 harg8 arg1 v68 X3 X5
          (arg6.view.writes (Elt F) arg6.view.junk [⟨Rect.unit ![0, 0] ![1, 2048] inb_S1x2048_S1x2048_0_0, w6⟩])
          (arg7.view.writes (Elt F) arg7.view.junk [⟨Rect.unit ![0, 0] ![1, 2048] inb_S1x2048_S1x2048_0_0, w7⟩])
          (arg8.view.writes (Elt F) arg8.view.junk [⟨Rect.unit ![0, 0] ![256, 2048] inb_S256x2048_S256x2048_0_0, w8⟩]) n).2.2
          ++ [⟨Rect.unit ![0, 0] ![256, 2048] inb_S256x2048_S256x2048_0_0, w8⟩]) (Rect.unit ![0, 0] ![256, 2048] inb_S256x2048_S256x2048_0_0).toLoadRect)
    = iter (arg3.view.read (Elt F) X3) (arg5.view.read (Elt F) X5) (w6, w7, w8) (i 1).val := by
  subst hn
  have h := loop_read 𝒱 c bd i arg2 harg2 arg3 harg3 arg4 harg4 arg5 harg5 arg6 harg6 arg7 harg7 arg8 harg8 arg1 v68 X3 X5
    (arg6.view.writes (Elt F) arg6.view.junk [⟨Rect.unit ![0, 0] ![1, 2048] inb_S1x2048_S1x2048_0_0, w6⟩])
    (arg7.view.writes (Elt F) arg7.view.junk [⟨Rect.unit ![0, 0] ![1, 2048] inb_S1x2048_S1x2048_0_0, w7⟩])
    (arg8.view.writes (Elt F) arg8.view.junk [⟨Rect.unit ![0, 0] ![256, 2048] inb_S256x2048_S256x2048_0_0, w8⟩])
    (i 1).val (loop_trips i).ge
  have h6 := View.read_writes_full arg6.view arg6.view.junk (off := ![0, 0]) inb_S1x2048_S1x2048_0_0 w6 []
  have h7 := View.read_writes_full arg7.view arg7.view.junk (off := ![0, 0]) inb_S1x2048_S1x2048_0_0 w7 []
  have h8 := View.read_writes_full arg8.view arg8.view.junk (off := ![0, 0]) inb_S256x2048_S256x2048_0_0 w8 []
  simp only [← View.writes_append] at h
  refine Eq.trans ?_ (h.trans (congrArg (fun s => iter _ _ s _) (Prod.ext h6 (Prod.ext h7 h8))))
  exact Prod.ext (View.readAt_full arg6.view _ (off := ![0, 0]) inb_S1x2048_S1x2048_0_0)
    (Prod.ext (View.readAt_full arg7.view _ (off := ![0, 0]) inb_S1x2048_S1x2048_0_0)
      (View.readAt_full arg8.view _ (off := ![0, 0]) inb_S256x2048_S256x2048_0_0))

theorem trips2_eq : ∀ a : Fin 8, Scf.trips
    (Scalar.addi 0#32 (Scalar.muli (Scalar.divsi (Scalar.subi (BitVec.ofNat 32 a.val) 0#32) 1#32) 1#32))
    (Scalar.addi 0#32 (Scalar.subi (BitVec.ofNat 32 a.val) 0#32)) 1#32 = 0 := by
  decide

end

end Cert.KernelIdeal.Value

end
-- ==== Proof.Block.lean ====
/- What a grid point leaves in its output block.

   `qtv` is the query block with its heads laid side by side and transposed; `last` is the diagonal key
   block taken in under the causal mask, followed by the division. `outs_at` says that the block the
   kernel writes at a grid point is `last` after `iter`, head by head. -/
module

public import proofs.«01_k».proof.Proof.Loop

@[expose] public section

set_option maxRecDepth 16384

noncomputable section

namespace Cert.KernelIdeal.Value

open Cert.KernelIdeal Cert.KernelIdeal.Gen Idealize.ShloMosaic Idealize.ShloMosaic.TcCoe Idealize.SL.Sem

variable (m : (ℓ : Loc nD τ sig) → Buf (Elt Ideal) ℓ)

/-- The queries of one block: column `256 h + r` is row `r` of head `h`. -/
def qtv (x : Vec Ideal S256x3072 .bf16) : Vec Ideal S384x2048 .bf16 :=
  fun z => x (ix2 ⟨(z 1).val % 256, Nat.mod_lt _ (by decide)⟩
    ⟨((z 1).val / 256 * 384 + (z 0).val) % 3072, Nat.mod_lt _ (by decide)⟩)

/-- The diagonal key block taken into the running buffers under the mask, and the division at the end. -/
def last (kb : Vec Ideal S256x384 .bf16) (qt : Vec Ideal S384x2048 .bf16) (s : St Ideal) : FVec Ideal S256x2048 .f32 :=
  k0_pay48 (F := Ideal) (k0_pay47 (k0_pay40 kb) (k0_pay43 kb qt s.1) (k0_pay44 kb qt s.1) s.2.2)
    (k0_pay45 (k0_pay43 kb qt s.1) (k0_pay44 kb qt s.1) s.2.1)

/-- The running buffers before the first key block. -/
def start : St Ideal := (k0_pay34 (F := Ideal), k0_pay36 (k0_pay35 (F := Ideal)), k0_pay37 (F := Ideal))

theorem off3_row : ∀ a : Fin 8, (Scalar.indexCast (Scalar.muli (BitVec.ofNat 32 a.val) 256#32) : Index).toNat = 256 * a.val := by
  decide

/-- The load before the masked step reads the diagonal key block. -/
theorem ld_chunk (X : Vec Ideal S2048x384 .bf16) (i : grid0.Coords)
    (inb : ∀ a, k0_off3 i a + S256x384.size a ≤ S2048x384.size a) :
    View.ld X (Rect.unit (s := S2048x384) (k0_off3 i) S256x384.size inb) = chunk X (i 1).val := by
  have h : k0_off3 i = ![256 * (i 1).val, 0] := congrArg (fun n => ![n, 0]) (off3_row (i 1))
  have hi : (i 1).val < 8 := (i 1).isLt
  generalize k0_off3 i = off at h inb
  subst h
  funext x
  show X _ = X _
  refine congrArg _ (funext fun a => Fin.ext ?_)
  match a with
  | ⟨0, _⟩ =>
    show 256 * (i 1).val + 1 * (x 0).val = (256 * (i 1).val + (x 0).val) % 2048
    have : (x 0).val < 256 := (x 0).isLt
    rw [Nat.mod_eq_of_lt (by omega)]; omega
  | ⟨1, _⟩ =>
    show 0 + 1 * (x 1).val = (x 1).val
    omega

/-- The block written at grid point `t`: head `h`, row `r`, latent `d` is entry `(d, 256 h + r)` of `last`. -/
theorem outs_at (c : Dev nD) (t : Fin cfg0.N) (y : S256x2048.Idx) :
    outsAt0 m c t y = last (chunk (X0_1 m c t) (grid0.coords t 1).val) (qtv (iblk m c 0 t))
      (iter (X0_1 m c t) (qtv (iblk m c 0 t)) start (grid0.coords t 1).val)
      (ix2 ⟨(y 1).val % 256, Nat.mod_lt _ (by decide)⟩
        ⟨((y 1).val / 256 * 256 + (y 0).val) % 2048, Nat.mod_lt _ (by decide)⟩) := by
  unfold outsAt0
  frame_out
  have ht1 := trips_eq (grid0.coords t 1)
  have ht2 := trips2_eq (grid0.coords t 1)
  rw [ht2]
  simp only [pb_k0_t2, List.nil_append]
  generalize hA : View.readCov (Val := Elt Ideal) scM0_3.view _ _ = A
  generalize hM : View.readCov (Val := Elt Ideal) scM0_1.view _ _ = M
  generalize hL : View.readCov (Val := Elt Ideal) scM0_2.view _ _ = L
  have hI : (M, L, A) = iter (X0_1 m c t) (qtv (iblk m c 0 t)) start (grid0.coords t 1).val := by
    rw [← hA, ← hM, ← hL]
    refine (loop_readCov (F := Ideal) Variants.none c none (grid0.coords t) (ms0_0 t) _ (ms0_1 t) _ (ms0_2 t) _ scM0_0 _ scM0_1 _ scM0_2 _
      scM0_3 _ _ _ _ _ _ _ _ _ ht1).trans (congrArg₂ (fun X Q => iter X Q start _) ?_ ?_)
    · rw [Memref.IsWhole.read_unread]
    · clear hA hM hL
      funext z
      refine (View.read_writes_junk_apply_eq_canon _ _ _).trans ?_
      unfold qtv
      canon_tiles x h
      all_goals (open_payloads; pointwise; blk_ext)
  clear hA hM hL
  generalize hQ : View.readCov (Val := Elt Ideal) scM0_0.view _ _ = Q
  have hQ' : Q = qtv (iblk m c 0 t) := by
    rw [← hQ, View.readCov_eq_canon']
    clear hQ
    funext z
    unfold qtv
    pointwise
    canon_tiles x h
    all_goals (open_payloads; pointwise; blk_ext)
  clear hQ
  subst hQ'
  have eC := ld_chunk (X0_1 m c t) (grid0.coords t) (k0_off3_inb (grid0.coords t))
  rw [← hI]
  unfold last
  dsimp only
  rw [← eC]
  generalize View.ld (X0_1 m c t) _ = C
  generalize k0_pay47 (F := Ideal) _ _ _ _ = A'
  generalize k0_pay45 (F := Ideal) _ _ _ = L'
  canon_tiles x h
  all_goals (open_payloads; pointwise; blk_ext)
end Cert.KernelIdeal.Value

end
-- ==== Proof.Online.lean ====
/- The online softmax over the extended reals.

   Scores `s` and values `v` are indexed by the keys. `Run s v n M L A` says that `M`, `L`, `A` are the
   maximum, the sum of the exponentials and the weighted sum over the first `n` keys. `Run.step` takes a
   block of keys in with the rescaling the kernel makes, `Run.skip` takes in keys whose score is `-∞`,
   and `Run.out` is the quotient at the end. -/
module

public import Idealize.ShloMosaic.PureOps.Ideal
public import Mathlib.Data.EReal.Operations
public import Mathlib.Data.EReal.Inv
public import Mathlib.Algebra.BigOperators.Intervals
public import Mathlib.Algebra.BigOperators.Fin

@[expose] public section

noncomputable section

namespace Attn

open Idealize.ShloMosaic Finset

theorem exp_nonneg (x : EReal) : 0 ≤ Ideal.exp x := by
  induction x with
  | bot => simp
  | top => simp
  | coe r => rw [Ideal.exp_coe]; exact_mod_cast (Real.exp_pos r).le

theorem exp_ne_top {x : EReal} (h : x ≠ ⊤) : Ideal.exp x ≠ ⊤ := by
  induction x with
  | bot => simp
  | top => exact absurd rfl h
  | coe r => rw [Ideal.exp_coe]; exact EReal.coe_ne_top _

theorem sub_ne_top {x M : EReal} (hM : M ≠ ⊤) (h : x ≤ M) : x - M ≠ ⊤ := by
  induction M with
  | top => exact absurd rfl hM
  | bot => rw [le_bot_iff.mp h]; exact fun h => by simp at h
  | coe r =>
    induction x with
    | bot => simp
    | top => exact absurd (top_le_iff.mp h) (EReal.coe_ne_top r)
    | coe y => exact_mod_cast EReal.coe_ne_top (y - r)

/-- Rescaling: `exp (M - M') * exp (x - M) = exp (x - M')` for `x ≤ M ≤ M' < ∞`. -/
theorem exp_mul_exp {x M M' : EReal} (h : x ≤ M) (h' : M ≤ M') (hM : M' ≠ ⊤) :
    Ideal.exp (M - M') * Ideal.exp (x - M) = Ideal.exp (x - M') := by
  induction x with
  | bot => simp
  | top => exact absurd (top_le_iff.mp ((top_le_iff.mp h) ▸ h')) hM
  | coe x =>
    induction M with
    | bot => exact absurd (le_bot_iff.mp h) (EReal.coe_ne_bot x)
    | top => exact absurd (top_le_iff.mp h') hM
    | coe M =>
      induction M' with
      | bot => exact absurd (le_bot_iff.mp h') (EReal.coe_ne_bot M)
      | top => exact absurd rfl hM
      | coe M' =>
        rw [← EReal.coe_sub, ← EReal.coe_sub, ← EReal.coe_sub, Ideal.exp_coe, Ideal.exp_coe, Ideal.exp_coe,
          ← EReal.coe_mul, ← Real.exp_add]
        congr 2; ring

theorem mul_sum {ι : Type} (t : Finset ι) {a : EReal} (h0 : 0 ≤ a) (h1 : a ≠ ⊤) (f : ι → EReal) :
    a * ∑ k ∈ t, f k = ∑ k ∈ t, a * f k := by
  classical
  induction t using Finset.induction_on with
  | empty => simp
  | insert k t hk ih => rw [sum_insert hk, sum_insert hk, EReal.left_distrib_of_nonneg_of_ne_top h0 h1, ih]

theorem sum_ne_top {ι : Type} (t : Finset ι) (f : ι → EReal) (h : ∀ k ∈ t, f k ≠ ⊤) : ∑ k ∈ t, f k ≠ ⊤ := by
  classical
  induction t using Finset.induction_on with
  | empty => simp
  | insert k t hk ih =>
    rw [sum_insert hk]
    exact (EReal.add_lt_top (h k (mem_insert_self _ _)) (ih fun j hj => h j (mem_insert_of_mem hj))).ne

/-- `M`, `L`, `A` are the maximum score, the sum of exponentials and the weighted sum over the keys below `n`. -/
structure Run (s v : ℕ → EReal) (n : ℕ) (M L A : EReal) : Prop where
  top : M = (range n).sup s
  sum : L = ∑ k ∈ range n, Ideal.exp (s k - M)
  acc : A = ∑ k ∈ range n, v k * Ideal.exp (s k - M)

theorem Run.zero (s v : ℕ → EReal) : Run s v 0 ⊥ 0 0 := ⟨by simp, by simp, by simp⟩

theorem sup_ne_top {s : ℕ → EReal} (hs : ∀ k, s k ≠ ⊤) (n : ℕ) : (range n).sup s ≠ ⊤ := by
  refine ((Finset.sup_lt_iff bot_lt_top).2 fun k _ => ?_).ne
  exact lt_top_iff_ne_top.2 (hs k)

theorem sup_range_add (s : ℕ → EReal) (n T : ℕ) :
    (range (n + T)).sup s = max ((range n).sup s) (univ.fold max ⊥ fun r : Fin T => s (n + r)) := by
  have e : (univ.fold max ⊥ fun r : Fin T => s (n + r)) = univ.sup fun r : Fin T => s (n + r) := rfl
  rw [e]
  apply le_antisymm
  · refine Finset.sup_le fun k hk => ?_
    by_cases h : k < n
    · exact le_max_of_le_left (Finset.le_sup (f := s) (mem_range.2 h))
    · refine le_max_of_le_right ?_
      have hk := mem_range.1 hk
      have := Finset.le_sup (f := fun r : Fin T => s (n + r)) (mem_univ (⟨k - n, by omega⟩ : Fin T))
      simpa [show n + (k - n) = k by omega] using this
  · refine max_le (Finset.sup_mono (range_mono (by omega))) (Finset.sup_le fun r _ => ?_)
    exact Finset.le_sup (f := s) (mem_range.2 (by have := r.isLt; omega))

/-- A block of `T` further keys taken in. -/
theorem Run.step {s v : ℕ → EReal} (hs : ∀ k, s k ≠ ⊤) {n : ℕ} {M L A : EReal} (h : Run s v n M L A) (T : ℕ)
    (s' v' : Fin T → EReal) (es : ∀ r, s' r = s (n + r)) (ev : ∀ r, v' r = v (n + r)) {M' : EReal}
    (hM' : M' = max M (univ.fold max ⊥ s')) :
    Run s v (n + T) M' (Ideal.exp (M - M') * L + ∑ r, Ideal.exp (s' r - M'))
      (Ideal.exp (M - M') * A + ∑ r, v' r * Ideal.exp (s' r - M')) := by
  obtain rfl : s' = fun r : Fin T => s (n + r) := funext es
  obtain rfl : v' = fun r : Fin T => v (n + r) := funext ev
  have e : M' = (range (n + T)).sup s := by rw [sup_range_add, hM', h.top]
  have hT : M' ≠ ⊤ := e ▸ sup_ne_top hs _
  have hle : M ≤ M' := hM' ▸ le_max_left _ _
  have hk : ∀ k ∈ range n, s k ≤ M := fun k hk => h.top ▸ Finset.le_sup (f := s) hk
  have h0 := exp_nonneg (M - M')
  have h1 := exp_ne_top (sub_ne_top hT hle)
  refine ⟨e, ?_, ?_⟩
  · rw [h.sum, mul_sum _ h0 h1, sum_range_add, Finset.sum_range (n := T)]
    congr 1
    exact sum_congr rfl fun k hk' => exp_mul_exp (hk k hk') hle hT
  · rw [h.acc, mul_sum _ h0 h1, sum_range_add, Finset.sum_range (n := T)]
    congr 1
    refine sum_congr rfl fun k hk' => ?_
    rw [mul_left_comm, exp_mul_exp (hk k hk') hle hT]

/-- Keys whose score is `-∞` change nothing. -/
theorem Run.skip {s v : ℕ → EReal} {n : ℕ} {M L A : EReal} (h : Run s v n M L A) (T : ℕ)
    (hb : ∀ k, n ≤ k → s k = ⊥) : Run s v (n + T) M L A := by
  refine ⟨?_, ?_, ?_⟩
  · rw [sup_range_add, h.top]
    refine (max_eq_left ?_).symm
    refine Finset.sup_le fun r _ => ?_
    rw [hb _ (Nat.le_add_right n r)]; exact bot_le
  · rw [sum_range_add, ← h.sum, sum_eq_zero (s := range T), add_zero]
    intro k _; rw [hb _ (Nat.le_add_right n k)]; simp
  · rw [sum_range_add, ← h.acc, sum_eq_zero (s := range T), add_zero]
    intro k _; rw [hb _ (Nat.le_add_right n k)]; simp

/-- The quotient at the end is the sum of the values weighted by the normalised exponentials. -/
theorem Run.out {s v : ℕ → EReal} (hs : ∀ k, s k ≠ ⊤) {n : ℕ} {M L A : EReal} (h : Run s v n M L A) (p : ℕ)
    (hp : p < n) (hb : s p ≠ ⊥) : Ideal.div A L = ∑ k ∈ range n, v k * Ideal.div (Ideal.exp (s k - M)) L := by
  have hT : M ≠ ⊤ := h.top ▸ sup_ne_top hs _
  have hk : ∀ k ∈ range n, s k ≤ M := fun k hk => h.top ▸ Finset.le_sup (f := s) hk
  have hpos : 0 < L := by
    have h1 : 0 < Ideal.exp (s p - M) := by
      have hm := hk p (mem_range.2 hp)
      generalize s p = x at *
      induction x with
      | bot => exact absurd rfl hb
      | top => exact absurd (top_le_iff.mp hm) hT
      | coe x =>
        induction M with
        | bot => exact absurd (le_bot_iff.mp hm) (EReal.coe_ne_bot x)
        | top => exact absurd rfl hT
        | coe M => rw [← EReal.coe_sub, Ideal.exp_coe]; exact_mod_cast Real.exp_pos _
    rw [h.sum]
    exact h1.trans_le (single_le_sum (f := fun k => Ideal.exp (s k - M)) (fun k _ => exp_nonneg _) (mem_range.2 hp))
  have htop : L ≠ ⊤ := h.sum ▸ sum_ne_top _ _ fun k hk' => exp_ne_top (sub_ne_top hT (hk k hk'))
  induction L with
  | bot => exact absurd hpos (by simp)
  | top => exact absurd rfl htop
  | coe l =>
    have hl : (0 : ℝ) < l := by exact_mod_cast hpos
    have hd : ∀ x : EReal, Ideal.div x (l : EReal) = ((l⁻¹ : ℝ) : EReal) * x := fun x => by
      unfold Ideal.div
      rw [if_neg (by exact_mod_cast hl.ne'), mul_comm, EReal.coe_inv]
    simp only [hd]
    rw [h.acc, mul_sum _ (by exact_mod_cast (inv_pos.2 hl).le) (EReal.coe_ne_top _)]
    exact sum_congr rfl fun k _ => mul_left_comm _ _ _

end Attn

end
-- ==== Proof.Col.lean ====
/- The kernel's running buffers, column by column.

   A column of the running buffers belongs to one head and one row of the query block. `score` is the score of a
   key against a column, `maskedScore` the same under the causal mask, `value` a coordinate of a key's latent. The
   buffers after the key blocks before the diagonal are `Attn.Run` of these, and `last` is the quotient at the end. -/
module

public import proofs.«01_k».proof.Proof.Block
public import proofs.«01_k».proof.Proof.Online

@[expose] public section

set_option maxRecDepth 16384

noncomputable section

namespace Cert.KernelIdeal.Value

open Cert.KernelIdeal Cert.KernelIdeal.Gen Idealize.ShloMosaic Idealize.ShloMosaic.TcCoe Idealize.SL.Sem Idealize.ShloMosaic.WordCmp

/-- The softmax scale, the float word that both programs hold. -/
abbrev scale : EReal := Ideal.ofBits .f32 0x3D93CD3A#32

theorem negInf : Ideal.ofBits .f32 0xFF800000#32 = (⊥ : EReal) := by
  simp [Ideal.ofBits, Ideal.ieee]

theorem zeroF : Ideal.ofBits .f32 0x00000000#32 = (0 : EReal) := by
  simp [Ideal.ofBits, Ideal.ieee]

theorem scale_real : ∃ r : ℝ, scale = (r : EReal) := by
  unfold scale
  simp [Ideal.ofBits, Ideal.ieee]
  exact ⟨_, (EReal.coe_mul _ _).symm⟩

variable (X : Vec Ideal S2048x384 .bf16) (qt : Vec Ideal S384x2048 .bf16)

/-- The score of key `n` against column `l`. -/
def score (l : Fin 2048) (n : ℕ) : EReal :=
  (∑ e : Fin 384, X (ix2 ⟨n % 2048, Nat.mod_lt _ (by decide)⟩ e) * qt (ix2 e l)) * scale

/-- The score under the mask, for query block `i`: a key after the query has `-∞`. -/
def maskedScore (i : ℕ) (l : Fin 2048) (n : ℕ) : EReal :=
  if n ≤ 256 * i + l.val % 256 then score X qt l n else ⊥

/-- Coordinate `d` of the latent of key `n`. -/
def value (d : Fin 256) (n : ℕ) : EReal :=
  X (ix2 ⟨n % 2048, Nat.mod_lt _ (by decide)⟩ ⟨d.val, by omega⟩)

theorem pay8_at (k : ℕ) (r : Fin 256) (l : Fin 2048) :
    k0_pay8 (F := Ideal) (chunk X k) qt (ix2 r l) = score X qt l (256 * k + r.val) := by
  pointwise [k0_pay8, k0_pay7]
  rfl

theorem step_max (kb : Vec Ideal S256x384 .bf16) (s : St Ideal) (l : Fin 2048) :
    (step kb qt s).1 (ix2 0 l) = max (s.1 (ix2 0 l)) (Finset.univ.fold max ⊥ fun r : Fin 256 => k0_pay8 (F := Ideal) kb qt (ix2 r l)) := by
  unfold step
  dsimp only
  pointwise [k0_pay13, k0_pay9]
  rw [negInf]

theorem step_sum (kb : Vec Ideal S256x384 .bf16) (s : St Ideal) (l : Fin 2048) :
    (step kb qt s).2.1 (ix2 0 l) = Ideal.exp (s.1 (ix2 0 l) - (step kb qt s).1 (ix2 0 l)) * s.2.1 (ix2 0 l)
      + ∑ r : Fin 256, Ideal.exp (k0_pay8 (F := Ideal) kb qt (ix2 r l) - (step kb qt s).1 (ix2 0 l)) := by
  unfold step
  dsimp only
  pointwise [k0_pay12, k0_pay10, k0_pay11, k0_pay13]

theorem step_acc (kb : Vec Ideal S256x384 .bf16) (s : St Ideal) (d : Fin 256) (l : Fin 2048) :
    (step kb qt s).2.2 (ix2 d l) = Ideal.exp (s.1 (ix2 0 l) - (step kb qt s).1 (ix2 0 l)) * s.2.2 (ix2 d l)
      + ∑ r : Fin 256, kb (ix2 r ⟨d.val, by omega⟩) * Ideal.exp (k0_pay8 (F := Ideal) kb qt (ix2 r l) - (step kb qt s).1 (ix2 0 l)) := by
  unfold step
  dsimp only
  pointwise [k0_pay38, k0_pay14, k0_pay15, k0_pay10, k0_pay11, k0_pay13, k0_pay7]

/-- The buffers after `n` unmasked key blocks, none of them after the diagonal. -/
theorem iter_run (i : ℕ) (d : Fin 256) (l : Fin 2048) (hs : ∀ k, maskedScore X qt i l k ≠ ⊤) (n : ℕ) (hn : n ≤ i) :
    Attn.Run (maskedScore X qt i l) (value X d) (256 * n) ((iter X qt start n).1 (ix2 0 l))
      ((iter X qt start n).2.1 (ix2 0 l)) ((iter X qt start n).2.2 (ix2 d l)) := by
  induction n with
  | zero =>
    have e1 : (iter X qt start 0).1 (ix2 0 l) = (⊥ : EReal) := by
      show k0_pay34 (F := Ideal) (ix2 0 l) = _
      pointwise [k0_pay34]; exact negInf
    have e2 : (iter X qt start 0).2.1 (ix2 0 l) = (0 : EReal) := by
      show k0_pay36 (F := Ideal) k0_pay35 (ix2 0 l) = _
      pointwise [k0_pay36, k0_pay35]
    have e3 : (iter X qt start 0).2.2 (ix2 d l) = (0 : EReal) := by
      show k0_pay37 (F := Ideal) (ix2 d l) = _
      pointwise [k0_pay37]
    rw [e1, e2, e3]
    exact Attn.Run.zero _ _
  | succ n ih =>
    have h := (ih (by omega)).step hs 256 (fun r => k0_pay8 (F := Ideal) (chunk X n) qt (ix2 r l))
      (fun r => chunk X n (ix2 r ⟨d.val, by omega⟩))
      (fun r => by
        rw [pay8_at]
        exact (if_pos (by have := r.isLt; have : n + 1 ≤ i := hn; omega)).symm)
      (fun r => rfl) (step_max qt (chunk X n) (iter X qt start n) l)
    exact (step_sum qt (chunk X n) (iter X qt start n) l) ▸ (step_acc qt (chunk X n) (iter X qt start n) d l) ▸ h

theorem andi_eq : ∀ l : Fin 2048, IntOp.andi (BitVec.ofNat 32 l.val) 255#32 = BitVec.ofNat 32 (l.val % 256) := by
  decide +kernel

/-- The masked scores of the diagonal block. -/
theorem pay41_at (i : ℕ) (r : Fin 256) (l : Fin 2048) :
    k0_pay41 (F := Ideal) (chunk X i) qt (ix2 r l) = maskedScore X qt i l (256 * i + r.val) := by
  pointwise [k0_pay41, k0_pay40]
  rw [negInf]
  rw [andi_eq, cmpi_sle_ofNat (by have := r.isLt; omega) (by have := Nat.mod_lt l.val (show 0 < 256 by decide); omega)]
  unfold maskedScore
  by_cases h : r.val ≤ l.val % 256
  · rw [if_pos (by omega), decide_eq_true h]; rfl
  · rw [if_neg (by omega), decide_eq_false h]; rfl

/-- The output block: the values weighted by the normalised exponentials over all keys. -/
theorem last_at (i : ℕ) (hi : i < 8) (d : Fin 256) (l : Fin 2048) (hs : ∀ k, maskedScore X qt i l k ≠ ⊤)
    (hb : score X qt l (256 * i + l.val % 256) ≠ ⊥) :
    last (chunk X i) qt (iter X qt start i) (ix2 d l)
      = ∑ k ∈ Finset.range 2048, value X d k *
          Ideal.div (Ideal.exp (maskedScore X qt i l k - (Finset.range 2048).sup (maskedScore X qt i l)))
            (∑ j ∈ Finset.range 2048, Ideal.exp (maskedScore X qt i l j - (Finset.range 2048).sup (maskedScore X qt i l))) := by
  have h := (iter_run X qt i d l hs i le_rfl)
  unfold last
  generalize iter X qt start i = s at *
  have h' := h.step hs 256 (fun r => k0_pay41 (F := Ideal) (chunk X i) qt (ix2 r l))
      (fun r => chunk X i (ix2 r ⟨d.val, by omega⟩)) (fun r => pay41_at X qt i r l) (fun r => rfl)
      (M' := k0_pay42 (F := Ideal) (chunk X i) qt s.1 (ix2 0 l)) (by
        pointwise [k0_pay42]
        rw [negInf])
  have h2 := h'.skip (2048 - (256 * i + 256)) fun k hk => if_neg (by have := Nat.mod_lt l.val (show 0 < 256 by decide); omega)
  rw [show 256 * i + 256 + (2048 - (256 * i + 256)) = 2048 by omega] at h2
  have h3 := h2.out hs (256 * i + l.val % 256) (by have := Nat.mod_lt l.val (show 0 < 256 by decide); omega)
    (by unfold maskedScore; rw [if_pos le_rfl]; exact hb)
  rw [← h2.top, ← h2.sum, ← h3]
  pointwise [k0_pay48, k0_pay47, k0_pay45, k0_pay43, k0_pay44, k0_pay40]

end Cert.KernelIdeal.Value

end
-- ==== Proof.Entry.lean ====
/- What the kernel's blocks hold, in terms of the arguments.

   `qHost` and `kHost` are the two arrays that the host lines lay out. `q_at` and `x_at` read the blocks of a
   grid point; `score_at` is the score of a key against a query in terms of the arguments: the latent product
   plus the rotary product, times the scale. -/
module

public import proofs.«01_k».proof.Proof.Col

@[expose] public section

set_option maxRecDepth 16384

noncomputable section

namespace Cert.KernelIdeal.Value

open Cert.KernelIdeal Cert.KernelIdeal.Gen Idealize.ShloMosaic Idealize.ShloMosaic.TcCoe Idealize.SL.Sem

/-- The index maps of the windows and the coordinates of the grid. -/
theorem idx : ∀ t : Fin cfg0.N, win0_0.index t 0 = t.val ∧ win0_0.index t 1 = 0 ∧ win0_1.index t 0 = t.val / 8 ∧ win0_1.index t 1 = 0 ∧ win0_2.index t 0 = t.val ∧ win0_2.index t 1 = 0 ∧ (grid0.coords t 0).val = t.val / 8 ∧ (grid0.coords t 1).val = t.val % 8 :=
  (by decide +kernel : ∀ t : Fin grid0.N, win0_0.index t 0 = t.val ∧ win0_0.index t 1 = 0 ∧ win0_1.index t 0 = t.val / 8 ∧ win0_1.index t 1 = 0 ∧ win0_2.index t 0 = t.val ∧ win0_2.index t 1 = 0 ∧ (grid0.coords t 0).val = t.val / 8 ∧ (grid0.coords t 1).val = t.val % 8)
variable (m : (ℓ : Loc nD τ sig) → Buf (Elt Ideal) ℓ)

/-- The queries as the host lays them out: per head the latent query, then the rotary query in the first or the second of two slots. -/
def qHost (q0 : FVec Ideal S4x2048x8x256 .f32) (q1 : FVec Ideal S4x2048x8x64 .f32) : FVec Ideal S8704x3072 .bf16 :=
  let z : FVec Ideal S4x2048x8x64 .f32 := broadcastInDim S4x2048x8x64 ![] bcast_S_S4x2048x8x64 (constant S_ .f32 0x00000000#32)
  let even : IVec S4x2048x8x64 1 := cmpi .eq (andi (iotaInDim S4x2048x8x64 32 2)
    (broadcastInDim S4x2048x8x64 ![] bcast_S_S4x2048x8x64 (constantI S_ 32 1#32)))
    (broadcastInDim S4x2048x8x64 ![] bcast_S_S4x2048x8x64 (constantI S_ 32 0#32))
  truncf .bf16 (pad S8704x3072 ![0, 0] ![512, 0] ![0, 0]
    (shapeCast S8192x3072 (concatenate S4x2048x8x384 3
      [⟨S4x2048x8x256, q0⟩, ⟨S4x2048x8x64, select even q1 z⟩, ⟨S4x2048x8x64, select even z q1⟩]
      concatenates_S4x2048x8x256_S4x2048x8x64_S4x2048x8x64_S4x2048x8x384_d3) shapeCasts_S4x2048x8x384_S8192x3072)
    (sitofp .f32 (constantI S_ 32 0#32) : FVec Ideal S_ .f32) pads_S8192x3072_S8704x3072_05120_000 h_S_) bitsLt_bf16_f32

/-- The keys as the host lays them out: the latent, then the rotary key twice. -/
def kHost (k0 : FVec Ideal S4x2048x256 .f32) (k1 : FVec Ideal S4x2048x64 .f32) : FVec Ideal S8704x384 .bf16 :=
  truncf .bf16 (pad S8704x384 ![0, 0] ![512, 0] ![0, 0]
    (shapeCast S8192x384 (concatenate S4x2048x384 2
      [⟨S4x2048x256, k0⟩, ⟨S4x2048x64, k1⟩, ⟨S4x2048x64, k1⟩]
      concatenates_S4x2048x256_S4x2048x64_S4x2048x64_S4x2048x384_d2) shapeCasts_S4x2048x384_S8192x384)
    (sitofp .f32 (constantI S_ 32 0#32) : FVec Ideal S_ .f32) pads_S8192x384_S8704x384_05120_000 h_S_) bitsLt_bf16_f32

/-- The key array when the kernel starts. -/
theorem V_k (c : Dev nD) : V m c main_v15 = kHost (m ((c : Thread nD τ).loc main_arg2)) (m ((c : Thread nD τ).loc main_arg3)) := by
  simp only [V, hostOps0, hostOps0_1, hostOps0_2, hostOps0_3, hostOps0_4, hostOps0_5, hostOps0_6, hostOps0_7, List.flatten_cons, List.flatten_nil, List.append_nil, List.cons_append, List.nil_append]
  after_results_simp
  rfl

/-- The query array when the kernel starts. -/
theorem V_q (c : Dev nD) : V m c main_v12 = qHost (m ((c : Thread nD τ).loc main_arg0)) (m ((c : Thread nD τ).loc main_arg1)) := by
  simp only [V, hostOps0, hostOps0_1, hostOps0_2, hostOps0_3, hostOps0_4, hostOps0_5, hostOps0_6, hostOps0_7, List.flatten_cons, List.flatten_nil, List.append_nil, List.cons_append, List.nil_append]
  after_results_simp
  rfl

theorem q_at (c : Dev nD) (t : Fin cfg0.N) (r : Fin 256) (e : Fin 3072) (n : Fin 8704) (hn : n.val = t.val * 256 + r.val) :
    iblk m c 0 t (ix2 r e) = qHost (m ((c : Thread nD τ).loc main_arg0)) (m ((c : Thread nD τ).loc main_arg1)) (ix2 n e) := by
  blk_simp [iblk, idx t]
  refine (congrFun (V_q m c) _).trans ?_
  blk_ext [idx t]

theorem x_at (c : Dev nD) (t : Fin cfg0.N) (r : Fin 2048) (e : Fin 384) (n : Fin 8704) (hn : n.val = t.val / 8 * 2048 + r.val) :
    X0_1 m c t (ix2 r e) = kHost (m ((c : Thread nD τ).loc main_arg2)) (m ((c : Thread nD τ).loc main_arg3)) (ix2 n e) := by
  unfold X0_1 Pipeline.Window.fill
  rw [dif_pos (moved0_1 t _)]
  blk_simp [iblk, idx t]
  refine (congrFun (V_k m c) _).trans ?_
  blk_ext [idx t]

theorem even_eq : ∀ h : Fin 8, IntOp.cmpi CmpIPredicate.eq (IntOp.andi (BitVec.ofNat 32 h.val) 1#32) 0#32 = if h.val % 2 = 0 then 1#1 else 0#1 := by
  decide

/-- A selection by the parity of the head. -/
theorem sel_even (h : ℕ) (hh : h < 8) (a b : EReal) :
    Scalar.select (IntOp.cmpi CmpIPredicate.eq (IntOp.andi (BitVec.ofNat 32 h) 1#32) 0#32) a b = if h % 2 = 0 then a else b := by
  rw [even_eq ⟨h, hh⟩]
  show Scalar.select (if h % 2 = 0 then 1#1 else 0#1) a b = _
  by_cases e : h % 2 = 0
  · rw [if_pos e, if_pos e]; rfl
  · rw [if_neg e, if_neg e]; rfl

theorem kHost_lat (k0 : FVec Ideal S4x2048x256 .f32) (k1 : FVec Ideal S4x2048x64 .f32) (n : Fin 8704) (b : Fin 4) (s : Fin 2048)
    (hn : n.val = b.val * 2048 + s.val) (a : Fin 256) (e : Fin 384) (he : e.val = a.val) : kHost k0 k1 (ix2 n e) = k0 (ix3 b s a) := by
  pointwise [kHost]
  rw [dif_pos (show n.val < 8192 by omega), dif_pos (show e.val < 256 by omega)]
  blk_ext

theorem kHost_rope (k0 : FVec Ideal S4x2048x256 .f32) (k1 : FVec Ideal S4x2048x64 .f32) (n : Fin 8704) (b : Fin 4) (s : Fin 2048)
    (hn : n.val = b.val * 2048 + s.val) (a : Fin 64) (e : Fin 384) (he : e.val = 256 + a.val ∨ e.val = 320 + a.val) :
    kHost k0 k1 (ix2 n e) = k1 (ix3 b s a) := by
  pointwise [kHost]
  rw [dif_pos (show n.val < 8192 by omega), dif_neg (show ¬ e.val < 256 by omega)]
  rcases he with he | he
  · rw [dif_pos (by omega)]; blk_ext
  · rw [dif_neg (by omega)]; blk_ext

theorem qHost_lat (q0 : FVec Ideal S4x2048x8x256 .f32) (q1 : FVec Ideal S4x2048x8x64 .f32) (n : Fin 8704) (b : Fin 4) (s : Fin 2048)
    (h : Fin 8) (hn : n.val = b.val * 2048 + s.val) (a : Fin 256) (e : Fin 3072) (he : e.val = h.val * 384 + a.val) :
    qHost q0 q1 (ix2 n e) = q0 (ix4 b s h a) := by
  pointwise [qHost]
  rw [dif_pos (show n.val < 8192 by omega), dif_pos (show e.val % 384 < 256 by omega)]
  blk_ext

/-- The first rotary slot holds the rotary query of an even head, the second that of an odd head. -/
theorem qHost_rope (q0 : FVec Ideal S4x2048x8x256 .f32) (q1 : FVec Ideal S4x2048x8x64 .f32) (n : Fin 8704) (b : Fin 4) (s : Fin 2048)
    (h : Fin 8) (hn : n.val = b.val * 2048 + s.val) (a : Fin 64) (p : Fin 2) (e : Fin 3072) (he : e.val = h.val * 384 + 256 + 64 * p.val + a.val) :
    qHost q0 q1 (ix2 n e) = if h.val % 2 = p.val then q1 (ix4 b s h a) else (0 : EReal) := by
  pointwise [qHost]
  have e1 : e.val / 384 = h.val := by omega
  rw [dif_pos (show n.val < 8192 by omega), dif_neg (show ¬ e.val % 384 < 256 by omega)]
  have hp2 := p.isLt
  have hh8 := h.isLt
  by_cases hp : p.val = 0
  · rw [dif_pos (by omega)]
    refine (sel_even _ (by omega) _ _).trans ?_
    by_cases hh : h.val % 2 = p.val
    · rw [if_pos (by omega), if_pos hh]; blk_ext
    · rw [if_neg (by omega), if_neg hh]
  · rw [dif_neg (by omega)]
    refine (sel_even _ (by omega) _ _).trans ?_
    by_cases hh : h.val % 2 = p.val
    · rw [if_neg (by omega), if_pos hh]; blk_ext
    · rw [if_pos (by omega), if_neg hh]

/-- A contraction over the 384 slots: the latent ones, and the one rotary slot that is not zero. -/
theorem sum_slots (f : Fin 384 → EReal) (g : Fin 256 → EReal) (r : Fin 64 → EReal) (h : ℕ)
    (h0 : ∀ (a : Fin 256) (e : Fin 384), e.val = a.val → f e = g a)
    (h1 : ∀ (a : Fin 64) (p : Fin 2) (e : Fin 384), e.val = 256 + 64 * p.val + a.val → f e = if h % 2 = p.val then r a else 0) :
    ∑ e, f e = ∑ a, g a + ∑ a, r a := by
  have e1 : ∑ e : Fin 384, f e = ∑ a : Fin 256, f ⟨a.val, by omega⟩ + ∑ a : Fin 128, f ⟨256 + a.val, by omega⟩ :=
    Fin.sum_univ_add (a := 256) (b := 128) f
  have e2 : ∑ e : Fin 128, f ⟨256 + e.val, by omega⟩ = ∑ a : Fin 64, f ⟨256 + a.val, by omega⟩ + ∑ a : Fin 64, f ⟨256 + (64 + a.val), by omega⟩ :=
    Fin.sum_univ_add (a := 64) (b := 64) (fun e => f ⟨256 + e.val, by omega⟩)
  rw [e1, e2]
  congr 1
  · exact Finset.sum_congr rfl fun a _ => h0 a _ rfl
  · have f0 : ∀ a : Fin 64, f ⟨256 + a.val, by omega⟩ = if h % 2 = 0 then r a else 0 := fun a => h1 a 0 _ (by simp)
    have f1 : ∀ a : Fin 64, f ⟨256 + (64 + a.val), by omega⟩ = if h % 2 = 1 then r a else 0 := fun a => h1 a 1 _ (by simp; omega)
    simp only [f0, f1]
    by_cases hh : h % 2 = 0
    · simp [hh]
    · simp [hh, show h % 2 = 1 by omega]

/-- The score of key `n` of batch `b` against row `s` of head `h`. -/
def argScore (q0 : FVec Ideal S4x2048x8x256 .f32) (q1 : FVec Ideal S4x2048x8x64 .f32) (k0 : FVec Ideal S4x2048x256 .f32)
    (k1 : FVec Ideal S4x2048x64 .f32) (b : Fin 4) (s : Fin 2048) (h : Fin 8) (n : Fin 2048) : EReal :=
  (∑ a : Fin 256, k0 (ix3 b n a) * q0 (ix4 b s h a) + ∑ a : Fin 64, k1 (ix3 b n a) * q1 (ix4 b s h a)) * scale

theorem score_at (c : Dev nD) (t : Fin cfg0.N) (l : Fin 2048) (n : ℕ) (k : Fin 2048) (hk : k.val = n % 2048) (b : Fin 4) (s : Fin 2048) (h : Fin 8)
    (hb : b.val = t.val / 8) (hs : s.val = t.val % 8 * 256 + l.val % 256) (hh : h.val = l.val / 256) :
    score (X0_1 m c t) (qtv (iblk m c 0 t)) l n = argScore (m ((c : Thread nD τ).loc main_arg0)) (m ((c : Thread nD τ).loc main_arg1))
      (m ((c : Thread nD τ).loc main_arg2)) (m ((c : Thread nD τ).loc main_arg3)) b s h k := by
  have ht : t.val < 32 := lt_of_lt_of_eq t.isLt (by decide)
  obtain rfl : k = ⟨n % 2048, Nat.mod_lt _ (by decide)⟩ := Fin.ext hk
  have hk' := Nat.mod_lt n (show 0 < 2048 by decide)
  unfold score argScore
  congr 1
  have hx : ∀ e : Fin 384, X0_1 m c t (ix2 ⟨n % 2048, Nat.mod_lt _ (by decide)⟩ e) = _ :=
    fun e => x_at m c t _ e ⟨b.val * 2048 + n % 2048, by omega⟩ (by simp [hb])
  have hq : ∀ e : Fin 384, qtv (iblk m c 0 t) (ix2 e l) = qHost (m ((c : Thread nD τ).loc main_arg0)) (m ((c : Thread nD τ).loc main_arg1))
      (ix2 ⟨b.val * 2048 + s.val, by omega⟩ ⟨h.val * 384 + e.val, by omega⟩) := fun e => by
    have hl := l.isLt
    refine Eq.trans ?_ (q_at m c t ⟨l.val % 256, Nat.mod_lt _ (by decide)⟩ ⟨h.val * 384 + e.val, by omega⟩ _ (by simp only [hs, hb]; omega))
    show iblk m c 0 t _ = iblk m c 0 t _
    refine congrArg _ (congrArg _ (Fin.ext ?_))
    show (l.val / 256 * 384 + e.val) % 3072 = h.val * 384 + e.val
    rw [Nat.mod_eq_of_lt (by omega), hh]
  simp only [hx, hq]
  refine sum_slots _ _ _ h.val (fun a e he => ?_) (fun a p e he => ?_)
  · rw [kHost_lat _ _ _ b ⟨n % 2048, hk'⟩ rfl a e he, qHost_lat _ _ _ b s h rfl a _ (by simp [he])]
  · rw [kHost_rope _ _ _ b ⟨n % 2048, hk'⟩ rfl a e (by have := p.isLt; omega), qHost_rope _ _ _ b s h rfl a p _ (by simp only [he]; omega)]
    rw [mul_ite, mul_zero]

/-- A coordinate of the latent of key `n`. -/
theorem value_at (c : Dev nD) (t : Fin cfg0.N) (d : Fin 256) (n : ℕ) (k : Fin 2048) (hk : k.val = n % 2048) (b : Fin 4) (hb : b.val = t.val / 8) :
    value (X0_1 m c t) d n = m ((c : Thread nD τ).loc main_arg2) (ix3 b k d) := by
  obtain rfl : k = ⟨n % 2048, Nat.mod_lt _ (by decide)⟩ := Fin.ext hk
  have hk' := Nat.mod_lt n (show 0 < 2048 by decide)
  unfold value
  refine (x_at m c t _ _ ⟨b.val * 2048 + n % 2048, by omega⟩ (by simp [hb])).trans ?_
  exact kHost_lat _ _ _ b ⟨n % 2048, hk'⟩ rfl d _ rfl

end Cert.KernelIdeal.Value

end
-- ==== Proof.Reference.lean ====
/- What the reference computes at an index.

   Its operations are read in three steps: the masked scores, their largest along the keys, and the weighted
   mean of the latents. -/
module

public import proofs.«01_k».proof.Proof.Gen.ReferenceIdeal.Run
public import Idealize.ShloMosaic.Lib.Pipeline.ValueKit
public import Idealize.ShloMosaic.Lib.Pointwise
public import Idealize.ShloMosaic.Lib.WordCmp

@[expose] public section

set_option maxRecDepth 16384

noncomputable section

namespace Cert.ReferenceIdeal.Value

open Cert.ReferenceIdeal Cert.ReferenceIdeal.Gen Idealize.ShloMosaic Idealize.ShloMosaic.TcCoe Idealize.SL.Sem
variable (m : (ℓ : Loc nD τ sig) → Buf (Elt Ideal) ℓ)

/-- The scaled and masked scores. -/
def scores (q0 : FVec Ideal S4x2048x8x256 .f32) (q1 : FVec Ideal S4x2048x8x64 .f32) (k0 : FVec Ideal S4x2048x256 .f32)
    (k1 : FVec Ideal S4x2048x64 .f32) : FVec Ideal S4x8x2048x2048 .f32 :=
  (select (broadcastInDim S4x8x2048x2048 ![0, 1, 2, 3] bcast_S1x1x2048x2048_S4x8x2048x2048_0_1_2_3 (cmpi .sle (broadcastInDim S1x1x2048x2048 ![0, 1, 2, 3] bcast_S1x1x1x2048_S1x1x2048x2048_0_1_2_3 (broadcastInDim S1x1x1x2048 ![3] bcast_S2048_S1x1x1x2048_3 (iotaInDim S2048 32 0))) (broadcastInDim S1x1x2048x2048 ![0, 1, 2, 3] bcast_S1x1x2048x1_S1x1x2048x2048_0_1_2_3 (broadcastInDim S1x1x2048x1 ![2] bcast_S2048_S1x1x2048x1_2 (iotaInDim S2048 32 0))))) (mulf (addf (transpose S4x8x2048x2048 [0, 3, 2, 1] (Host.dotGeneral dot_S4x2048x256_S4x2048x8x256_S4x2048x2048x8_2_3_1_12_0_0 none k0 q0) transposes_S4x2048x2048x8_S4x8x2048x2048_0_3_2_1) (transpose S4x8x2048x2048 [0, 3, 2, 1] (Host.dotGeneral dot_S4x2048x64_S4x2048x8x64_S4x2048x2048x8_2_3_1_12_0_0 none k1 q1) transposes_S4x2048x2048x8_S4x8x2048x2048_0_3_2_1)) (broadcastInDim S4x8x2048x2048 ![] bcast_S_S4x8x2048x2048 (constant S_ .f32 0x3D93CD3A#32))) (broadcastInDim S4x8x2048x2048 ![] bcast_S_S4x8x2048x2048 (id (constant S_ .f32 0xFF800000#32))))

/-- The largest score of a row. -/
def tops (s : FVec Ideal S4x8x2048x2048 .f32) : FVec Ideal S4x8x2048 .f32 :=
  (maximumf (broadcastInDim S4x8x2048 ![] bcast_S_S4x8x2048 (constant S_ .f32 0xFF800000#32)) (Host.reduce FloatOps.maximumf s (constant S_ .f32 0xFF800000#32) reducesTo_S4x8x2048x2048_S4x8x2048_d3 h_S_))

/-- The exponentials of the scores below the largest. -/
def exps (s : FVec Ideal S4x8x2048x2048 .f32) (t : FVec Ideal S4x8x2048 .f32) : FVec Ideal S4x8x2048x2048 .f32 :=
  (Host.exp (subf s (broadcastInDim S4x8x2048x2048 ![0, 1, 2, 3] bcast_S4x8x2048x1_S4x8x2048x2048_0_1_2_3 (broadcastInDim S4x8x2048x1 ![0, 1, 2] bcast_S4x8x2048_S4x8x2048x1_0_1_2 t))))

/-- The weighted means of the latents. -/
def means (k0 : FVec Ideal S4x2048x256 .f32) (x : FVec Ideal S4x8x2048x2048 .f32) : FVec Ideal S8192x2048 .bf16 :=
  truncf .bf16 (shapeCast _ (transpose S4x2048x8x256 [0, 3, 2, 1] (Host.dotGeneral dot_S4x2048x256_S4x8x2048x2048_S4x256x8x2048_1_3_2_12_0_0 none k0 (Host.divf x (broadcastInDim S4x8x2048x2048 ![0, 1, 2, 3] bcast_S4x8x2048x1_S4x8x2048x2048_0_1_2_3 (broadcastInDim S4x8x2048x1 ![0, 1, 2] bcast_S4x8x2048_S4x8x2048x1_0_1_2 (Host.reduceAdd x (constant S_ .f32 0x00000000#32) reducesTo_S4x8x2048x2048_S4x8x2048_d3 h_S_))))) transposes_S4x256x8x2048_S4x2048x8x256_0_3_2_1) shapeCasts_S4x2048x8x256_S8192x2048) bitsLt_bf16_f32

theorem res_eq (c : Dev nD) (s : FVec Ideal S4x8x2048x2048 .f32)
    (hs : s = scores (m ((c.tc : Thread nD τ).loc main_arg0)) (m ((c.tc : Thread nD τ).loc main_arg1))
      (m ((c.tc : Thread nD τ).loc main_arg2)) (m ((c.tc : Thread nD τ).loc main_arg3))) :
    res_main_v28 m c = means (m ((c.tc : Thread nD τ).loc main_arg2)) (exps s (tops s)) := by
  subst hs; rfl

theorem scores_at (q0 : FVec Ideal S4x2048x8x256 .f32) (q1 : FVec Ideal S4x2048x8x64 .f32) (k0 : FVec Ideal S4x2048x256 .f32)
    (k1 : FVec Ideal S4x2048x64 .f32) (b : Fin 4) (h : Fin 8) (s n : Fin 2048) :
    scores q0 q1 k0 k1 (ix4 b h s n) = if n.val ≤ s.val then
      (∑ a : Fin 256, k0 (ix3 b n a) * q0 (ix4 b s h a) + ∑ a : Fin 64, k1 (ix3 b n a) * q1 (ix4 b s h a)) * Ideal.ofBits .f32 0x3D93CD3A#32
      else (⊥ : EReal) := by
  pointwise [scores]
  have hc : IntOp.cmpi CmpIPredicate.sle (BitVec.ofNat 32 n.val) (BitVec.ofNat 32 s.val) = BitVec.ofBool (decide (n.val ≤ s.val)) :=
    WordCmp.cmpi_sle_ofNat (by omega) (by omega)
  rw [hc]
  by_cases hns : n.val ≤ s.val
  · rw [decide_eq_true hns, if_pos hns]; rfl
  · rw [decide_eq_false hns, if_neg hns]
    show Ideal.ofBits .f32 0xFF800000#32 = ⊥
    simp [Ideal.ofBits, Ideal.ieee]

theorem fold_bot {n : ℕ} (f : Fin n → EReal) (z : EReal) (hz : z = ⊥) : max z ((Finset.univ : Finset (Fin n)).fold max z f) = Finset.univ.sup f := by
  subst hz
  exact bot_sup_eq _

/-- The largest entry along the last of four axes, at any extents. -/
theorem top_last {n0 n1 n2 n3 : ℕ} {u : Shape} (f : EReal → EReal → EReal) (x : (⟨4, ![n0, n1, n2, n3]⟩ : Shape).Idx → EReal) (init : u.Idx → EReal)
    (h : (⟨4, ![n0, n1, n2, n3]⟩ : Shape).ReducesTo [3] (⟨3, ![n0, n1, n2]⟩ : Shape)) (hu : 0 < u.numel) (z : EReal) (hz' : z = ⊥) (hz : ∀ i, init i = ⊥)
    (hf : f = max) (b : Fin n0) (c : Fin n1) (d : Fin n2) :
    f z (Host.reduce f x init h hu (ix3 b c d)) = Finset.univ.sup fun n : Fin n3 => x (ix4 b c d n) := by
  subst hf
  pointwise
  rw [hz, hz']
  exact fold_bot _ _ rfl

theorem negInf_eq : Ideal.ofBits .f32 0xFF800000#32 = ⊥ := by simp [Ideal.ofBits, Ideal.ieee]

theorem maximumf_eq : (FloatOps.maximumf (F := Ideal) (φ := .f32) : EReal → EReal → EReal) = max := by
  exact Ideal.maximumf_eq_max

theorem max_open (r : FVec Ideal S4x8x2048 .f32) (j : S4x8x2048.Idx) :
    maximumf (broadcastInDim S4x8x2048 ![] bcast_S_S4x8x2048 (constant S_ .f32 0xFF800000#32)) r j
      = FloatOps.maximumf (F := Ideal) (φ := .f32) (Ideal.ofBits .f32 0xFF800000#32) (r j) := rfl

theorem tops_at (x : FVec Ideal S4x8x2048x2048 .f32) (b : Fin 4) (h : Fin 8) (s : Fin 2048) :
    tops x (ix3 b h s) = Finset.univ.sup fun n : Fin 2048 => x (ix4 b h s n) :=
  (max_open _ _).trans (top_last _ x (constant (F := Ideal) S_ .f32 0xFF800000#32) reducesTo_S4x8x2048x2048_S4x8x2048_d3 h_S_ _ negInf_eq (fun _ => negInf_eq) maximumf_eq b h s)

theorem exps_at (x : FVec Ideal S4x8x2048x2048 .f32) (t : FVec Ideal S4x8x2048 .f32) (b : Fin 4) (h : Fin 8) (s n : Fin 2048) :
    exps x t (ix4 b h s n) = Ideal.exp (x (ix4 b h s n) - t (ix3 b h s)) := by
  pointwise [exps]

theorem means_at (k0 : FVec Ideal S4x2048x256 .f32) (x : FVec Ideal S4x8x2048x2048 .f32) (n : Fin 8192) (e : Fin 2048) (b : Fin 4) (s : Fin 2048)
    (h : Fin 8) (d : Fin 256) (hn : n.val = b.val * 2048 + s.val) (he : e.val = h.val * 256 + d.val) :
    means k0 x (ix2 n e) = ∑ k : Fin 2048, k0 (ix3 b k d) * Ideal.div (x (ix4 b h s k)) (∑ j : Fin 2048, x (ix4 b h s j)) := by
  pointwise [means]
  have hb : (⟨n.val / 2048, by omega⟩ : Fin 4) = b := Fin.ext (by show n.val / 2048 = b.val; omega)
  have hs : (⟨n.val % 2048, by omega⟩ : Fin 2048) = s := Fin.ext (by show n.val % 2048 = s.val; omega)
  have hh : (⟨e.val / 256, by omega⟩ : Fin 8) = h := Fin.ext (by show e.val / 256 = h.val; omega)
  have hd : (⟨e.val % 256, by omega⟩ : Fin 256) = d := Fin.ext (by show e.val % 256 = d.val; omega)
  simp only [hb, hs, hh, hd]

end Cert.ReferenceIdeal.Value
-- ==== Proof.Finite.lean ====
/- Arguments that satisfy the precondition are real numbers at every index. -/
module

public import proofs.«01_k».proof.Defs
public import Idealize.ShloMosaic.Lib.ReduceAll
public import Idealize.ShloMosaic.Lib.Pointwise

@[expose] public section

set_option maxRecDepth 16384

noncomputable section

namespace Attn

open Idealize.ShloMosaic

theorem inf_eq : Ideal.ofBits .f32 0x7F800000#32 = ⊤ := by simp [Ideal.ofBits, Ideal.ieee]

/-- An extended real whose absolute value is below +∞ is a real. -/
theorem real_of_lt (x : EReal) (h : FloatOps.cmpf (F := Ideal) (φ := .f32) .olt (FloatOps.absf (F := Ideal) (φ := .f32) x) (Ideal.ofBits .f32 0x7F800000#32) = 1#1) :
    ∃ r : ℝ, x = (r : EReal) := by
  have h' : max x (-x) < Ideal.ofBits .f32 0x7F800000#32 := (Ideal.cmp_olt_eq_one _ _).1 h
  rw [inf_eq] at h'
  induction x with
  | bot => simp at h'
  | coe r => exact ⟨r, rfl⟩
  | top => simp at h'

theorem and_one : ∀ a b : BitVec 1, IntOp.andi a b = 1#1 → a = 1#1 ∧ b = 1#1 := by decide

/-- The precondition, read at every index of the four arguments. -/
theorem finite_args [Cert.Pre_finite.Facts] (a0 : FVec Ideal Cert.Pre_finite.S4x2048x8x256 .f32) (a1 : FVec Ideal Cert.Pre_finite.S4x2048x8x64 .f32)
    (a2 : FVec Ideal Cert.Pre_finite.S4x2048x256 .f32) (a3 : FVec Ideal Cert.Pre_finite.S4x2048x64 .f32)
    (e : Cert.Pre_finite.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  have e0 := congrFun e ix0
  unfold Cert.Pre_finite.fn Cert.Pre_finite.fn_part1 at e0
  dsimp only at e0
  obtain ⟨e0, h3⟩ := and_one _ _ e0
  obtain ⟨e0, h2⟩ := and_one _ _ e0
  obtain ⟨h0, h1⟩ := and_one _ _ e0
  exact ⟨fun i => real_of_lt _ (Host.reduce_andi_all _ _ _ _ _ h0 i), fun i => real_of_lt _ (Host.reduce_andi_all _ _ _ _ _ h1 i),
    fun i => real_of_lt _ (Host.reduce_andi_all _ _ _ _ _ h2 i), fun i => real_of_lt _ (Host.reduce_andi_all _ _ _ _ _ h3 i)⟩

/-- A sum of products of reals is a real. -/
theorem real_sum {n : ℕ} (f g : Fin n → EReal) (hf : ∀ i, ∃ r : ℝ, f i = (r : EReal)) (hg : ∀ i, ∃ r : ℝ, g i = (r : EReal)) :
    ∃ r : ℝ, ∑ i, f i * g i = (r : EReal) := by
  classical
  choose p hp using hf
  choose q hq using hg
  refine Finset.induction_on (motive := fun s => ∃ r : ℝ, ∑ i ∈ s, f i * g i = (r : EReal)) Finset.univ ⟨0, by simp⟩ ?_
  rintro a s ha ⟨r, hr⟩
  exact ⟨p a * q a + r, by rw [Finset.sum_insert ha, hr, hp, hq, EReal.coe_add, EReal.coe_mul]⟩

/-- A supremum over the first numbers is one over the indices. -/
theorem sup_range {n : ℕ} (f : ℕ → EReal) (g : Fin n → EReal) (h : ∀ k : Fin n, f k.val = g k) : (Finset.range n).sup f = Finset.univ.sup g := by
  refine le_antisymm (Finset.sup_le fun k hk => ?_) (Finset.sup_le fun k _ => ?_)
  · have hk' := Finset.mem_range.1 hk
    have e : f k = g ⟨k, hk'⟩ := h ⟨k, hk'⟩
    rw [e]
    exact Finset.le_sup (f := g) (Finset.mem_univ _)
  · rw [← h k]
    exact Finset.le_sup (f := f) (Finset.mem_range.2 k.isLt)

/-- A softmax-weighted sum over the first numbers is one over the indices. -/
theorem mean_range {n : ℕ} (f v : ℕ → EReal) (g w : Fin n → EReal) (h : ∀ k : Fin n, f k.val = g k) (hv : ∀ k : Fin n, v k.val = w k) :
    ∑ k ∈ Finset.range n, v k * Ideal.div (Ideal.exp (f k - (Finset.range n).sup f)) (∑ j ∈ Finset.range n, Ideal.exp (f j - (Finset.range n).sup f))
      = ∑ k : Fin n, w k * Ideal.div (Ideal.exp (g k - Finset.univ.sup g)) (∑ j : Fin n, Ideal.exp (g j - Finset.univ.sup g)) := by
  rw [sup_range f g h, Finset.sum_range, Finset.sum_range (fun j => Ideal.exp (f j - Finset.univ.sup g))]
  simp only [h, hv]

end Attn

end
-- ==== Proof.Equation.lean ====
/- The kernel's result is the reference's.

   `block_eq` states it for a block of 256 rows, `final` for the whole array. -/
module

public import proofs.«01_k».proof.Proof.Entry
public import proofs.«01_k».proof.Proof.Reference
public import proofs.«01_k».proof.Proof.Finite

@[expose] public section

set_option maxRecDepth 16384

noncomputable section

namespace Cert.KernelIdeal.Value

open Cert.KernelIdeal Cert.KernelIdeal.Gen Idealize.ShloMosaic Idealize.ShloMosaic.TcCoe Idealize.SL.Sem
variable (m : (ℓ : Loc nD τ sig) → Buf (Elt Ideal) ℓ)

/-- The reference's result for given arguments. -/
def refOut (q0 : FVec Ideal S4x2048x8x256 .f32) (q1 : FVec Ideal S4x2048x8x64 .f32) (k0 : FVec Ideal S4x2048x256 .f32)
    (k1 : FVec Ideal S4x2048x64 .f32) : FVec Ideal S8192x2048 .bf16 :=
  Cert.ReferenceIdeal.Value.means k0 (Cert.ReferenceIdeal.Value.exps (Cert.ReferenceIdeal.Value.scores q0 q1 k0 k1)
    (Cert.ReferenceIdeal.Value.tops (Cert.ReferenceIdeal.Value.scores q0 q1 k0 k1)))

/-- All the arguments' entries are reals. -/
def Real4 (q0 : FVec Ideal S4x2048x8x256 .f32) (q1 : FVec Ideal S4x2048x8x64 .f32) (k0 : FVec Ideal S4x2048x256 .f32)
    (k1 : FVec Ideal S4x2048x64 .f32) : Prop :=
  (∀ i, ∃ r : ℝ, q0 i = (r : EReal)) ∧ (∀ i, ∃ r : ℝ, q1 i = (r : EReal)) ∧ (∀ i, ∃ r : ℝ, k0 i = (r : EReal)) ∧ (∀ i, ∃ r : ℝ, k1 i = (r : EReal))

/-- Scores of real arguments are reals. -/
theorem argScore_real (q0 : FVec Ideal S4x2048x8x256 .f32) (q1 : FVec Ideal S4x2048x8x64 .f32) (k0 : FVec Ideal S4x2048x256 .f32)
    (k1 : FVec Ideal S4x2048x64 .f32) (hr : Real4 q0 q1 k0 k1) (b : Fin 4) (s : Fin 2048) (h : Fin 8) (n : Fin 2048) :
    ∃ r : ℝ, argScore q0 q1 k0 k1 b s h n = (r : EReal) := by
  obtain ⟨h0, h1, h2, h3⟩ := hr
  obtain ⟨r1, e1⟩ := Attn.real_sum (fun a : Fin 256 => k0 (ix3 b n a)) (fun a => q0 (ix4 b s h a)) (fun _ => h2 _) (fun _ => h0 _)
  obtain ⟨r2, e2⟩ := Attn.real_sum (fun a : Fin 64 => k1 (ix3 b n a)) (fun a => q1 (ix4 b s h a)) (fun _ => h3 _) (fun _ => h1 _)
  obtain ⟨r3, e3⟩ := scale_real
  refine ⟨(r1 + r2) * r3, ?_⟩
  unfold argScore
  rw [e3]
  refine Eq.trans (congrArg (· * (r3 : EReal)) (congrArg₂ (· + ·) e1 e2)) ?_
  rw [EReal.coe_mul, EReal.coe_add]

/-- The reference's result at an index. -/
theorem refOut_at (q0 : FVec Ideal S4x2048x8x256 .f32) (q1 : FVec Ideal S4x2048x8x64 .f32) (k0 : FVec Ideal S4x2048x256 .f32)
    (k1 : FVec Ideal S4x2048x64 .f32) (n : Fin 8192) (e : Fin 2048) (b : Fin 4) (s : Fin 2048) (h : Fin 8) (d : Fin 256)
    (hn : n.val = b.val * 2048 + s.val) (he : e.val = h.val * 256 + d.val) (g : Fin 2048 → EReal)
    (hg : ∀ k, g k = if k.val ≤ s.val then argScore q0 q1 k0 k1 b s h k else ⊥) :
    refOut q0 q1 k0 k1 (ix2 n e) = ∑ k : Fin 2048, k0 (ix3 b k d) * Ideal.div (Ideal.exp (g k - Finset.univ.sup g)) (∑ j : Fin 2048, Ideal.exp (g j - Finset.univ.sup g)) := by
  have hs : ∀ k : Fin 2048, Cert.ReferenceIdeal.Value.scores q0 q1 k0 k1 (ix4 b h s k) = g k := fun k =>
    (Cert.ReferenceIdeal.Value.scores_at q0 q1 k0 k1 b h s k).trans (hg k).symm
  unfold refOut
  generalize Cert.ReferenceIdeal.Value.scores q0 q1 k0 k1 = x at *
  have ht : Cert.ReferenceIdeal.Value.tops x (ix3 b h s) = Finset.univ.sup g :=
    (Cert.ReferenceIdeal.Value.tops_at x b h s).trans (congrArg _ (funext hs))
  have hx : ∀ k : Fin 2048, Cert.ReferenceIdeal.Value.exps x (Cert.ReferenceIdeal.Value.tops x) (ix4 b h s k) = Ideal.exp (g k - Finset.univ.sup g) := fun k =>
    (Cert.ReferenceIdeal.Value.exps_at x _ b h s k).trans (by rw [hs, ht])
  refine (Cert.ReferenceIdeal.Value.means_at k0 _ n e b s h d hn he).trans ?_
  simp only [hx]

/-- A grid point's block is 256 rows of the reference's result. -/
theorem block_eq (c : Dev nD) (hr : Real4 (m ((c : Thread nD τ).loc main_arg0)) (m ((c : Thread nD τ).loc main_arg1))
      (m ((c : Thread nD τ).loc main_arg2)) (m ((c : Thread nD τ).loc main_arg3))) (t : Fin cfg0.N) (r : Fin 256) (e : Fin 2048) (n : Fin 8192)
    (hn : n.val = t.val * 256 + r.val) :
    outsAt0 m c t (ix2 r e) = refOut (m ((c : Thread nD τ).loc main_arg0)) (m ((c : Thread nD τ).loc main_arg1))
      (m ((c : Thread nD τ).loc main_arg2)) (m ((c : Thread nD τ).loc main_arg3)) (ix2 n e) := by
  have ht : t.val < 32 := lt_of_lt_of_eq t.isLt (by decide)
  have hi : (grid0.coords t 1).val = t.val % 8 := (idx t).2.2.2.2.2.2.2
  have he := e.isLt
  have hr' := r.isLt
  let b : Fin 4 := ⟨t.val / 8, by omega⟩
  let s : Fin 2048 := ⟨t.val % 8 * 256 + r.val, by omega⟩
  let h : Fin 8 := ⟨e.val / 256, by omega⟩
  let d : Fin 256 := ⟨e.val % 256, Nat.mod_lt _ (by decide)⟩
  let l : Fin 2048 := ⟨(e.val / 256 * 256 + r.val) % 2048, Nat.mod_lt _ (by decide)⟩
  have hl : l.val = e.val / 256 * 256 + r.val := Nat.mod_eq_of_lt (by omega)
  have hlr : l.val % 256 = r.val := by omega
  have hs : s.val = t.val % 8 * 256 + l.val % 256 := by rw [hlr]
  have hh : h.val = l.val / 256 := by show e.val / 256 = _; omega
  have hsc : ∀ (k : ℕ) (k' : Fin 2048), k'.val = k % 2048 → score (X0_1 m c t) (qtv (iblk m c 0 t)) l k = _ :=
    fun k k' hk => score_at m c t l k k' hk b s h rfl hs hh
  have hms : ∀ (k : ℕ) (k' : Fin 2048), k'.val = k % 2048 → maskedScore (X0_1 m c t) (qtv (iblk m c 0 t)) (t.val % 8) l k
      = if k ≤ s.val then argScore (m ((c : Thread nD τ).loc main_arg0)) (m ((c : Thread nD τ).loc main_arg1))
      (m ((c : Thread nD τ).loc main_arg2)) (m ((c : Thread nD τ).loc main_arg3)) b s h k' else ⊥ := fun k k' hk => by
    unfold maskedScore
    rw [hsc k k' hk, hs, Nat.mul_comm 256]
  refine (outs_at m c t (ix2 r e)).trans ?_
  rw [hi]
  refine (last_at (X0_1 m c t) (qtv (iblk m c 0 t)) (t.val % 8) (by omega) d l (fun k => ?_) ?_).trans ?_
  · rw [hms k ⟨k % 2048, Nat.mod_lt _ (by decide)⟩ rfl]
    obtain ⟨x, hx⟩ := argScore_real _ _ _ _ hr b s h ⟨k % 2048, Nat.mod_lt _ (by decide)⟩
    rw [hx]
    split
    · exact EReal.coe_ne_top x
    · exact bot_ne_top
  · rw [hsc _ ⟨_, Nat.mod_lt _ (by decide)⟩ rfl]
    obtain ⟨x, hx⟩ := argScore_real _ _ _ _ hr b s h ⟨(256 * (t.val % 8) + l.val % 256) % 2048, Nat.mod_lt _ (by decide)⟩
    rw [hx]
    exact EReal.coe_ne_bot x
  · refine (Attn.mean_range _ _ _ _ (fun k => hms k.val k (Nat.mod_eq_of_lt k.isLt).symm)
      (fun k => value_at m c t d k.val k (Nat.mod_eq_of_lt k.isLt).symm b rfl)).trans ?_
    refine (refOut_at _ _ _ _ n e b s h d ?_ ?_ _ fun _ => rfl).symm
    · show n.val = t.val / 8 * 2048 + (t.val % 8 * 256 + r.val); omega
    · show e.val = e.val / 256 * 256 + e.val % 256; omega

/-- The kernel's final array is the reference's result. -/
theorem final (c : Dev nD) (hr : Real4 (m ((c : Thread nD τ).loc main_arg0)) (m ((c : Thread nD τ).loc main_arg1))
      (m ((c : Thread nD τ).loc main_arg2)) (m ((c : Thread nD τ).loc main_arg3))) :
    (dats m 0 c).arrAt 2 cfg0.N = refOut (m ((c : Thread nD τ).loc main_arg0)) (m ((c : Thread nD τ).loc main_arg1))
      (m ((c : Thread nD τ).loc main_arg2)) (m ((c : Thread nD τ).loc main_arg3)) := by
  generalize hG : refOut (m ((c : Thread nD τ).loc main_arg0)) (m ((c : Thread nD τ).loc main_arg1))
      (m ((c : Thread nD τ).loc main_arg2)) (m ((c : Thread nD τ).loc main_arg3)) = G
  refine (dats m 0 c).arrAt_eq_of_covers 2 G (by decide +kernel) fun t hf y => ?_
  have ht : t.val < 32 := lt_of_lt_of_eq t.isLt (by decide)
  idx_vars y
  have hb := block_eq m c hr t y0 y1 ⟨t.val * 256 + y0.val, by omega⟩ rfl
  rw [hG] at hb
  blk_simp
  rw [after0_2]
  refine hb.trans ?_
  blk_ext [idx t]

end Cert.KernelIdeal.Value

end
-- ==== Proof.lean ====
module

public import proofs.«01_k».proof.Defs
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.Kernel2.Frame
public import proofs.«01_k».proof.Proof.Gen.Kernel2Ideal.Value
public import proofs.«01_k».proof.Proof.Gen.Reference2Ideal.Run
public import proofs.«01_k».proof.Proof.Mlp.Equation
public import proofs.«01_k».proof.Proof.Gen.Kernel3.Frame
public import proofs.«01_k».proof.Proof.Gen.Kernel3Ideal.Value
public import proofs.«01_k».proof.Proof.Gen.Reference3Ideal.Run
public import proofs.«01_k».proof.Proof.Proj.Equation
public import proofs.«01_k».proof.Proof.Prep.Equation
public import proofs.«01_k».proof.Proof.Final.Frame
public import proofs.«01_k».proof.Proof.Out.Equation
public import proofs.«01_k».proof.Proof.Ret.Equation
public import proofs.«01_k».proof.Proof.Final.Equation
public import proofs.«01_k».proof.Proof.Gen.Kernel4.Frame
public import proofs.«01_k».proof.Proof.Gen.Kernel4Ideal.Value
public import proofs.«01_k».proof.Proof.Gen.Reference4Ideal.Run
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Equation
public import Idealize.ShloMosaic.Lib.Claim
public import Idealize.ShloMosaic.Lib.Quiescent

@[expose] public section

noncomputable section

namespace Cert.Proof

open Idealize.ShloMosaic Idealize.SL.Sem Cert.Kernel

/-- The reference runs and leaves its arguments as they were. -/
theorem frame_reference : Cert.quiescent_ReferenceIdeal := fun m g _ =>
  (θ_run Cert.ReferenceIdeal.defs _ _).mono (fun r h => ⟨fun c => (h c).2, sem_eq_zero_of_no_sems rfl r.2⟩) (Cert.ReferenceIdeal.Value.run m g)

/-- The attention kernel computes the reference's result. -/
theorem algebraic_attention : Cert.algebraic_KernelIdeal_ReferenceIdeal_pre_finite := by
  pair_intro
  · run_from Cert.KernelIdeal.Value.run_blocks m g
  · run_from Cert.ReferenceIdeal.Value.run m' g'
    refine ((Cert.ReferenceIdeal.Value.res_eq m' c _ rfl).trans ?_).trans (Cert.KernelIdeal.Value.final m c (Attn.finite_args _ _ _ _ (hpre c))).symm
    rw [(hagree c).1, (hagree c).2.1, (hagree c).2.2.1, (hagree c).2.2.2]
    rfl

/-- The reference of the squared-ReLU layer's claim runs and leaves its arguments as they were. -/
theorem frame_reference2 : Cert.quiescent_Reference2Ideal := fun m g _ =>
  (θ_run Cert.Reference2Ideal.defs _ _).mono (fun r h => ⟨fun c => (h c).2, sem_eq_zero_of_no_sems rfl r.2⟩) (Cert.Reference2Ideal.Value.run m g)

/-- The squared-ReLU layer's kernel computes the reference's result. -/
theorem algebraic_mlp : Cert.algebraic_Kernel2Ideal_Reference2Ideal := by
  pair_intro
  · run_from Cert.Kernel2Ideal.Value.run_blocks m g
  · run_from Cert.Reference2Ideal.Value.run m' g'
    refine Eq.trans ?_ (Cert.Kernel2Ideal.Value.final m c).symm
    funext i
    refine (congrArg _ (eq_ix2 i)).trans ((Cert.Reference2Ideal.Value.res_at m' c (i 0) (i 1)).trans ?_)
    rw [(hagree c).1, (hagree c).2.1, (hagree c).2.2.1, (hagree c).2.2.2.1, (hagree c).2.2.2.2]
    rfl

/-- The reference of the input projection's claim runs and leaves its arguments as they were. -/
theorem frame_reference3 : Cert.quiescent_Reference3Ideal := fun m g _ =>
  (θ_run Cert.Reference3Ideal.defs _ _).mono (fun r h => ⟨fun c => (h c).2, sem_eq_zero_of_no_sems rfl r.2⟩) (Cert.Reference3Ideal.Value.run m g)

/-- The input projection's kernel computes the reference's result. -/
theorem algebraic_proj : Cert.algebraic_Kernel3Ideal_Reference3Ideal := by
  pair_intro
  · run_from Cert.Kernel3Ideal.Value.run_blocks m g
  · run_from Cert.Reference3Ideal.Value.run m' g'
    refine Eq.trans ?_ (Cert.Kernel3Ideal.Value.final m c).symm
    funext i
    refine (congrArg _ (eq_ix2 i)).trans ((Cert.Reference3Ideal.Value.res_at m' c (i 0) (i 1)).trans ?_)
    rw [(hagree c).1, (hagree c).2.1, (hagree c).2.2.1, (hagree c).2.2.2]
    rfl

/-- The reference of the attention's inputs runs, and every semaphore counter ends at zero. -/
theorem frame_reference4 : Cert.quiescent_Reference4Ideal := fun m g _ =>
  (θ_run Cert.Reference4Ideal.defs _ _).mono (fun r h => ⟨fun c => (h c).2.2.2, sem_eq_zero_of_no_sems rfl r.2⟩) (Cert.Reference4Ideal.Value.run m g)

/-- The attention's inputs: the call's three arrays are the reference's. -/
theorem algebraic_prep : Cert.algebraic_Kernel4Ideal_Reference4Ideal := by
  pair_intro
  · run_from Cert.Kernel4Ideal.Value.run_blocks m g
  · run_from Cert.Reference4Ideal.Value.run_named m' g'
    · exact (Cert.Kernel4Ideal.Value.final8 m c).symm
    · exact (Cert.Kernel4Ideal.Value.final9 m c).symm
    · exact (Cert.Kernel4Ideal.Value.final10 m c).symm

/-- The reference of the last norm runs, and every semaphore counter ends at zero. -/
theorem frame_reference5 : Cert.quiescent_Reference5Ideal := fun m g _ =>
  (θ_run Cert.Reference5Ideal.defs _ _).mono (fun r h => ⟨fun c => (h c).2.2, sem_eq_zero_of_no_sems rfl r.2⟩) (Cert.Reference5Ideal.Value.run m g)

/-- The last norm: the call's two arrays are the reference's. -/
theorem algebraic_final : Cert.algebraic_Kernel5Ideal_Reference5Ideal := by
  pair_intro
  · run_from Cert.Kernel5Ideal.Value.run_blocks m g
  · run_from Cert.Reference5Ideal.Value.run_named m' g'
    · exact (Cert.Kernel5Ideal.Value.final2 m c).symm
    · exact (Cert.Kernel5Ideal.Value.final3 m c).symm

/-- The reference of the output projection runs, and every semaphore counter ends at zero. -/
theorem frame_reference6 : Cert.quiescent_Reference6Ideal := fun m g _ =>
  (θ_run Cert.Reference6Ideal.defs _ _).mono (fun r h => ⟨fun c => (h c).2, sem_eq_zero_of_no_sems rfl r.2⟩) (Cert.Reference6Ideal.Value.run m g)

/-- The output projection: the call's array is the reference's. -/
theorem algebraic_out : Cert.algebraic_Kernel6Ideal_Reference6Ideal := by
  pair_intro
  · run_from Cert.Kernel6Ideal.Value.run_blocks m g
  · run_from Cert.Reference6Ideal.Value.run_named m' g'
    exact (Cert.Kernel6Ideal.Value.final m c).symm

/-- The reference of the retention's state runs, and every semaphore counter ends at zero. -/
theorem frame_reference7 : Cert.quiescent_Reference7Ideal := fun m g _ =>
  (θ_run Cert.Reference7Ideal.defs _ _).mono (fun r h => ⟨fun c => (h c).2, sem_eq_zero_of_no_sems rfl r.2⟩) (Cert.Reference7Ideal.Value.run m g)

/-- The retention's state: the call's array is the reference's. -/
theorem algebraic_ret : Cert.algebraic_Kernel7Ideal_Reference7Ideal := by
  pair_intro
  · run_from Cert.Kernel7Ideal.Value.run_blocks m g
  · run_from Cert.Reference7Ideal.Value.run_named m' g'
    exact (Cert.Kernel7Ideal.Value.final m c).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Pre_finite.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Value.frame m ρ, fun m ρ _ => Cert.Kernel5Ideal.Value.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  trivial, algebraic_attention,
  trivial, algebraic_mlp,
  trivial, algebraic_proj,
  trivial, algebraic_prep,
  trivial, algebraic_final,
  trivial, algebraic_out,
  trivial, algebraic_ret⟩

end Cert.Proof

end
